-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_swa_layout [hPre_swa_layout : Cert.Pre_swa_layout.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_swa_layout.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_swa_layout.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_swa_layout.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_swa_layout.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_swa_layout.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_swa_layout.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_swa_layout.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2.1 = (fun _ => 1#1)
    ∧ (Cert.Pre_swa_layout.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2.2.1 = (fun _ => 1#1)
    ∧ (Cert.Pre_swa_layout.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_swa_layout [hPre_swa_layout : Cert.Pre_swa_layout.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_swa_layout.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_swa_layout.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_swa_layout.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_swa_layout.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_swa_layout.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_swa_layout.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_swa_layout.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2.1 = (fun _ => 1#1)
    ∧ (Cert.Pre_swa_layout.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2.2.1 = (fun _ => 1#1)
    ∧ (Cert.Pre_swa_layout.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_proj [hPre_finite_proj : Cert.Pre_finite_proj.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_proj.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_finite_proj.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_finite_proj.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_proj [hPre_finite_proj : Cert.Pre_finite_proj.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_proj.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_finite_proj.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_finite_proj.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_swa_layout [hKernel5Ideal : Cert.Kernel5Ideal.Facts] [hPre_swa_layout : Cert.Pre_swa_layout.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_swa_layout m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_swa_layout [hReference5Ideal : Cert.Reference5Ideal.Facts] [hPre_swa_layout : Cert.Pre_swa_layout.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_swa_layout m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_proj [hKernel6Ideal : Cert.Kernel6Ideal.Facts] [hPre_finite_proj : Cert.Pre_finite_proj.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_proj m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_proj [hReference6Ideal : Cert.Reference6Ideal.Facts] [hPre_finite_proj : Cert.Pre_finite_proj.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_proj m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_v60) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "log2e" .f32 0x3FB8AA3B#32 (((Real.log 2)⁻¹ : ℝ) : EReal)

def algebraic_Kernel5Ideal_Reference5Ideal_pre_swa_layout [hKernel5Ideal : Cert.Kernel5Ideal.Facts] [hReference5Ideal : Cert.Reference5Ideal.Facts] [hPre_swa_layout : Cert.Pre_swa_layout.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_swa_layout m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite_proj [hKernel6Ideal : Cert.Kernel6Ideal.Facts] [hReference6Ideal : Cert.Reference6Ideal.Facts] [hPre_finite_proj : Cert.Pre_finite_proj.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_proj m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v26_0)) (v1 : (c : Dev Cert.Kernel6Ideal.nD) → Buf (Elt Ideal) ((c.tc : Thread Cert.Kernel6Ideal.nD Cert.Kernel6Ideal.τ).loc Cert.Kernel6Ideal.main_v26_1)) (v2 : (c : Dev Cert.Kernel6Ideal.nD) → Buf (Elt Ideal) ((c.tc : Thread Cert.Kernel6Ideal.nD Cert.Kernel6Ideal.τ).loc Cert.Kernel6Ideal.main_v26_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26_0) = v0 c
          ∧ r.2.mem ((c.tc : Thread Cert.Kernel6Ideal.nD Cert.Kernel6Ideal.τ).loc Cert.Kernel6Ideal.main_v26_1) = v1 c
          ∧ r.2.mem ((c.tc : Thread Cert.Kernel6Ideal.nD Cert.Kernel6Ideal.τ).loc Cert.Kernel6Ideal.main_v26_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v156) = v0 c
          ∧ r.2.mem ((c.tc : Thread Cert.Reference6Ideal.nD Cert.Reference6Ideal.τ).loc Cert.Reference6Ideal.main_v159) = v1 c
          ∧ r.2.mem ((c.tc : Thread Cert.Reference6Ideal.nD Cert.Reference6Ideal.τ).loc Cert.Reference6Ideal.main_v163) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_swa_layout : Cert.Pre_swa_layout.Facts) (hPre_finite_proj : Cert.Pre_finite_proj.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_swa_layout (hKernel5Ideal := hKernel5Ideal) (hPre_swa_layout := hPre_swa_layout)
    ∧ quiescent_Reference5Ideal (hReference5Ideal := hReference5Ideal)
    ∧ quiescent_Reference5Ideal_pre_swa_layout (hReference5Ideal := hReference5Ideal) (hPre_swa_layout := hPre_swa_layout)
    ∧ quiescent_Kernel6 (hKernel6 := hKernel6)
    ∧ quiescent_Kernel6Ideal (hKernel6Ideal := hKernel6Ideal)
    ∧ quiescent_Kernel6Ideal_pre_finite_proj (hKernel6Ideal := hKernel6Ideal) (hPre_finite_proj := hPre_finite_proj)
    ∧ quiescent_Reference6Ideal (hReference6Ideal := hReference6Ideal)
    ∧ quiescent_Reference6Ideal_pre_finite_proj (hReference6Ideal := hReference6Ideal) (hPre_finite_proj := hPre_finite_proj)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_swa_layout (hKernel5Ideal := hKernel5Ideal) (hReference5Ideal := hReference5Ideal) (hPre_swa_layout := hPre_swa_layout)
    ∧ preserves_Kernel6_Kernel6Ideal
    ∧ algebraic_Kernel6Ideal_Reference6Ideal_pre_finite_proj (hKernel6Ideal := hKernel6Ideal) (hReference6Ideal := hReference6Ideal) (hPre_finite_proj := hPre_finite_proj)
-- ==== Pre_finite_proj.lean ====
abbrev S16x2048x1024 : Shape := ⟨3, ![16, 2048, 1024]⟩
abbrev S16x6x1024 : Shape := ⟨3, ![16, 6, 1024]⟩
abbrev S1024 : Shape := ⟨1, ![1024]⟩
abbrev S1024x1536 : Shape := ⟨2, ![1024, 1536]⟩
abbrev S64 : Shape := ⟨1, ![64]⟩
abbrev S2048x2x16 : Shape := ⟨3, ![2048, 2, 16]⟩
abbrev S16x2x1024 : Shape := ⟨3, ![16, 2, 1024]⟩
abbrev S_ : Shape := ⟨0, ![]⟩

class Facts : Prop where
  slices_S16x6x1024_S16x2x1024_0_0_0 : S16x6x1024.Slices ![0, 0, 0] S16x2x1024
  bcast_S_S16x2x1024 : S_.BroadcastsInDim S16x2x1024 (![] : Fin 0 → Fin S16x2x1024.rank)
  bcast_S_S1024 : S_.BroadcastsInDim S1024 (![] : Fin 0 → Fin S1024.rank)
  bitsLt_bf16_f32 : FTy.bits .bf16 < FTy.bits .f32
  bcast_S_S1024x1536 : S_.BroadcastsInDim S1024x1536 (![] : Fin 0 → Fin S1024x1536.rank)

variable [Facts]

def fn {F : FTy → Type} [FloatOps F] (main_arg0 : FVec F S16x2048x1024 .f32) (main_arg1 : FVec F S16x6x1024 .f32) (main_arg2 : FVec F S1024 .f32) (main_arg3 : FVec F S1024x1536 .bf16) (main_arg4 : FVec F S64 .f32) (main_arg5 : FVec F S64 .f32) (main_arg6 : FVec F S2048x2x16 .f32) (main_arg7 : FVec F S2048x2x16 .f32) : IVec S16x2x1024 1 × IVec S1024 1 × IVec S1024x1536 1 :=
  let main_v0 : FVec F S16x2x1024 .f32 := (extractStridedSlice S16x2x1024 ![0, 0, 0] · slices_S16x6x1024_S16x2x1024_0_0_0) main_arg1
  let main_v1 : FVec F S16x2x1024 .f32 := Host.absf main_v0
  let main_cst : FVec F S_ .f32 := constant S_ .f32 0x7F800000#32
  let main_v2 : FVec F S16x2x1024 .f32 := broadcastInDim S16x2x1024 ![] bcast_S_S16x2x1024 main_cst
  let main_v3 : IVec S16x2x1024 1 := cmpf .olt main_v1 main_v2
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x1536 .f32 := (extf .f32 · bitsLt_bf16_f32) main_arg3
  let main_v8 : FVec F S1024x1536 .f32 := Host.absf main_v7
  let main_cst_1 : FVec F S_ .f32 := constant S_ .f32 0x7F800000#32
  let main_v9 : FVec F S1024x1536 .f32 := broadcastInDim S1024x1536 ![] bcast_S_S1024x1536 main_cst_1
  let main_v10 : IVec S1024x1536 1 := cmpf .olt main_v8 main_v9
  (main_v3, main_v6, main_v10)
-- ==== Pre_finite_scores.lean ====
abbrev S16x2048x2048 : Shape := ⟨3, ![16, 2048, 2048]⟩
abbrev S16x256x2048 : Shape := ⟨3, ![16, 256, 2048]⟩
abbrev S16x2048x1024 : Shape := ⟨3, ![16, 2048, 1024]⟩
abbrev S16x256x1024 : Shape := ⟨3, ![16, 256, 1024]⟩
abbrev S_ : Shape := ⟨0, ![]⟩

class Facts : Prop where
  bitsLt_bf16_f32 : FTy.bits .bf16 < FTy.bits .f32
  bcast_S_S16x2048x2048 : S_.BroadcastsInDim S16x2048x2048 (![] : Fin 0 → Fin S16x2048x2048.rank)
  bcast_S_S16x256x2048 : S_.BroadcastsInDim S16x256x2048 (![] : Fin 0 → Fin S16x256x2048.rank)

variable [Facts]

def fn {F : FTy → Type} [FloatOps F] (main_arg0 : FVec F S16x2048x2048 .bf16) (main_arg1 : FVec F S16x2048x2048 .bf16) (main_arg2 : FVec F S16x256x2048 .bf16) (main_arg3 : FVec F S16x2048x1024 .bf16) (main_arg4 : FVec F S16x256x1024 .bf16) : IVec S16x2048x2048 1 × IVec S16x2048x2048 1 × IVec S16x256x2048 1 :=
  let main_v0 : FVec F S16x2048x2048 .f32 := (extf .f32 · bitsLt_bf16_f32) main_arg0
  let main_v1 : FVec F S16x2048x2048 .f32 := Host.absf main_v0
  let main_cst : FVec F S_ .f32 := constant S_ .f32 0x7F800000#32
  let main_v2 : FVec F S16x2048x2048 .f32 := broadcastInDim S16x2048x2048 ![] bcast_S_S16x2048x2048 main_cst
  let main_v3 : IVec S16x2048x2048 1 := cmpf .olt main_v1 main_v2
  let main_v4 : FVec F S16x2048x2048 .f32 := (extf .f32 · bitsLt_bf16_f32) main_arg1
  let main_v5 : FVec F S16x2048x2048 .f32 := Host.absf main_v4
  let main_cst_0 : FVec F S_ .f32 := constant S_ .f32 0x7F800000#32
  let main_v6 : FVec F S16x2048x2048 .f32 := broadcastInDim S16x2048x2048 ![] bcast_S_S16x2048x2048 main_cst_0
  let main_v7 : IVec S16x2048x2048 1 := cmpf .olt main_v5 main_v6
  let main_v8 : FVec F S16x256x2048 .f32 := (extf .f32 · bitsLt_bf16_f32) main_arg2
  let main_v9 : FVec F S16x256x2048 .f32 := Host.absf main_v8
  let main_cst_1 : FVec F S_ .f32 := constant S_ .f32 0x7F800000#32
  let main_v10 : FVec F S16x256x2048 .f32 := broadcastInDim S16x256x2048 ![] bcast_S_S16x256x2048 main_cst_1
  let main_v11 : IVec S16x256x2048 1 := cmpf .olt main_v9 main_v10
  (main_v3, main_v7, main_v11)
-- ==== Pre_swa_layout.lean ====
abbrev S16x2048x1024 : Shape := ⟨3, ![16, 2048, 1024]⟩
abbrev S16x2048x512 : Shape := ⟨3, ![16, 2048, 512]⟩
abbrev S16x256x512 : Shape := ⟨3, ![16, 256, 512]⟩
abbrev S16 : Shape := ⟨1, ![16]⟩
abbrev S3x256x512 : Shape := ⟨3, ![3, 256, 512]⟩
abbrev S_ : Shape := ⟨0, ![]⟩
abbrev S16x2048x4x2x64 : Shape := ⟨5, ![16, 2048, 4, 2, 64]⟩
abbrev S16x2048x4x1x64 : Shape := ⟨5, ![16, 2048, 4, 1, 64]⟩
abbrev S16x2048x4x64 : Shape := ⟨4, ![16, 2048, 4, 64]⟩
abbrev S16x256x4x2x64 : Shape := ⟨5, ![16, 256, 4, 2, 64]⟩
abbrev S16x256x4x1x64 : Shape := ⟨5, ![16, 256, 4, 1, 64]⟩
abbrev S16x256x4x64 : Shape := ⟨4, ![16, 256, 4, 64]⟩
abbrev S3 : Shape := ⟨1, ![3]⟩
abbrev S3x1x1 : Shape := ⟨3, ![3, 1, 1]⟩
abbrev S256 : Shape := ⟨1, ![256]⟩
abbrev S1x256x1 : Shape := ⟨3, ![1, 256, 1]⟩
abbrev S512 : Shape := ⟨1, ![512]⟩
abbrev S1x1x512 : Shape := ⟨3, ![1, 1, 512]⟩
abbrev S3x256x1 : Shape := ⟨3, ![3, 256, 1]⟩

class Facts : Prop where
  bitsLt_bf16_f32 : FTy.bits .bf16 < FTy.bits .f32
  bcast_S_S16x2048x1024 : S_.BroadcastsInDim S16x2048x1024 (![] : Fin 0 → Fin S16x2048x1024.rank)
  bcast_S_S16x2048x512 : S_.BroadcastsInDim S16x2048x512 (![] : Fin 0 → Fin S16x2048x512.rank)
  bcast_S_S16x256x512 : S_.BroadcastsInDim S16x256x512 (![] : Fin 0 → Fin S16x256x512.rank)
  bcast_S_S16 : S_.BroadcastsInDim S16 (![] : Fin 0 → Fin S16.rank)
  shapeCasts_S16x2048x512_S16x2048x4x2x64 : S16x2048x512.ShapeCasts S16x2048x4x2x64
  slices_S16x2048x4x2x64_S16x2048x4x1x64_0_0_0_0_0 : S16x2048x4x2x64.Slices ![0, 0, 0, 0, 0] S16x2048x4x1x64
  shapeCasts_S16x2048x4x1x64_S16x2048x4x64 : S16x2048x4x1x64.ShapeCasts S16x2048x4x64
  slices_S16x2048x4x2x64_S16x2048x4x1x64_0_0_0_1_0 : S16x2048x4x2x64.Slices ![0, 0, 0, 1, 0] S16x2048x4x1x64
  shapeCasts_S16x256x512_S16x256x4x2x64 : S16x256x512.ShapeCasts S16x256x4x2x64
  slices_S16x256x4x2x64_S16x256x4x1x64_0_0_0_0_0 : S16x256x4x2x64.Slices ![0, 0, 0, 0, 0] S16x256x4x1x64
  shapeCasts_S16x256x4x1x64_S16x256x4x64 : S16x256x4x1x64.ShapeCasts S16x256x4x64
  slices_S16x256x4x2x64_S16x256x4x1x64_0_0_0_1_0 : S16x256x4x2x64.Slices ![0, 0, 0, 1, 0] S16x256x4x1x64
  bcast_S_S16x2048x4x64 : S_.BroadcastsInDim S16x2048x4x64 (![] : Fin 0 → Fin S16x2048x4x64.rank)
  bcast_S_S16x256x4x64 : S_.BroadcastsInDim S16x256x4x64 (![] : Fin 0 → Fin S16x256x4x64.rank)
  bcast_S3_S3x1x1_0 : S3.BroadcastsInDim S3x1x1 (![0] : Fin 1 → Fin S3x1x1.rank)
  bcast_S256_S1x256x1_1 : S256.BroadcastsInDim S1x256x1 (![1] : Fin 1 → Fin S1x256x1.rank)
  bcast_S512_S1x1x512_2 : S512.BroadcastsInDim S1x1x512 (![2] : Fin 1 → Fin S1x1x512.rank)
  bcast_S_S3x1x1 : S_.BroadcastsInDim S3x1x1 (![] : Fin 0 → Fin S3x1x1.rank)
  bcast_S3x1x1_S3x256x1_0_1_2 : S3x1x1.BroadcastsInDim S3x256x1 (![0, 1, 2] : Fin 3 → Fin S3x256x1.rank)
  bcast_S1x256x1_S3x256x1_0_1_2 : S1x256x1.BroadcastsInDim S3x256x1 (![0, 1, 2] : Fin 3 → Fin S3x256x1.rank)
  bcast_S3x256x1_S3x256x512_0_1_2 : S3x256x1.BroadcastsInDim S3x256x512 (![0, 1, 2] : Fin 3 → Fin S3x256x512.rank)
  bcast_S1x1x512_S3x256x512_0_1_2 : S1x1x512.BroadcastsInDim S3x256x512 (![0, 1, 2] : Fin 3 → Fin S3x256x512.rank)
  bcast_S_S3x256x512 : S_.BroadcastsInDim S3x256x512 (![] : Fin 0 → Fin S3x256x512.rank)

variable [Facts]

def fn_where {F : FTy → Type} [FloatOps F] (arg0 : IVec S3x256x512 1) (arg1 : FVec F S_ .f32) (arg2 : FVec F S_ .f32) : FVec F S3x256x512 .f32 :=
  let v0 : FVec F S3x256x512 .f32 := broadcastInDim S3x256x512 ![] bcast_S_S3x256x512 arg1
  let v1 : FVec F S3x256x512 .f32 := broadcastInDim S3x256x512 ![] bcast_S_S3x256x512 arg2
  let v2 : FVec F S3x256x512 .f32 := select arg0 v0 v1
  v2

def fn_part3 {F : FTy → Type} [FloatOps F] (main_arg6 : FVec F S3x256x512 .f32) (main_v3 : IVec S16x2048x1024 1) (main_v7 : IVec S16x2048x512 1) (main_v11 : IVec S16x256x512 1) (main_v14 : IVec S16 1) (main_v23 : IVec S16x2048x4x64 1) (main_v32 : IVec S16x256x4x64 1) (main_v38 : IVec S16x2048x4x64 1) (main_v44 : IVec S16x256x4x64 1) (main_v61 : IVec S3x256x512 1) (main_cst_6 : FVec F S_ .f32) (main_cst_7 : FVec F S_ .f32) : IVec S16x2048x1024 1 × IVec S16x2048x512 1 × IVec S16x256x512 1 × IVec S16 1 × IVec S16x2048x4x64 1 × IVec S16x256x4x64 1 × IVec S16x2048x4x64 1 × IVec S16x256x4x64 1 × IVec S3x256x512 1 :=
  let main_v62 : FVec F S3x256x512 .f32 := fn_where (F := F) main_v61 main_cst_6 main_cst_7
  let main_v63 : FVec F S3x256x512 .f32 := id main_v62
  let main_v64 : IVec S3x256x512 1 := cmpf .oeq main_arg6 main_v63
  (main_v3, main_v7, main_v11, main_v14, main_v23, main_v32, main_v38, main_v44, main_v64)

def fn_part2 {F : FTy → Type} [FloatOps F] (main_arg6 : FVec F S3x256x512 .f32) (main_v3 : IVec S16x2048x1024 1) (main_v7 : IVec S16x2048x512 1) (main_v11 : IVec S16x256x512 1) (main_v14 : IVec S16 1) (main_v23 : IVec S16x2048x4x64 1) (main_v32 : IVec S16x256x4x64 1) (main_v38 : IVec S16x2048x4x64 1) (main_v42 : FVec F S16x256x4x64 .f32) : IVec S16x2048x1024 1 × IVec S16x2048x512 1 × IVec S16x256x512 1 × IVec S16 1 × IVec S16x2048x4x64 1 × IVec S16x256x4x64 1 × IVec S16x2048x4x64 1 × IVec S16x256x4x64 1 × IVec S3x256x512 1 :=
  let main_cst_4 : FVec F S_ .f32 := constant S_ .f32 0x3F800000#32
  let main_v43 : FVec F S16x256x4x64 .f32 := broadcastInDim S16x256x4x64 ![] bcast_S_S16x256x4x64 main_cst_4
  let main_v44 : IVec S16x256x4x64 1 := cmpf .oeq main_v42 main_v43
  let main_v45 : IVec S3 32 := iotaInDim S3 32 0
  let main_v46 : IVec S3x1x1 32 := broadcastInDim S3x1x1 ![0] bcast_S3_S3x1x1_0 main_v45
  let main_v47 : IVec S256 32 := iotaInDim S256 32 0
  let main_v48 : IVec S1x256x1 32 := broadcastInDim S1x256x1 ![1] bcast_S256_S1x256x1_1 main_v47
  let main_v49 : IVec S512 32 := iotaInDim S512 32 0
  let main_v50 : IVec S1x1x512 32 := broadcastInDim S1x1x512 ![2] bcast_S512_S1x1x512_2 main_v49
  let main_c : IVec S_ 32 := constantI S_ 32 128#32
  let main_v51 : IVec S3x1x1 32 := broadcastInDim S3x1x1 ![] bcast_S_S3x1x1 main_c
  let main_v52 : IVec S3x1x1 32 := muli main_v46 main_v51
  let main_v53 : IVec S3x256x1 32 := broadcastInDim S3x256x1 ![0, 1, 2] bcast_S3x1x1_S3x256x1_0_1_2 main_v52
  let main_v54 : IVec S3x256x1 32 := broadcastInDim S3x256x1 ![0, 1, 2] bcast_S1x256x1_S3x256x1_0_1_2 main_v48
  let main_v55 : IVec S3x256x1 32 := addi main_v53 main_v54
  let main_v56 : IVec S3x256x512 32 := broadcastInDim S3x256x512 ![0, 1, 2] bcast_S3x256x1_S3x256x512_0_1_2 main_v55
  let main_v57 : IVec S3x256x512 32 := broadcastInDim S3x256x512 ![0, 1, 2] bcast_S1x1x512_S3x256x512_0_1_2 main_v50
  let main_v58 : IVec S3x256x512 32 := subi main_v56 main_v57
  let main_v59 : IVec S3x256x512 32 := absi main_v58
  let main_c_5 : IVec S_ 32 := constantI S_ 32 128#32
  let main_v60 : IVec S3x256x512 32 := broadcastInDim S3x256x512 ![] bcast_S_S3x256x512 main_c_5
  let main_v61 : IVec S3x256x512 1 := cmpi .sle main_v59 main_v60
  let main_cst_6 : FVec F S_ .f32 := constant S_ .f32 0x00000000#32
  let main_cst_7 : FVec F S_ .f32 := constant S_ .f32 0xFF800000#32
  fn_part3 (F := F) main_arg6 main_v3 main_v7 main_v11 main_v14 main_v23 main_v32 main_v38 main_v44 main_v61 main_cst_6 main_cst_7

def fn_part1 {F : FTy → Type} [FloatOps F] (main_arg2 : FVec F S16x2048x512 .bf16) (main_arg3 : FVec F S16x256x512 .bf16) (main_arg4 : FVec F S16x256x512 .bf16) (main_arg6 : FVec F S3x256x512 .f32) (main_v3 : IVec S16x2048x1024 1) (main_v7 : IVec S16x2048x512 1) (main_v11 : IVec S16x256x512 1) (main_v14 : IVec S16 1) (main_v18 : FVec F S16x2048x4x64 .f32) (main_v19 : FVec F S16x2048x512 .f32) : IVec S16x2048x1024 1 × IVec S16x2048x512 1 × IVec S16x256x512 1 × IVec S16 1 × IVec S16x2048x4x64 1 × IVec S16x256x4x64 1 × IVec S16x2048x4x64 1 × IVec S16x256x4x64 1 × IVec S3x256x512 1 :=
  let main_v20 : FVec F S16x2048x4x2x64 .f32 := shapeCast S16x2048x4x2x64 main_v19 shapeCasts_S16x2048x512_S16x2048x4x2x64
  let main_v21 : FVec F S16x2048x4x1x64 .f32 := (extractStridedSlice S16x2048x4x1x64 ![0, 0, 0, 1, 0] · slices_S16x2048x4x2x64_S16x2048x4x1x64_0_0_0_1_0) main_v20
  let main_v22 : FVec F S16x2048x4x64 .f32 := shapeCast S16x2048x4x64 main_v21 shapeCasts_S16x2048x4x1x64_S16x2048x4x64
  let main_v23 : IVec S16x2048x4x64 1 := cmpf .oeq main_v18 main_v22
  let main_v24 : FVec F S16x256x512 .f32 := (extf .f32 · bitsLt_bf16_f32) main_arg3
  let main_v25 : FVec F S16x256x4x2x64 .f32 := shapeCast S16x256x4x2x64 main_v24 shapeCasts_S16x256x512_S16x256x4x2x64
  let main_v26 : FVec F S16x256x4x1x64 .f32 := (extractStridedSlice S16x256x4x1x64 ![0, 0, 0, 0, 0] · slices_S16x256x4x2x64_S16x256x4x1x64_0_0_0_0_0) main_v25
  let main_v27 : FVec F S16x256x4x64 .f32 := shapeCast S16x256x4x64 main_v26 shapeCasts_S16x256x4x1x64_S16x256x4x64
  let main_v28 : FVec F S16x256x512 .f32 := (extf .f32 · bitsLt_bf16_f32) main_arg3
  let main_v29 : FVec F S16x256x4x2x64 .f32 := shapeCast S16x256x4x2x64 main_v28 shapeCasts_S16x256x512_S16x256x4x2x64
  let main_v30 : FVec F S16x256x4x1x64 .f32 := (extractStridedSlice S16x256x4x1x64 ![0, 0, 0, 1, 0] · slices_S16x256x4x2x64_S16x256x4x1x64_0_0_0_1_0) main_v29
  let main_v31 : FVec F S16x256x4x64 .f32 := shapeCast S16x256x4x64 main_v30 shapeCasts_S16x256x4x1x64_S16x256x4x64
  let main_v32 : IVec S16x256x4x64 1 := cmpf .oeq main_v27 main_v31
  let main_v33 : FVec F S16x2048x512 .f32 := (extf .f32 · bitsLt_bf16_f32) main_arg2
  let main_v34 : FVec F S16x2048x4x2x64 .f32 := shapeCast S16x2048x4x2x64 main_v33 shapeCasts_S16x2048x512_S16x2048x4x2x64
  let main_v35 : FVec F S16x2048x4x1x64 .f32 := (extractStridedSlice S16x2048x4x1x64 ![0, 0, 0, 1, 0] · slices_S16x2048x4x2x64_S16x2048x4x1x64_0_0_0_1_0) main_v34
  let main_v36 : FVec F S16x2048x4x64 .f32 := shapeCast S16x2048x4x64 main_v35 shapeCasts_S16x2048x4x1x64_S16x2048x4x64
  let main_cst_3 : FVec F S_ .f32 := constant S_ .f32 0x3F800000#32
  let main_v37 : FVec F S16x2048x4x64 .f32 := broadcastInDim S16x2048x4x64 ![] bcast_S_S16x2048x4x64 main_cst_3
  let main_v38 : IVec S16x2048x4x64 1 := cmpf .oeq main_v36 main_v37
  let main_v39 : FVec F S16x256x512 .f32 := (extf .f32 · bitsLt_bf16_f32) main_arg4
  let main_v40 : FVec F S16x256x4x2x64 .f32 := shapeCast S16x256x4x2x64 main_v39 shapeCasts_S16x256x512_S16x256x4x2x64
  let main_v41 : FVec F S16x256x4x1x64 .f32 := (extractStridedSlice S16x256x4x1x64 ![0, 0, 0, 1, 0] · slices_S16x256x4x2x64_S16x256x4x1x64_0_0_0_1_0) main_v40
  let main_v42 : FVec F S16x256x4x64 .f32 := shapeCast S16x256x4x64 main_v41 shapeCasts_S16x256x4x1x64_S16x256x4x64
  fn_part2 (F := F) main_arg6 main_v3 main_v7 main_v11 main_v14 main_v23 main_v32 main_v38 main_v42

def fn {F : FTy → Type} [FloatOps F] (main_arg0 : FVec F S16x2048x1024 .bf16) (main_arg1 : FVec F S16x2048x512 .bf16) (main_arg2 : FVec F S16x2048x512 .bf16) (main_arg3 : FVec F S16x256x512 .bf16) (main_arg4 : FVec F S16x256x512 .bf16) (main_arg5 : FVec F S16 .f32) (main_arg6 : FVec F S3x256x512 .f32) : IVec S16x2048x1024 1 × IVec S16x2048x512 1 × IVec S16x256x512 1 × IVec S16 1 × IVec S16x2048x4x64 1 × IVec S16x256x4x64 1 × IVec S16x2048x4x64 1 × IVec S16x256x4x64 1 × IVec S3x256x512 1 :=
  let main_v0 : FVec F S16x2048x1024 .f32 := (extf .f32 · bitsLt_bf16_f32) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_v4 : FVec F S16x2048x512 .f32 := (extf .f32 · bitsLt_bf16_f32) main_arg1
  let main_v5 : FVec F S16x2048x512 .f32 := Host.absf main_v4
  let main_cst_0 : FVec F S_ .f32 := constant S_ .f32 0x7F800000#32
  let main_v6 : FVec F S16x2048x512 .f32 := broadcastInDim S16x2048x512 ![] bcast_S_S16x2048x512 main_cst_0
  let main_v7 : IVec S16x2048x512 1 := cmpf .olt main_v5 main_v6
  let main_v8 : FVec F S16x256x512 .f32 := (extf .f32 · bitsLt_bf16_f32) main_arg3
  let main_v9 : FVec F S16x256x512 .f32 := Host.absf main_v8
  let main_cst_1 : FVec F S_ .f32 := constant S_ .f32 0x7F800000#32
  let main_v10 : FVec F S16x256x512 .f32 := broadcastInDim S16x256x512 ![] bcast_S_S16x256x512 main_cst_1
  let main_v11 : IVec S16x256x512 1 := cmpf .olt main_v9 main_v10
  let main_v12 : FVec F S16 .f32 := Host.absf main_arg5
  let main_cst_2 : FVec F S_ .f32 := constant S_ .f32 0x7F800000#32
  let main_v13 : FVec F S16 .f32 := broadcastInDim S16 ![] bcast_S_S16 main_cst_2
  let main_v14 : IVec S16 1 := cmpf .olt main_v12 main_v13
  let main_v15 : FVec F S16x2048x512 .f32 := (extf .f32 · bitsLt_bf16_f32) main_arg1
  let main_v16 : FVec F S16x2048x4x2x64 .f32 := shapeCast S16x2048x4x2x64 main_v15 shapeCasts_S16x2048x512_S16x2048x4x2x64
  let main_v17 : FVec F S16x2048x4x1x64 .f32 := (extractStridedSlice S16x2048x4x1x64 ![0, 0, 0, 0, 0] · slices_S16x2048x4x2x64_S16x2048x4x1x64_0_0_0_0_0) main_v16
  let main_v18 : FVec F S16x2048x4x64 .f32 := shapeCast S16x2048x4x64 main_v17 shapeCasts_S16x2048x4x1x64_S16x2048x4x64
  let main_v19 : FVec F S16x2048x512 .f32 := (extf .f32 · bitsLt_bf16_f32) main_arg1
  fn_part1 (F := F) main_arg2 main_arg3 main_arg4 main_arg6 main_v3 main_v7 main_v11 main_v14 main_v18 main_v19
-- ==== Kernel.lean ====
abbrev S16x2048x2048 : Shape := ⟨3, ![16, 2048, 2048]⟩
abbrev S16x256x2048 : Shape := ⟨3, ![16, 256, 2048]⟩
abbrev S16x2048x1024 : Shape := ⟨3, ![16, 2048, 1024]⟩
abbrev S16x256x1024 : Shape := ⟨3, ![16, 256, 1024]⟩
abbrev S1x2048x256 : Shape := ⟨3, ![1, 2048, 256]⟩
abbrev S1x256x256 : Shape := ⟨3, ![1, 256, 256]⟩
abbrev S1x2048x128 : Shape := ⟨3, ![1, 2048, 128]⟩
abbrev S1x256x128 : Shape := ⟨3, ![1, 256, 128]⟩
abbrev S2304x256 : Shape := ⟨2, ![2304, 256]⟩
abbrev S2x2304x128 : Shape := ⟨3, ![2, 2304, 128]⟩
abbrev S1x128 : Shape := ⟨2, ![1, 128]⟩
abbrev S2048x256 : Shape := ⟨2, ![2048, 256]⟩
abbrev S256x256 : Shape := ⟨2, ![256, 256]⟩
abbrev S2048x128 : Shape := ⟨2, ![2048, 128]⟩
abbrev S256x128 : Shape := ⟨2, ![256, 128]⟩
abbrev S1x512x128 : Shape := ⟨3, ![1, 512, 128]⟩
abbrev S512x128 : Shape := ⟨2, ![512, 128]⟩
abbrev S2304x128 : Shape := ⟨2, ![2304, 128]⟩
abbrev S512x2304 : Shape := ⟨2, ![512, 2304]⟩
abbrev S512 : Shape := ⟨1, ![512]⟩
abbrev S512x1 : Shape := ⟨2, ![512, 1]⟩
abbrev S512x768 : Shape := ⟨2, ![512, 768]⟩
abbrev S1x768x128 : Shape := ⟨3, ![1, 768, 128]⟩
abbrev S768x128 : Shape := ⟨2, ![768, 128]⟩

abbrev nBuf : Space → Nat
  | .hbm => 6
  | .vmem => 14
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x2048, .bf16⟩
  | .hbm, ⟨2, _⟩ => ⟨S16x256x2048, .bf16⟩
  | .hbm, ⟨3, _⟩ => ⟨S16x2048x1024, .bf16⟩
  | .hbm, ⟨4, _⟩ => ⟨S16x256x1024, .bf16⟩
  | .hbm, ⟨5, _⟩ => ⟨S16x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S2304x256, .bf16⟩
  | .local _ .vmem, ⟨13, _⟩ => ⟨S2x2304x128, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x2048x2048 : Shape := ⟨3, ![16, 2048, 2048]⟩
abbrev S16x256x2048 : Shape := ⟨3, ![16, 256, 2048]⟩
abbrev S16x2048x1024 : Shape := ⟨3, ![16, 2048, 1024]⟩
abbrev S16x256x1024 : Shape := ⟨3, ![16, 256, 1024]⟩
abbrev S16x2048x16x128 : Shape := ⟨4, ![16, 2048, 16, 128]⟩
abbrev S16x2304x2048 : Shape := ⟨3, ![16, 2304, 2048]⟩
abbrev S16x2304x16x128 : Shape := ⟨4, ![16, 2304, 16, 128]⟩
abbrev S16x2304x1024 : Shape := ⟨3, ![16, 2304, 1024]⟩
abbrev S16x2304x16x64 : Shape := ⟨4, ![16, 2304, 16, 64]⟩
abbrev S16x16x2048x2304 : Shape := ⟨4, ![16, 16, 2048, 2304]⟩
abbrev S_ : Shape := ⟨0, ![]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩
abbrev S16x2048x16x64 : Shape := ⟨4, ![16, 2048, 16, 64]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x2048, .bf16⟩
  | .hbm, ⟨2, _⟩ => ⟨S16x256x2048, .bf16⟩
  | .hbm, ⟨3, _⟩ => ⟨S16x2048x1024, .bf16⟩
  | .hbm, ⟨4, _⟩ => ⟨S16x256x1024, .bf16⟩
  | .hbm, ⟨5, _⟩ => ⟨S16x2048x2048, .f32⟩
  | .hbm, ⟨6, _⟩ => ⟨S16x2048x16x128, .f32⟩
  | .hbm, ⟨7, _⟩ => ⟨S16x2304x2048, .bf16⟩
  | .hbm, ⟨8, _⟩ => ⟨S16x2304x2048, .f32⟩
  | .hbm, ⟨9, _⟩ => ⟨S16x2304x16x128, .f32⟩
  | .hbm, ⟨10, _⟩ => ⟨S16x2304x1024, .bf16⟩
  | .hbm, ⟨11, _⟩ => ⟨S16x2304x1024, .f32⟩
  | .hbm, ⟨12, _⟩ => ⟨S16x2304x16x64, .f32⟩
  | .hbm, ⟨13, _⟩ => ⟨S16x16x2048x2304, .f32⟩
  | .hbm, ⟨14, _⟩ => ⟨S_, .f32⟩
  | .hbm, ⟨15, _⟩ => ⟨S_, .f32⟩
  | .hbm, ⟨16, _⟩ => ⟨S16x16x2048x2304, .f32⟩
  | .hbm, ⟨17, _⟩ => ⟨S16x16x2048x2304, .f32⟩
  | .hbm, ⟨18, _⟩ => ⟨S_, .f32⟩
  | .hbm, ⟨19, _⟩ => ⟨S16x16x2048, .f32⟩
  | .hbm, ⟨20, _⟩ => ⟨S_, .f32⟩
  | .hbm, ⟨21, _⟩ => ⟨S16x16x2048, .f32⟩
  | .hbm, ⟨22, _⟩ => ⟨S16x16x2048, .f32⟩
  | .hbm, ⟨23, _⟩ => ⟨S16x16x2048x1, .f32⟩
  | .hbm, ⟨24, _⟩ => ⟨S16x16x2048x2304, .f32⟩
  | .hbm, ⟨25, _⟩ => ⟨S16x16x2048x2304, .f32⟩
  | .hbm, ⟨26, _⟩ => ⟨S16x16x2048x2304, .f32⟩
  | .hbm, ⟨27, _⟩ => ⟨S_, .f32⟩
  | .hbm, ⟨28, _⟩ => ⟨S16x16x2048, .f32⟩
  | .hbm, ⟨29, _⟩ => ⟨S16x16x2048x1, .f32⟩
  | .hbm, ⟨30, _⟩ => ⟨S16x16x2048x2304, .f32⟩
  | .hbm, ⟨31, _⟩ => ⟨S16x16x2048x2304, .f32⟩
  | .hbm, ⟨32, _⟩ => ⟨S16x16x64x2048, .f32⟩
  | .hbm, ⟨33, _⟩ => ⟨S16x2048x16x64, .f32⟩
  | .hbm, ⟨34, _⟩ => ⟨S16x2048x1024, .f32⟩
  | .hbm, ⟨35, _⟩ => ⟨S16x2048x1024, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024x1024 : Shape := ⟨2, ![1024, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x6x1024 : Shape := ⟨3, ![1, 6, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 9
  | .vmem => 13
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .bf16⟩
  | .hbm, ⟨2, _⟩ => ⟨S16x2048x1024, .f32⟩
  | .hbm, ⟨3, _⟩ => ⟨S16x6x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x512x1024, .f32⟩
  | .local _ .vmem, ⟨11, _⟩ => ⟨S1x512x1024, .f32⟩
  | .local _ .vmem, ⟨12, _⟩ => ⟨S512x2816, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16x2048x1024 : Shape := ⟨3, ![16, 2048, 1024]⟩
abbrev S1024x1024 : Shape := ⟨2, ![1024, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .bf16⟩
  | .hbm, ⟨2, _⟩ => ⟨S16x2048x1024, .f32⟩
  | .hbm, ⟨3, _⟩ => ⟨S16x6x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S16x1x1024, .f32⟩
  | .hbm, ⟨8, _⟩ => ⟨S16x2048x1024, .f32⟩
  | .hbm, ⟨9, _⟩ => ⟨S1024x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x1x1024, .f32⟩
  | .hbm, ⟨15, _⟩ => ⟨S16x1x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x1x1024, .f32⟩
  | .hbm, ⟨34, _⟩ => ⟨S16x1x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S1024x5632, .f32⟩
  | .hbm, ⟨40, _⟩ => ⟨S16x2048x5632, .f32⟩
  | .hbm, ⟨41, _⟩ => ⟨S16x1x1024, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S_, .f32⟩
  | .hbm, ⟨46, _⟩ => ⟨S16x2048x2816, .f32⟩
  | .hbm, ⟨47, _⟩ => ⟨S16x2048x2816, .f32⟩
  | .hbm, ⟨48, _⟩ => ⟨S_, .f32⟩
  | .hbm, ⟨49, _⟩ => ⟨S16x2048x2816, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S2816x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x6x1024 : Shape := ⟨3, ![1, 6, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 7
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | .local _ .vmem, ⟨9, _⟩ => ⟨S512x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16x2048x1024 : Shape := ⟨3, ![16, 2048, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 50
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S16x1x1024, .f32⟩
  | .hbm, ⟨6, _⟩ => ⟨S16x1x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1024x5632, .f32⟩
  | .hbm, ⟨31, _⟩ => ⟨S16x2048x5632, .f32⟩
  | .hbm, ⟨32, _⟩ => ⟨S16x1x1024, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S_, .f32⟩
  | .hbm, ⟨37, _⟩ => ⟨S16x2048x2816, .f32⟩
  | .hbm, ⟨38, _⟩ => ⟨S16x2048x2816, .f32⟩
  | .hbm, ⟨39, _⟩ => ⟨S_, .f32⟩
  | .hbm, ⟨40, _⟩ => ⟨S16x2048x2816, .f32⟩
  | .hbm, ⟨41, _⟩ => ⟨S16x2048x2816, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S2816x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x6x1024 : Shape := ⟨3, ![16, 6, 1024]⟩
abbrev S1024 : Shape := ⟨1, ![1024]⟩
abbrev S1024x3072 : Shape := ⟨2, ![1024, 3072]⟩
abbrev S64 : Shape := ⟨1, ![64]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S_ : Shape := ⟨0, ![]⟩
abbrev S1x128 : Shape := ⟨2, ![1, 128]⟩
abbrev S1x512x1024 : Shape := ⟨3, ![1, 512, 1024]⟩
abbrev S1x6x1024 : Shape := ⟨3, ![1, 6, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩

abbrev nBuf : Space → Nat
  | .hbm => 21
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024x3072, .bf16⟩
  | .hbm, ⟨4, _⟩ => ⟨S64, .f32⟩
  | .hbm, ⟨5, _⟩ => ⟨S64, .f32⟩
  | .hbm, ⟨6, _⟩ => ⟨S1x1024, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x128, .f32⟩
  | .hbm, ⟨18, _⟩ => ⟨S16x2048x1024, .bf16⟩
  | .hbm, ⟨19, _⟩ => ⟨S16x2048x1024, .bf16⟩
  | .hbm, ⟨20, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1x128, .f32⟩
  | .local _ .vmem, ⟨7, _⟩ => ⟨S1x128, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S16x2048x1024 : Shape := ⟨3, ![16, 2048, 1024]⟩
abbrev S16x6x1024 : Shape := ⟨3, ![16, 6, 1024]⟩
abbrev S1024 : Shape := ⟨1, ![1024]⟩
abbrev S1024x3072 : Shape := ⟨2, ![1024, 3072]⟩
abbrev S64 : Shape := ⟨1, ![64]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S16x2048x16x64 : Shape := ⟨4, ![16, 2048, 16, 64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024x3072, .bf16⟩
  | .hbm, ⟨4, _⟩ => ⟨S64, .f32⟩
  | .hbm, ⟨5, _⟩ => ⟨S64, .f32⟩
  | .hbm, ⟨6, _⟩ => ⟨S16x1x1024, .f32⟩
  | .hbm, ⟨7, _⟩ => ⟨S16x1x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S1024x3072, .f32⟩
  | .hbm, ⟨32, _⟩ => ⟨S16x2048x3072, .f32⟩
  | .hbm, ⟨33, _⟩ => ⟨S16x2048x1024, .f32⟩
  | .hbm, ⟨34, _⟩ => ⟨S16x2048x16x64, .f32⟩
  | .hbm, ⟨35, _⟩ => ⟨S16x2048x16x64, .f32⟩
  | .hbm, ⟨36, _⟩ => ⟨S_, .f32⟩
  | .hbm, ⟨37, _⟩ => ⟨S16x2048x16, .f32⟩
  | .hbm, ⟨38, _⟩ => ⟨S16x2048x16x1, .f32⟩
  | .hbm, ⟨39, _⟩ => ⟨S_, .f32⟩
  | .hbm, ⟨40, _⟩ => ⟨S16x2048x16x1, .f32⟩
  | .hbm, ⟨41, _⟩ => ⟨S16x2048x16x1, .f32⟩
  | .hbm, ⟨42, _⟩ => ⟨S_, .f32⟩
  | .hbm, ⟨43, _⟩ => ⟨S16x2048x16x1, .f32⟩
  | .hbm, ⟨44, _⟩ => ⟨S16x2048x16x1, .f32⟩
  | .hbm, ⟨45, _⟩ => ⟨S16x2048x16x1, .f32⟩
  | .hbm, ⟨46, _⟩ => ⟨S16x2048x16x64, .f32⟩
  | .hbm, ⟨47, _⟩ => ⟨S16x2048x16x64, .f32⟩
  | .hbm, ⟨48, _⟩ => ⟨S1x1x1x64, .f32⟩
  | .hbm, ⟨49, _⟩ => ⟨S16x2048x16x64, .f32⟩
  | .hbm, ⟨50, _⟩ => ⟨S16x2048x16x64, .f32⟩
  | .hbm, ⟨51, _⟩ => ⟨S_, .f32⟩
  | .hbm, ⟨52, _⟩ => ⟨S16x2048x16x64, .f32⟩
  | .hbm, ⟨53, _⟩ => ⟨S16x2048x16x64, .f32⟩
  | .hbm, ⟨54, _⟩ => ⟨S16x2048x1024, .f32⟩
  | .hbm, ⟨55, _⟩ => ⟨S16x2048x16x64, .f32⟩
  | .hbm, ⟨56, _⟩ => ⟨S16x2048x16x64, .f32⟩
  | .hbm, ⟨57, _⟩ => ⟨S_, .f32⟩
  | .hbm, ⟨58, _⟩ => ⟨S16x2048x16, .f32⟩
  | .hbm, ⟨59, _⟩ => ⟨S16x2048x16x1, .f32⟩
  | .hbm, ⟨60, _⟩ => ⟨S_, .f32⟩
  | .hbm, ⟨61, _⟩ => ⟨S16x2048x16x1, .f32⟩
  | .hbm, ⟨62, _⟩ => ⟨S16x2048x16x1, .f32⟩
  | .hbm, ⟨63, _⟩ => ⟨S_, .f32⟩
  | .hbm, ⟨64, _⟩ => ⟨S16x2048x16x1, .f32⟩
  | .hbm, ⟨65, _⟩ => ⟨S16x2048x16x1, .f32⟩
  | .hbm, ⟨66, _⟩ => ⟨S16x2048x16x1, .f32⟩
  | .hbm, ⟨67, _⟩ => ⟨S16x2048x16x64, .f32⟩
  | .hbm, ⟨68, _⟩ => ⟨S16x2048x16x64, .f32⟩
  | .hbm, ⟨69, _⟩ => ⟨S1x1x1x64, .f32⟩
  | .hbm, ⟨70, _⟩ => ⟨S16x2048x16x64, .f32⟩
  | .hbm, ⟨71, _⟩ => ⟨S16x2048x16x64, .f32⟩
  | .hbm, ⟨72, _⟩ => ⟨S16x2048x1024, .f32⟩
  | .hbm, ⟨73, _⟩ => ⟨S16x2048x1024, .bf16⟩
  | .hbm, ⟨74, _⟩ => ⟨S16x2048x1024, .f32⟩
  | .hbm, ⟨75, _⟩ => ⟨S16x2048x1024, .bf16⟩
  | .hbm, ⟨76, _⟩ => ⟨S16x2048x1024, .f32⟩
  | .hbm, ⟨77, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x2048x512 : Shape := ⟨3, ![16, 2048, 512]⟩
abbrev S16x256x512 : Shape := ⟨3, ![16, 256, 512]⟩
abbrev S16 : Shape := ⟨1, ![16]⟩
abbrev S3x256x512 : Shape := ⟨3, ![3, 256, 512]⟩
abbrev S1x1024x1024 : Shape := ⟨3, ![1, 1024, 1024]⟩
abbrev S1x2048x512 : Shape := ⟨3, ![1, 2048, 512]⟩
abbrev S1x256x512 : Shape := ⟨3, ![1, 256, 512]⟩
abbrev S1x128 : Shape := ⟨2, ![1, 128]⟩
abbrev S1x256x128 : Shape := ⟨3, ![1, 256, 128]⟩
abbrev S256x128 : Shape := ⟨2, ![256, 128]⟩
abbrev S1024x128 : Shape := ⟨2, ![1024, 128]⟩
abbrev S1x512x128 : Shape := ⟨3, ![1, 512, 128]⟩
abbrev S512x128 : Shape := ⟨2, ![512, 128]⟩
abbrev S768x128 : Shape := ⟨2, ![768, 128]⟩
abbrev S1024x768 : Shape := ⟨2, ![1024, 768]⟩
abbrev S256x512 : Shape := ⟨2, ![256, 512]⟩
abbrev S1024x512 : Shape := ⟨2, ![1024, 512]⟩
abbrev S1024x256 : Shape := ⟨2, ![1024, 256]⟩
abbrev S256x768 : Shape := ⟨2, ![256, 768]⟩
abbrev S1 : Shape := ⟨1, ![1]⟩
abbrev S256 : Shape := ⟨1, ![256]⟩
abbrev S256x1 : Shape := ⟨2, ![256, 1]⟩

abbrev nBuf : Space → Nat
  | .hbm => 8
  | .vmem => 13
  | .smem => 1
  | _ => 0

abbrev bufTy : (tb : Table) → Fin (tcTables nBuf tb) → BufTy
  | .hbm, ⟨0, _⟩ => ⟨S16x2048x1024, .bf16⟩
  | .hbm, ⟨1, _⟩ => ⟨S16x2048x512, .bf16⟩
  | .hbm, ⟨2, _⟩ => ⟨S16x2048x512, .bf16⟩
  | .hbm, ⟨3, _⟩ => ⟨S16x256x512, .bf16⟩
  | .hbm, ⟨4, _⟩ => ⟨S16x256x512, .bf16⟩
  | .hbm, ⟨5, _⟩ => ⟨S16, .f32⟩
  | .hbm, ⟨6, _⟩ => ⟨S3x256x512, .f32⟩
  | .hbm, ⟨7, _⟩ => ⟨S16x2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S3x256x512, .f32⟩
  | .local _ .vmem, ⟨11, _⟩ => ⟨S1x1024x1024, .bf16⟩
  | .local _ .vmem, ⟨12, _⟩ => ⟨S1x1024x1024, .bf16⟩
  | .local _ .smem, ⟨0, _⟩ => ⟨S16, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c1536_i32 : BitVec 32 := 1536#32
  let c0_i32_13 : BitVec 32 := 0#32
  let arg1 : BitVec 32 := BitVec.ofNat 32 (i 1).val
  let c4_i32 : BitVec 32 := 4#32
  let v28 : BitVec 32 := Scalar.muli arg1 c4_i32
  let c0_i32 : BitVec 32 := 0#32
  let v29 : BitVec 32 := Scalar.addi v28 c0_i32
  let c256_i32 : BitVec 32 := 256#32
  let v30 : BitVec 32 := Scalar.muli v29 c256_i32
  let c128_i32 : BitVec 32 := 128#32
  let v31 : BitVec 32 := Scalar.subi v30 c128_i32
  let v32 : BitVec 32 := Scalar.maxsi c0_i32_13 v31
  let v33 : BitVec 32 := Scalar.minsi c1536_i32 v32
  v33
def k0_off1 (i : grid0.Coords) (c0_i32 : BitVec 32) : Fin 3 → Nat :=
  let c0_14 : Index := 0#32
  let c1536_i32 : BitVec 32 := 1536#32
  let c0_i32_13 : BitVec 32 := 0#32
  let arg1 : BitVec 32 := BitVec.ofNat 32 (i 1).val
  let c4_i32 : BitVec 32 := 4#32
  let v28 : BitVec 32 := Scalar.muli arg1 c4_i32
  let v29 : BitVec 32 := Scalar.addi v28 c0_i32
  let c256_i32 : BitVec 32 := 256#32
  let v30 : BitVec 32 := Scalar.muli v29 c256_i32
  let c128_i32 : BitVec 32 := 128#32
  let v31 : BitVec 32 := Scalar.subi v30 c128_i32
  let v32 : BitVec 32 := Scalar.maxsi c0_i32_13 v31
  let v33 : BitVec 32 := Scalar.minsi c1536_i32 v32
  let v34 : BitVec 32 := v33
  let v35 : Index := Scalar.indexCast v34
  let c0_15 : Index := 0#32
  ![0, v35.toNat, 0]
def k0_mult2 (i : grid0.Coords) : BitVec 32 :=
  let c1536_i32_25 : BitVec 32 := 1536#32
  let c0_i32_24 : BitVec 32 := 0#32
  let arg1 : BitVec 32 := BitVec.ofNat 32 (i 1).val
  let c4_i32_20 : BitVec 32 := 4#32
  let v42 : BitVec 32 := Scalar.muli arg1 c4_i32_20
  let c0_i32_21 : BitVec 32 := 0#32
  let v43 : BitVec 32 := Scalar.addi v42 c0_i32_21
  let c256_i32_22 : BitVec 32 := 256#32
  let v44 : BitVec 32 := Scalar.muli v43 c256_i32_22
  let c128_i32_23 : BitVec 32 := 128#32
  let v45 : BitVec 32 := Scalar.subi v44 c128_i32_23
  let v46 : BitVec 32 := Scalar.maxsi c0_i32_24 v45
  let v47 : BitVec 32 := Scalar.minsi c1536_i32_25 v46
  v47
def k0_off2 (i : grid0.Coords) (c0_i32_21 : BitVec 32) : Fin 3 → Nat :=
  let arg1 : BitVec 32 := BitVec.ofNat 32 (i 1).val
  let c4_i32_20 : BitVec 32 := 4#32
  let v42 : BitVec 32 := Scalar.muli arg1 c4_i32_20
  let v43 : BitVec 32 := Scalar.addi v42 c0_i32_21
  let c256_i32_22 : BitVec 32 := 256#32
  let v44 : BitVec 32 := Scalar.muli v43 c256_i32_22
  let c1536_i32_25 : BitVec 32 := 1536#32
  let c0_i32_24 : BitVec 32 := 0#32
  let c128_i32_23 : BitVec 32 := 128#32
  let v45 : BitVec 32 := Scalar.subi v44 c128_i32_23
  let v46 : BitVec 32 := Scalar.maxsi c0_i32_24 v45
  let v47 : BitVec 32 := Scalar.minsi c1536_i32_25 v46
  let v48 : BitVec 32 := v47
  let v49 : BitVec 32 := Scalar.subi v44 v48
  let c0_i32_27 : BitVec 32 := 0#32
  let v51 : BitVec 1 := Scalar.cmpi .sgt v49 c0_i32_27
  let v52 : BitVec 32 := Scalar.extui v51
  let c0_i32_28 : BitVec 32 := 0#32
  let v53 : BitVec 1 := Scalar.cmpi .slt v49 c0_i32_28
  let v54 : BitVec 32 := Scalar.extui v53
  let v55 : BitVec 32 := Scalar.subi v52 v54
  let c128_i32_26 : BitVec 32 := 128#32
  let c0_i32_29 : BitVec 32 := 0#32
  let v56 : BitVec 1 := Scalar.cmpi .sgt c128_i32_26 c0_i32_29
  let v57 : BitVec 32 := Scalar.extui v56
  let c0_i32_30 : BitVec 32 := 0#32
  let v58 : BitVec 1 := Scalar.cmpi .slt c128_i32_26 c0_i32_30
  let v59 : BitVec 32 := Scalar.extui v58
  let v60 : BitVec 32 := Scalar.subi v57 v59
  let v61 : BitVec 1 := Scalar.cmpi .ne v55 v60
  let v62 : BitVec 32 := Scalar.remsi v49 c128_i32_26
  let c0_i32_31 : BitVec 32 := 0#32
  let v63 : BitVec 1 := Scalar.cmpi .ne v62 c0_i32_31
  let v64 : BitVec 1 := Scalar.andi v61 v63
  let v50 : BitVec 32 := Scalar.divsi v49 c128_i32_26
  let c1_i32 : BitVec 32 := 1#32
  let v65 : BitVec 32 := Scalar.subi v50 c1_i32
  let v66 : BitVec 32 := Scalar.select v64 v65 v50
  let v67 : Index := Scalar.indexCast v66
  let c0_32 : Index := 0#32
  let c0_33 : Index := 0#32
  ![v67.toNat, 0, 0]
def k0_mult3 (i : grid0.Coords) : BitVec 32 :=
  let c1536_i32_53 : BitVec 32 := 1536#32
  let c0_i32_52 : BitVec 32 := 0#32
  let arg1 : BitVec 32 := BitVec.ofNat 32 (i 1).val
  let c4_i32_48 : BitVec 32 := 4#32
  let v100 : BitVec 32 := Scalar.muli arg1 c4_i32_48
  let c0_i32_49 : BitVec 32 := 0#32
  let v101 : BitVec 32 := Scalar.addi v100 c0_i32_49
  let c256_i32_50 : BitVec 32 := 256#32
  let v102 : BitVec 32 := Scalar.muli v101 c256_i32_50
  let c128_i32_51 : BitVec 32 := 128#32
  let v103 : BitVec 32 := Scalar.subi v102 c128_i32_51
  let v104 : BitVec 32 := Scalar.maxsi c0_i32_52 v103
  let v105 : BitVec 32 := Scalar.minsi c1536_i32_53 v104
  v105
def k0_off3 (i : grid0.Coords) (c0_i32_49 : BitVec 32) : Fin 3 → Nat :=
  let c0_54 : Index := 0#32
  let c1536_i32_53 : BitVec 32 := 1536#32
  let c0_i32_52 : BitVec 32 := 0#32
  let arg1 : BitVec 32 := BitVec.ofNat 32 (i 1).val
  let c4_i32_48 : BitVec 32 := 4#32
  let v100 : BitVec 32 := Scalar.muli arg1 c4_i32_48
  let v101 : BitVec 32 := Scalar.addi v100 c0_i32_49
  let c256_i32_50 : BitVec 32 := 256#32
  let v102 : BitVec 32 := Scalar.muli v101 c256_i32_50
  let c128_i32_51 : BitVec 32 := 128#32
  let v103 : BitVec 32 := Scalar.subi v102 c128_i32_51
  let v104 : BitVec 32 := Scalar.maxsi c0_i32_52 v103
  let v105 : BitVec 32 := Scalar.minsi c1536_i32_53 v104
  let v106 : BitVec 32 := v105
  let v107 : Index := Scalar.indexCast v106
  let c128_55 : Index := 128#32
  ![0, v107.toNat, 128]
def k0_mult4 (i : grid0.Coords) : BitVec 32 :=
  let c1536_i32_65 : BitVec 32 := 1536#32
  let c0_i32_64 : BitVec 32 := 0#32
  let arg1 : BitVec 32 := BitVec.ofNat 32 (i 1).val
  let c4_i32_60 : BitVec 32 := 4#32
  let v114 : BitVec 32 := Scalar.muli arg1 c4_i32_60
  let c0_i32_61 : BitVec 32 := 0#32
  let v115 : BitVec 32 := Scalar.addi v114 c0_i32_61
  let c256_i32_62 : BitVec 32 := 256#32
  let v116 : BitVec 32 := Scalar.muli v115 c256_i32_62
  let c128_i32_63 : BitVec 32 := 128#32
  let v117 : BitVec 32 := Scalar.subi v116 c128_i32_63
  let v118 : BitVec 32 := Scalar.maxsi c0_i32_64 v117
  let v119 : BitVec 32 := Scalar.minsi c1536_i32_65 v118
  v119
def k0_mult5 (i : grid0.Coords) : BitVec 32 :=
  let c1536_i32_80 : BitVec 32 := 1536#32
  let c0_i32_79 : BitVec 32 := 0#32
  let arg1 : BitVec 32 := BitVec.ofNat 32 (i 1).val
  let c4_i32_75 : BitVec 32 := 4#32
  let v147 : BitVec 32 := Scalar.muli arg1 c4_i32_75
  let c0_i32_76 : BitVec 32 := 0#32
  let v148 : BitVec 32 := Scalar.addi v147 c0_i32_76
  let c256_i32_77 : BitVec 32 := 256#32
  let v149 : BitVec 32 := Scalar.muli v148 c256_i32_77
  let c128_i32_78 : BitVec 32 := 128#32
  let v150 : BitVec 32 := Scalar.subi v149 c128_i32_78
  let v151 : BitVec 32 := Scalar.maxsi c0_i32_79 v150
  let v152 : BitVec 32 := Scalar.minsi c1536_i32_80 v151
  v152
def k0_mult6 (i : grid0.Coords) : BitVec 32 :=
  let c1536_i32_125 : BitVec 32 := 1536#32
  let c0_i32_124 : BitVec 32 := 0#32
  let arg1 : BitVec 32 := BitVec.ofNat 32 (i 1).val
  let c4_i32_120 : BitVec 32 := 4#32
  let v277 : BitVec 32 := Scalar.muli arg1 c4_i32_120
  let c0_i32_121 : BitVec 32 := 0#32
  let v278 : BitVec 32 := Scalar.addi v277 c0_i32_121
  let c256_i32_122 : BitVec 32 := 256#32
  let v279 : BitVec 32 := Scalar.muli v278 c256_i32_122
  let c128_i32_123 : BitVec 32 := 128#32
  let v280 : BitVec 32 := Scalar.subi v279 c128_i32_123
  let v281 : BitVec 32 := Scalar.maxsi c0_i32_124 v280
  let v282 : BitVec 32 := Scalar.minsi c1536_i32_125 v281
  v282
def k0_off4 (i : grid0.Coords) (c0_i32_121 : BitVec 32) : Fin 3 → Nat :=
  let c0_126 : Index := 0#32
  let c1536_i32_125 : BitVec 32 := 1536#32
  let c0_i32_124 : BitVec 32 := 0#32
  let arg1 : BitVec 32 := BitVec.ofNat 32 (i 1).val
  let c4_i32_120 : BitVec 32 := 4#32
  let v277 : BitVec 32 := Scalar.muli arg1 c4_i32_120
  let v278 : BitVec 32 := Scalar.addi v277 c0_i32_121
  let c256_i32_122 : BitVec 32 := 256#32
  let v279 : BitVec 32 := Scalar.muli v278 c256_i32_122
  let c128_i32_123 : BitVec 32 := 128#32
  let v280 : BitVec 32 := Scalar.subi v279 c128_i32_123
  let v281 : BitVec 32 := Scalar.maxsi c0_i32_124 v280
  let v282 : BitVec 32 := Scalar.minsi c1536_i32_125 v281
  let v283 : BitVec 32 := v282
  let v284 : Index := Scalar.indexCast v283
  let c256_127 : Index := 256#32
  ![0, v284.toNat, 256]
def k0_mult7 (i : grid0.Coords) : BitVec 32 :=
  let c1536_i32_137 : BitVec 32 := 1536#32
  let c0_i32_136 : BitVec 32 := 0#32
  let arg1 : BitVec 32 := BitVec.ofNat 32 (i 1).val
  let c4_i32_132 : BitVec 32 := 4#32
  let v291 : BitVec 32 := Scalar.muli arg1 c4_i32_132
  let c0_i32_133 : BitVec 32 := 0#32
  let v292 : BitVec 32 := Scalar.addi v291 c0_i32_133
  let c256_i32_134 : BitVec 32 := 256#32
  let v293 : BitVec 32 := Scalar.muli v292 c256_i32_134
  let c128_i32_135 : BitVec 32 := 128#32
  let v294 : BitVec 32 := Scalar.subi v293 c128_i32_135
  let v295 : BitVec 32 := Scalar.maxsi c0_i32_136 v294
  let v296 : BitVec 32 := Scalar.minsi c1536_i32_137 v295
  v296
def k0_mult8 (i : grid0.Coords) : BitVec 32 :=
  let c1536_i32_152 : BitVec 32 := 1536#32
  let c0_i32_151 : BitVec 32 := 0#32
  let arg1 : BitVec 32 := BitVec.ofNat 32 (i 1).val
  let c4_i32_147 : BitVec 32 := 4#32
  let v324 : BitVec 32 := Scalar.muli arg1 c4_i32_147
  let c0_i32_148 : BitVec 32 := 0#32
  let v325 : BitVec 32 := Scalar.addi v324 c0_i32_148
  let c256_i32_149 : BitVec 32 := 256#32
  let v326 : BitVec 32 := Scalar.muli v325 c256_i32_149
  let c128_i32_150 : BitVec 32 := 128#32
  let v327 : BitVec 32 := Scalar.subi v326 c128_i32_150
  let v328 : BitVec 32 := Scalar.maxsi c0_i32_151 v327
  let v329 : BitVec 32 := Scalar.minsi c1536_i32_152 v328
  v329
def k0_mult9 (i : grid0.Coords) : BitVec 32 :=
  let c1536_i32_196 : BitVec 32 := 1536#32
  let c0_i32_195 : BitVec 32 := 0#32
  let arg1 : BitVec 32 := BitVec.ofNat 32 (i 1).val
  let c4_i32_191 : BitVec 32 := 4#32
  let v454 : BitVec 32 := Scalar.muli arg1 c4_i32_191
  let c0_i32_192 : BitVec 32 := 0#32
  let v455 : BitVec 32 := Scalar.addi v454 c0_i32_192
  let c256_i32_193 : BitVec 32 := 256#32
  let v456 : BitVec 32 := Scalar.muli v455 c256_i32_193
  let c128_i32_194 : BitVec 32 := 128#32
  let v457 : BitVec 32 := Scalar.subi v456 c128_i32_194
  let v458 : BitVec 32 := Scalar.maxsi c0_i32_195 v457
  let v459 : BitVec 32 := Scalar.minsi c1536_i32_196 v458
  v459
def k0_off5 (i : grid0.Coords) (c0_i32_192 : BitVec 32) : Fin 3 → Nat :=
  let c0_197 : Index := 0#32
  let c1536_i32_196 : BitVec 32 := 1536#32
  let c0_i32_195 : BitVec 32 := 0#32
  let arg1 : BitVec 32 := BitVec.ofNat 32 (i 1).val
  let c4_i32_191 : BitVec 32 := 4#32
  let v454 : BitVec 32 := Scalar.muli arg1 c4_i32_191
  let v455 : BitVec 32 := Scalar.addi v454 c0_i32_192
  let c256_i32_193 : BitVec 32 := 256#32
  let v456 : BitVec 32 := Scalar.muli v455 c256_i32_193
  let c128_i32_194 : BitVec 32 := 128#32
  let v457 : BitVec 32 := Scalar.subi v456 c128_i32_194
  let v458 : BitVec 32 := Scalar.maxsi c0_i32_195 v457
  let v459 : BitVec 32 := Scalar.minsi c1536_i32_196 v458
  let v460 : BitVec 32 := v459
  let v461 : Index := Scalar.indexCast v460
  let c384_198 : Index := 384#32
  ![0, v461.toNat, 384]
def k0_mult10 (i : grid0.Coords) : BitVec 32 :=
  let c1536_i32_208 : BitVec 32 := 1536#32
  let c0_i32_207 : BitVec 32 := 0#32
  let arg1 : BitVec 32 := BitVec.ofNat 32 (i 1).val
  let c4_i32_203 : BitVec 32 := 4#32
  let v468 : BitVec 32 := Scalar.muli arg1 c4_i32_203
  let c0_i32_204 : BitVec 32 := 0#32
  let v469 : BitVec 32 := Scalar.addi v468 c0_i32_204
  let c256_i32_205 : BitVec 32 := 256#32
  let v470 : BitVec 32 := Scalar.muli v469 c256_i32_205
  let c128_i32_206 : BitVec 32 := 128#32
  let v471 : BitVec 32 := Scalar.subi v470 c128_i32_206
  let v472 : BitVec 32 := Scalar.maxsi c0_i32_207 v471
  let v473 : BitVec 32 := Scalar.minsi c1536_i32_208 v472
  v473
def k0_mult11 (i : grid0.Coords) : BitVec 32 :=
  let c1536_i32_223 : BitVec 32 := 1536#32
  let c0_i32_222 : BitVec 32 := 0#32
  let arg1 : BitVec 32 := BitVec.ofNat 32 (i 1).val
  let c4_i32_218 : BitVec 32 := 4#32
  let v501 : BitVec 32 := Scalar.muli arg1 c4_i32_218
  let c0_i32_219 : BitVec 32 := 0#32
  let v502 : BitVec 32 := Scalar.addi v501 c0_i32_219
  let c256_i32_220 : BitVec 32 := 256#32
  let v503 : BitVec 32 := Scalar.muli v502 c256_i32_220
  let c128_i32_221 : BitVec 32 := 128#32
  let v504 : BitVec 32 := Scalar.subi v503 c128_i32_221
  let v505 : BitVec 32 := Scalar.maxsi c0_i32_222 v504
  let v506 : BitVec 32 := Scalar.minsi c1536_i32_223 v505
  v506
def k0_mult12 (i : grid0.Coords) : BitVec 32 :=
  let c1536_i32_269 : BitVec 32 := 1536#32
  let c0_i32_268 : BitVec 32 := 0#32
  let arg1 : BitVec 32 := BitVec.ofNat 32 (i 1).val
  let c4_i32_264 : BitVec 32 := 4#32
  let v631 : BitVec 32 := Scalar.muli arg1 c4_i32_264
  let c1_i32_265 : BitVec 32 := 1#32
  let v632 : BitVec 32 := Scalar.addi v631 c1_i32_265
  let c256_i32_266 : BitVec 32 := 256#32
  let v633 : BitVec 32 := Scalar.muli v632 c256_i32_266
  let c128_i32_267 : BitVec 32 := 128#32
  let v634 : BitVec 32 := Scalar.subi v633 c128_i32_267
  let v635 : BitVec 32 := Scalar.maxsi c0_i32_268 v634
  let v636 : BitVec 32 := Scalar.minsi c1536_i32_269 v635
  v636
def k0_mult13 (i : grid0.Coords) : BitVec 32 :=
  let c1536_i32_281 : BitVec 32 := 1536#32
  let c0_i32_280 : BitVec 32 := 0#32
  let arg1 : BitVec 32 := BitVec.ofNat 32 (i 1).val
  let c4_i32_276 : BitVec 32 := 4#32
  let v645 : BitVec 32 := Scalar.muli arg1 c4_i32_276
  let c1_i32_277 : BitVec 32 := 1#32
  let v646 : BitVec 32 := Scalar.addi v645 c1_i32_277
  let c256_i32_278 : BitVec 32 := 256#32
  let v647 : BitVec 32 := Scalar.muli v646 c256_i32_278
  let c128_i32_279 : BitVec 32 := 128#32
  let v648 : BitVec 32 := Scalar.subi v647 c128_i32_279
  let v649 : BitVec 32 := Scalar.maxsi c0_i32_280 v648
  let v650 : BitVec 32 := Scalar.minsi c1536_i32_281 v649
  v650
def k0_mult14 (i : grid0.Coords) : BitVec 32 :=
  let c1536_i32_296 : BitVec 32 := 1536#32
  let c0_i32_295 : BitVec 32 := 0#32
  let arg1 : BitVec 32 := BitVec.ofNat 32 (i 1).val
  let c4_i32_291 : BitVec 32 := 4#32
  let v678 : BitVec 32 := Scalar.muli arg1 c4_i32_291
  let c0_i32_292 : BitVec 32 := 0#32
  let v679 : BitVec 32 := Scalar.addi v678 c0_i32_292
  let c256_i32_293 : BitVec 32 := 256#32
  let v680 : BitVec 32 := Scalar.muli v679 c256_i32_293
  let c128_i32_294 : BitVec 32 := 128#32
  let v681 : BitVec 32 := Scalar.subi v680 c128_i32_294
  let v682 : BitVec 32 := Scalar.maxsi c0_i32_295 v681
  let v683 : BitVec 32 := Scalar.minsi c1536_i32_296 v682
  v683
def k0_mult15 (i : grid0.Coords) : BitVec 32 :=
  let c1536_i32_342 : BitVec 32 := 1536#32
  let c0_i32_341 : BitVec 32 := 0#32
  let arg1 : BitVec 32 := BitVec.ofNat 32 (i 1).val
  let c4_i32_337 : BitVec 32 := 4#32
  let v808 : BitVec 32 := Scalar.muli arg1 c4_i32_337
  let c1_i32_338 : BitVec 32 := 1#32
  let v809 : BitVec 32 := Scalar.addi v808 c1_i32_338
  let c256_i32_339 : BitVec 32 := 256#32
  let v810 : BitVec 32 := Scalar.muli v809 c256_i32_339
  let c128_i32_340 : BitVec 32 := 128#32
  let v811 : BitVec 32 := Scalar.subi v810 c128_i32_340
  let v812 : BitVec 32 := Scalar.maxsi c0_i32_341 v811
  let v813 : BitVec 32 := Scalar.minsi c1536_i32_342 v812
  v813
def k0_mult16 (i : grid0.Coords) : BitVec 32 :=
  let c1536_i32_354 : BitVec 32 := 1536#32
  let c0_i32_353 : BitVec 32 := 0#32
  let arg1 : BitVec 32 := BitVec.ofNat 32 (i 1).val
  let c4_i32_349 : BitVec 32 := 4#32
  let v822 : BitVec 32 := Scalar.muli arg1 c4_i32_349
  let c1_i32_350 : BitVec 32 := 1#32
  let v823 : BitVec 32 := Scalar.addi v822 c1_i32_350
  let c256_i32_351 : BitVec 32 := 256#32
  let v824 : BitVec 32 := Scalar.muli v823 c256_i32_351
  let c128_i32_352 : BitVec 32 := 128#32
  let v825 : BitVec 32 := Scalar.subi v824 c128_i32_352
  let v826 : BitVec 32 := Scalar.maxsi c0_i32_353 v825
  let v827 : BitVec 32 := Scalar.minsi c1536_i32_354 v826
  v827
def k0_mult17 (i : grid0.Coords) : BitVec 32 :=
  let c1536_i32_369 : BitVec 32 := 1536#32
  let c0_i32_368 : BitVec 32 := 0#32
  let arg1 : BitVec 32 := BitVec.ofNat 32 (i 1).val
  let c4_i32_364 : BitVec 32 := 4#32
  let v855 : BitVec 32 := Scalar.muli arg1 c4_i32_364
  let c1_i32_365 : BitVec 32 := 1#32
  let v856 : BitVec 32 := Scalar.addi v855 c1_i32_365
  let c256_i32_366 : BitVec 32 := 256#32
  let v857 : BitVec 32 := Scalar.muli v856 c256_i32_366
  let c128_i32_367 : BitVec 32 := 128#32
  let v858 : BitVec 32 := Scalar.subi v857 c128_i32_367
  let v859 : BitVec 32 := Scalar.maxsi c0_i32_368 v858
  let v860 : BitVec 32 := Scalar.minsi c1536_i32_369 v859
  v860
def k0_mult18 (i : grid0.Coords) : BitVec 32 :=
  let c1536_i32_419 : BitVec 32 := 1536#32
  let c0_i32_418 : BitVec 32 := 0#32
  let arg1 : BitVec 32 := BitVec.ofNat 32 (i 1).val
  let c4_i32_414 : BitVec 32 := 4#32
  let v985 : BitVec 32 := Scalar.muli arg1 c4_i32_414
  let c1_i32_415 : BitVec 32 := 1#32
  let v986 : BitVec 32 := Scalar.addi v985 c1_i32_415
  let c256_i32_416 : BitVec 32 := 256#32
  let v987 : BitVec 32 := Scalar.muli v986 c256_i32_416
  let c128_i32_417 : BitVec 32 := 128#32
  let v988 : BitVec 32 := Scalar.subi v987 c128_i32_417
  let v989 : BitVec 32 := Scalar.maxsi c0_i32_418 v988
  let v990 : BitVec 32 := Scalar.minsi c1536_i32_419 v989
  v990
def k0_mult19 (i : grid0.Coords) : BitVec 32 :=
  let c1536_i32_431 : BitVec 32 := 1536#32
  let c0_i32_430 : BitVec 32 := 0#32
  let arg1 : BitVec 32 := BitVec.ofNat 32 (i 1).val
  let c4_i32_426 : BitVec 32 := 4#32
  let v999 : BitVec 32 := Scalar.muli arg1 c4_i32_426
  let c1_i32_427 : BitVec 32 := 1#32
  let v1000 : BitVec 32 := Scalar.addi v999 c1_i32_427
  let c256_i32_428 : BitVec 32 := 256#32
  let v1001 : BitVec 32 := Scalar.muli v1000 c256_i32_428
  let c128_i32_429 : BitVec 32 := 128#32
  let v1002 : BitVec 32 := Scalar.subi v1001 c128_i32_429
  let v1003 : BitVec 32 := Scalar.maxsi c0_i32_430 v1002
  let v1004 : BitVec 32 := Scalar.minsi c1536_i32_431 v1003
  v1004
def k0_mult20 (i : grid0.Coords) : BitVec 32 :=
  let c1536_i32_446 : BitVec 32 := 1536#32
  let c0_i32_445 : BitVec 32 := 0#32
  let arg1 : BitVec 32 := BitVec.ofNat 32 (i 1).val
  let c4_i32_441 : BitVec 32 := 4#32
  let v1032 : BitVec 32 := Scalar.muli arg1 c4_i32_441
  let c1_i32_442 : BitVec 32 := 1#32
  let v1033 : BitVec 32 := Scalar.addi v1032 c1_i32_442
  let c256_i32_443 : BitVec 32 := 256#32
  let v1034 : BitVec 32 := Scalar.muli v1033 c256_i32_443
  let c128_i32_444 : BitVec 32 := 128#32
  let v1035 : BitVec 32 := Scalar.subi v1034 c128_i32_444
  let v1036 : BitVec 32 := Scalar.maxsi c0_i32_445 v1035
  let v1037 : BitVec 32 := Scalar.minsi c1536_i32_446 v1036
  v1037
def k0_mult21 (i : grid0.Coords) : BitVec 32 :=
  let c1536_i32_496 : BitVec 32 := 1536#32
  let c0_i32_495 : BitVec 32 := 0#32
  let arg1 : BitVec 32 := BitVec.ofNat 32 (i 1).val
  let c4_i32_491 : BitVec 32 := 4#32
  let v1162 : BitVec 32 := Scalar.muli arg1 c4_i32_491
  let c1_i32_492 : BitVec 32 := 1#32
  let v1163 : BitVec 32 := Scalar.addi v1162 c1_i32_492
  let c256_i32_493 : BitVec 32 := 256#32
  let v1164 : BitVec 32 := Scalar.muli v1163 c256_i32_493
  let c128_i32_494 : BitVec 32 := 128#32
  let v1165 : BitVec 32 := Scalar.subi v1164 c128_i32_494
  let v1166 : BitVec 32 := Scalar.maxsi c0_i32_495 v1165
  let v1167 : BitVec 32 := Scalar.minsi c1536_i32_496 v1166
  v1167
def k0_mult22 (i : grid0.Coords) : BitVec 32 :=
  let c1536_i32_508 : BitVec 32 := 1536#32
  let c0_i32_507 : BitVec 32 := 0#32
  let arg1 : BitVec 32 := BitVec.ofNat 32 (i 1).val
  let c4_i32_503 : BitVec 32 := 4#32
  let v1176 : BitVec 32 := Scalar.muli arg1 c4_i32_503
  let c1_i32_504 : BitVec 32 := 1#32
  let v1177 : BitVec 32 := Scalar.addi v1176 c1_i32_504
  let c256_i32_505 : BitVec 32 := 256#32
  let v1178 : BitVec 32 := Scalar.muli v1177 c256_i32_505
  let c128_i32_506 : BitVec 32 := 128#32
  let v1179 : BitVec 32 := Scalar.subi v1178 c128_i32_506
  let v1180 : BitVec 32 := Scalar.maxsi c0_i32_507 v1179
  let v1181 : BitVec 32 := Scalar.minsi c1536_i32_508 v1180
  v1181
def k0_mult23 (i : grid0.Coords) : BitVec 32 :=
  let c1536_i32_523 : BitVec 32 := 1536#32
  let c0_i32_522 : BitVec 32 := 0#32
  let arg1 : BitVec 32 := BitVec.ofNat 32 (i 1).val
  let c4_i32_518 : BitVec 32 := 4#32
  let v1209 : BitVec 32 := Scalar.muli arg1 c4_i32_518
  let c1_i32_519 : BitVec 32 := 1#32
  let v1210 : BitVec 32 := Scalar.addi v1209 c1_i32_519
  let c256_i32_520 : BitVec 32 := 256#32
  let v1211 : BitVec 32 := Scalar.muli v1210 c256_i32_520
  let c128_i32_521 : BitVec 32 := 128#32
  let v1212 : BitVec 32 := Scalar.subi v1211 c128_i32_521
  let v1213 : BitVec 32 := Scalar.maxsi c0_i32_522 v1212
  let v1214 : BitVec 32 := Scalar.minsi c1536_i32_523 v1213
  v1214
def k0_mult24 (i : grid0.Coords) : BitVec 32 :=
  let c1536_i32_572 : BitVec 32 := 1536#32
  let c0_i32_571 : BitVec 32 := 0#32
  let arg1 : BitVec 32 := BitVec.ofNat 32 (i 1).val
  let c4_i32_568 : BitVec 32 := 4#32
  let v1339 : BitVec 32 := Scalar.muli arg1 c4_i32_568
  let c2_i32 : BitVec 32 := 2#32
  let v1340 : BitVec 32 := Scalar.addi v1339 c2_i32
  let c256_i32_569 : BitVec 32 := 256#32
  let v1341 : BitVec 32 := Scalar.muli v1340 c256_i32_569
  let c128_i32_570 : BitVec 32 := 128#32
  let v1342 : BitVec 32 := Scalar.subi v1341 c128_i32_570
  let v1343 : BitVec 32 := Scalar.maxsi c0_i32_571 v1342
  let v1344 : BitVec 32 := Scalar.minsi c1536_i32_572 v1343
  v1344
def k0_mult25 (i : grid0.Coords) : BitVec 32 :=
  let c1536_i32_584 : BitVec 32 := 1536#32
  let c0_i32_583 : BitVec 32 := 0#32
  let arg1 : BitVec 32 := BitVec.ofNat 32 (i 1).val
  let c4_i32_579 : BitVec 32 := 4#32
  let v1353 : BitVec 32 := Scalar.muli arg1 c4_i32_579
  let c2_i32_580 : BitVec 32 := 2#32
  let v1354 : BitVec 32 := Scalar.addi v1353 c2_i32_580
  let c256_i32_581 : BitVec 32 := 256#32
  let v1355 : BitVec 32 := Scalar.muli v1354 c256_i32_581
  let c128_i32_582 : BitVec 32 := 128#32
  let v1356 : BitVec 32 := Scalar.subi v1355 c128_i32_582
  let v1357 : BitVec 32 := Scalar.maxsi c0_i32_583 v1356
  let v1358 : BitVec 32 := Scalar.minsi c1536_i32_584 v1357
  v1358
def k0_mult26 (i : grid0.Coords) : BitVec 32 :=
  let c1536_i32_599 : BitVec 32 := 1536#32
  let c0_i32_598 : BitVec 32 := 0#32
  let arg1 : BitVec 32 := BitVec.ofNat 32 (i 1).val
  let c4_i32_594 : BitVec 32 := 4#32
  let v1386 : BitVec 32 := Scalar.muli arg1 c4_i32_594
  let c1_i32_595 : BitVec 32 := 1#32
  let v1387 : BitVec 32 := Scalar.addi v1386 c1_i32_595
  let c256_i32_596 : BitVec 32 := 256#32
  let v1388 : BitVec 32 := Scalar.muli v1387 c256_i32_596
  let c128_i32_597 : BitVec 32 := 128#32
  let v1389 : BitVec 32 := Scalar.subi v1388 c128_i32_597
  let v1390 : BitVec 32 := Scalar.maxsi c0_i32_598 v1389
  let v1391 : BitVec 32 := Scalar.minsi c1536_i32_599 v1390
  v1391
def k0_mult27 (i : grid0.Coords) : BitVec 32 :=
  let c1536_i32_649 : BitVec 32 := 1536#32
  let c0_i32_648 : BitVec 32 := 0#32
  let arg1 : BitVec 32 := BitVec.ofNat 32 (i 1).val
  let c4_i32_644 : BitVec 32 := 4#32
  let v1516 : BitVec 32 := Scalar.muli arg1 c4_i32_644
  let c2_i32_645 : BitVec 32 := 2#32
  let v1517 : BitVec 32 := Scalar.addi v1516 c2_i32_645
  let c256_i32_646 : BitVec 32 := 256#32
  let v1518 : BitVec 32 := Scalar.muli v1517 c256_i32_646
  let c128_i32_647 : BitVec 32 := 128#32
  let v1519 : BitVec 32 := Scalar.subi v1518 c128_i32_647
  let v1520 : BitVec 32 := Scalar.maxsi c0_i32_648 v1519
  let v1521 : BitVec 32 := Scalar.minsi c1536_i32_649 v1520
  v1521
def k0_mult28 (i : grid0.Coords) : BitVec 32 :=
  let c1536_i32_661 : BitVec 32 := 1536#32
  let c0_i32_660 : BitVec 32 := 0#32
  let arg1 : BitVec 32 := BitVec.ofNat 32 (i 1).val
  let c4_i32_656 : BitVec 32 := 4#32
  let v1530 : BitVec 32 := Scalar.muli arg1 c4_i32_656
  let c2_i32_657 : BitVec 32 := 2#32
  let v1531 : BitVec 32 := Scalar.addi v1530 c2_i32_657
  let c256_i32_658 : BitVec 32 := 256#32
  let v1532 : BitVec 32 := Scalar.muli v1531 c256_i32_658
  let c128_i32_659 : BitVec 32 := 128#32
  let v1533 : BitVec 32 := Scalar.subi v1532 c128_i32_659
  let v1534 : BitVec 32 := Scalar.maxsi c0_i32_660 v1533
  let v1535 : BitVec 32 := Scalar.minsi c1536_i32_661 v1534
  v1535
def k0_mult29 (i : grid0.Coords) : BitVec 32 :=
  let c1536_i32_676 : BitVec 32 := 1536#32
  let c0_i32_675 : BitVec 32 := 0#32
  let arg1 : BitVec 32 := BitVec.ofNat 32 (i 1).val
  let c4_i32_671 : BitVec 32 := 4#32
  let v1563 : BitVec 32 := Scalar.muli arg1 c4_i32_671
  let c2_i32_672 : BitVec 32 := 2#32
  let v1564 : BitVec 32 := Scalar.addi v1563 c2_i32_672
  let c256_i32_673 : BitVec 32 := 256#32
  let v1565 : BitVec 32 := Scalar.muli v1564 c256_i32_673
  let c128_i32_674 : BitVec 32 := 128#32
  let v1566 : BitVec 32 := Scalar.subi v1565 c128_i32_674
  let v1567 : BitVec 32 := Scalar.maxsi c0_i32_675 v1566
  let v1568 : BitVec 32 := Scalar.minsi c1536_i32_676 v1567
  v1568
def k0_mult30 (i : grid0.Coords) : BitVec 32 :=
  let c1536_i32_726 : BitVec 32 := 1536#32
  let c0_i32_725 : BitVec 32 := 0#32
  let arg1 : BitVec 32 := BitVec.ofNat 32 (i 1).val
  let c4_i32_721 : BitVec 32 := 4#32
  let v1693 : BitVec 32 := Scalar.muli arg1 c4_i32_721
  let c2_i32_722 : BitVec 32 := 2#32
  let v1694 : BitVec 32 := Scalar.addi v1693 c2_i32_722
  let c256_i32_723 : BitVec 32 := 256#32
  let v1695 : BitVec 32 := Scalar.muli v1694 c256_i32_723
  let c128_i32_724 : BitVec 32 := 128#32
  let v1696 : BitVec 32 := Scalar.subi v1695 c128_i32_724
  let v1697 : BitVec 32 := Scalar.maxsi c0_i32_725 v1696
  let v1698 : BitVec 32 := Scalar.minsi c1536_i32_726 v1697
  v1698
def k0_mult31 (i : grid0.Coords) : BitVec 32 :=
  let c1536_i32_738 : BitVec 32 := 1536#32
  let c0_i32_737 : BitVec 32 := 0#32
  let arg1 : BitVec 32 := BitVec.ofNat 32 (i 1).val
  let c4_i32_733 : BitVec 32 := 4#32
  let v1707 : BitVec 32 := Scalar.muli arg1 c4_i32_733
  let c2_i32_734 : BitVec 32 := 2#32
  let v1708 : BitVec 32 := Scalar.addi v1707 c2_i32_734
  let c256_i32_735 : BitVec 32 := 256#32
  let v1709 : BitVec 32 := Scalar.muli v1708 c256_i32_735
  let c128_i32_736 : BitVec 32 := 128#32
  let v1710 : BitVec 32 := Scalar.subi v1709 c128_i32_736
  let v1711 : BitVec 32 := Scalar.maxsi c0_i32_737 v1710
  let v1712 : BitVec 32 := Scalar.minsi c1536_i32_738 v1711
  v1712
def k0_mult32 (i : grid0.Coords) : BitVec 32 :=
  let c1536_i32_753 : BitVec 32 := 1536#32
  let c0_i32_752 : BitVec 32 := 0#32
  let arg1 : BitVec 32 := BitVec.ofNat 32 (i 1).val
  let c4_i32_748 : BitVec 32 := 4#32
  let v1740 : BitVec 32 := Scalar.muli arg1 c4_i32_748
  let c2_i32_749 : BitVec 32 := 2#32
  let v1741 : BitVec 32 := Scalar.addi v1740 c2_i32_749
  let c256_i32_750 : BitVec 32 := 256#32
  let v1742 : BitVec 32 := Scalar.muli v1741 c256_i32_750
  let c128_i32_751 : BitVec 32 := 128#32
  let v1743 : BitVec 32 := Scalar.subi v1742 c128_i32_751
  let v1744 : BitVec 32 := Scalar.maxsi c0_i32_752 v1743
  let v1745 : BitVec 32 := Scalar.minsi c1536_i32_753 v1744
  v1745
def k0_mult33 (i : grid0.Coords) : BitVec 32 :=
  let c1536_i32_803 : BitVec 32 := 1536#32
  let c0_i32_802 : BitVec 32 := 0#32
  let arg1 : BitVec 32 := BitVec.ofNat 32 (i 1).val
  let c4_i32_798 : BitVec 32 := 4#32
  let v1870 : BitVec 32 := Scalar.muli arg1 c4_i32_798
  let c2_i32_799 : BitVec 32 := 2#32
  let v1871 : BitVec 32 := Scalar.addi v1870 c2_i32_799
  let c256_i32_800 : BitVec 32 := 256#32
  let v1872 : BitVec 32 := Scalar.muli v1871 c256_i32_800
  let c128_i32_801 : BitVec 32 := 128#32
  let v1873 : BitVec 32 := Scalar.subi v1872 c128_i32_801
  let v1874 : BitVec 32 := Scalar.maxsi c0_i32_802 v1873
  let v1875 : BitVec 32 := Scalar.minsi c1536_i32_803 v1874
  v1875
def k0_mult34 (i : grid0.Coords) : BitVec 32 :=
  let c1536_i32_815 : BitVec 32 := 1536#32
  let c0_i32_814 : BitVec 32 := 0#32
  let arg1 : BitVec 32 := BitVec.ofNat 32 (i 1).val
  let c4_i32_810 : BitVec 32 := 4#32
  let v1884 : BitVec 32 := Scalar.muli arg1 c4_i32_810
  let c2_i32_811 : BitVec 32 := 2#32
  let v1885 : BitVec 32 := Scalar.addi v1884 c2_i32_811
  let c256_i32_812 : BitVec 32 := 256#32
  let v1886 : BitVec 32 := Scalar.muli v1885 c256_i32_812
  let c128_i32_813 : BitVec 32 := 128#32
  let v1887 : BitVec 32 := Scalar.subi v1886 c128_i32_813
  let v1888 : BitVec 32 := Scalar.maxsi c0_i32_814 v1887
  let v1889 : BitVec 32 := Scalar.minsi c1536_i32_815 v1888
  v1889
def k0_mult35 (i : grid0.Coords) : BitVec 32 :=
  let c1536_i32_830 : BitVec 32 := 1536#32
  let c0_i32_829 : BitVec 32 := 0#32
  let arg1 : BitVec 32 := BitVec.ofNat 32 (i 1).val
  let c4_i32_825 : BitVec 32 := 4#32
  let v1917 : BitVec 32 := Scalar.muli arg1 c4_i32_825
  let c2_i32_826 : BitVec 32 := 2#32
  let v1918 : BitVec 32 := Scalar.addi v1917 c2_i32_826
  let c256_i32_827 : BitVec 32 := 256#32
  let v1919 : BitVec 32 := Scalar.muli v1918 c256_i32_827
  let c128_i32_828 : BitVec 32 := 128#32
  let v1920 : BitVec 32 := Scalar.subi v1919 c128_i32_828
  let v1921 : BitVec 32 := Scalar.maxsi c0_i32_829 v1920
  let v1922 : BitVec 32 := Scalar.minsi c1536_i32_830 v1921
  v1922
def k0_mult36 (i : grid0.Coords) : BitVec 32 :=
  let c1536_i32_879 : BitVec 32 := 1536#32
  let c0_i32_878 : BitVec 32 := 0#32
  let arg1 : BitVec 32 := BitVec.ofNat 32 (i 1).val
  let c4_i32_875 : BitVec 32 := 4#32
  let v2047 : BitVec 32 := Scalar.muli arg1 c4_i32_875
  let c3_i32 : BitVec 32 := 3#32
  let v2048 : BitVec 32 := Scalar.addi v2047 c3_i32
  let c256_i32_876 : BitVec 32 := 256#32
  let v2049 : BitVec 32 := Scalar.muli v2048 c256_i32_876
  let c128_i32_877 : BitVec 32 := 128#32
  let v2050 : BitVec 32 := Scalar.subi v2049 c128_i32_877
  let v2051 : BitVec 32 := Scalar.maxsi c0_i32_878 v2050
  let v2052 : BitVec 32 := Scalar.minsi c1536_i32_879 v2051
  v2052
def k0_mult37 (i : grid0.Coords) : BitVec 32 :=
  let c1536_i32_891 : BitVec 32 := 1536#32
  let c0_i32_890 : BitVec 32 := 0#32
  let arg1 : BitVec 32 := BitVec.ofNat 32 (i 1).val
  let c4_i32_886 : BitVec 32 := 4#32
  let v2061 : BitVec 32 := Scalar.muli arg1 c4_i32_886
  let c3_i32_887 : BitVec 32 := 3#32
  let v2062 : BitVec 32 := Scalar.addi v2061 c3_i32_887
  let c256_i32_888 : BitVec 32 := 256#32
  let v2063 : BitVec 32 := Scalar.muli v2062 c256_i32_888
  let c128_i32_889 : BitVec 32 := 128#32
  let v2064 : BitVec 32 := Scalar.subi v2063 c128_i32_889
  let v2065 : BitVec 32 := Scalar.maxsi c0_i32_890 v2064
  let v2066 : BitVec 32 := Scalar.minsi c1536_i32_891 v2065
  v2066
def k0_mult38 (i : grid0.Coords) : BitVec 32 :=
  let c1536_i32_906 : BitVec 32 := 1536#32
  let c0_i32_905 : BitVec 32 := 0#32
  let arg1 : BitVec 32 := BitVec.ofNat 32 (i 1).val
  let c4_i32_901 : BitVec 32 := 4#32
  let v2094 : BitVec 32 := Scalar.muli arg1 c4_i32_901
  let c2_i32_902 : BitVec 32 := 2#32
  let v2095 : BitVec 32 := Scalar.addi v2094 c2_i32_902
  let c256_i32_903 : BitVec 32 := 256#32
  let v2096 : BitVec 32 := Scalar.muli v2095 c256_i32_903
  let c128_i32_904 : BitVec 32 := 128#32
  let v2097 : BitVec 32 := Scalar.subi v2096 c128_i32_904
  let v2098 : BitVec 32 := Scalar.maxsi c0_i32_905 v2097
  let v2099 : BitVec 32 := Scalar.minsi c1536_i32_906 v2098
  v2099
def k0_mult39 (i : grid0.Coords) : BitVec 32 :=
  let c1536_i32_956 : BitVec 32 := 1536#32
  let c0_i32_955 : BitVec 32 := 0#32
  let arg1 : BitVec 32 := BitVec.ofNat 32 (i 1).val
  let c4_i32_951 : BitVec 32 := 4#32
  let v2224 : BitVec 32 := Scalar.muli arg1 c4_i32_951
  let c3_i32_952 : BitVec 32 := 3#32
  let v2225 : BitVec 32 := Scalar.addi v2224 c3_i32_952
  let c256_i32_953 : BitVec 32 := 256#32
  let v2226 : BitVec 32 := Scalar.muli v2225 c256_i32_953
  let c128_i32_954 : BitVec 32 := 128#32
  let v2227 : BitVec 32 := Scalar.subi v2226 c128_i32_954
  let v2228 : BitVec 32 := Scalar.maxsi c0_i32_955 v2227
  let v2229 : BitVec 32 := Scalar.minsi c1536_i32_956 v2228
  v2229
def k0_mult40 (i : grid0.Coords) : BitVec 32 :=
  let c1536_i32_968 : BitVec 32 := 1536#32
  let c0_i32_967 : BitVec 32 := 0#32
  let arg1 : BitVec 32 := BitVec.ofNat 32 (i 1).val
  let c4_i32_963 : BitVec 32 := 4#32
  let v2238 : BitVec 32 := Scalar.muli arg1 c4_i32_963
  let c3_i32_964 : BitVec 32 := 3#32
  let v2239 : BitVec 32 := Scalar.addi v2238 c3_i32_964
  let c256_i32_965 : BitVec 32 := 256#32
  let v2240 : BitVec 32 := Scalar.muli v2239 c256_i32_965
  let c128_i32_966 : BitVec 32 := 128#32
  let v2241 : BitVec 32 := Scalar.subi v2240 c128_i32_966
  let v2242 : BitVec 32 := Scalar.maxsi c0_i32_967 v2241
  let v2243 : BitVec 32 := Scalar.minsi c1536_i32_968 v2242
  v2243
def k0_mult41 (i : grid0.Coords) : BitVec 32 :=
  let c1536_i32_983 : BitVec 32 := 1536#32
  let c0_i32_982 : BitVec 32 := 0#32
  let arg1 : BitVec 32 := BitVec.ofNat 32 (i 1).val
  let c4_i32_978 : BitVec 32 := 4#32
  let v2271 : BitVec 32 := Scalar.muli arg1 c4_i32_978
  let c3_i32_979 : BitVec 32 := 3#32
  let v2272 : BitVec 32 := Scalar.addi v2271 c3_i32_979
  let c256_i32_980 : BitVec 32 := 256#32
  let v2273 : BitVec 32 := Scalar.muli v2272 c256_i32_980
  let c128_i32_981 : BitVec 32 := 128#32
  let v2274 : BitVec 32 := Scalar.subi v2273 c128_i32_981
  let v2275 : BitVec 32 := Scalar.maxsi c0_i32_982 v2274
  let v2276 : BitVec 32 := Scalar.minsi c1536_i32_983 v2275
  v2276
def k0_mult42 (i : grid0.Coords) : BitVec 32 :=
  let c1536_i32_1033 : BitVec 32 := 1536#32
  let c0_i32_1032 : BitVec 32 := 0#32
  let arg1 : BitVec 32 := BitVec.ofNat 32 (i 1).val
  let c4_i32_1028 : BitVec 32 := 4#32
  let v2401 : BitVec 32 := Scalar.muli arg1 c4_i32_1028
  let c3_i32_1029 : BitVec 32 := 3#32
  let v2402 : BitVec 32 := Scalar.addi v2401 c3_i32_1029
  let c256_i32_1030 : BitVec 32 := 256#32
  let v2403 : BitVec 32 := Scalar.muli v2402 c256_i32_1030
  let c128_i32_1031 : BitVec 32 := 128#32
  let v2404 : BitVec 32 := Scalar.subi v2403 c128_i32_1031
  let v2405 : BitVec 32 := Scalar.maxsi c0_i32_1032 v2404
  let v2406 : BitVec 32 := Scalar.minsi c1536_i32_1033 v2405
  v2406
def k0_mult43 (i : grid0.Coords) : BitVec 32 :=
  let c1536_i32_1045 : BitVec 32 := 1536#32
  let c0_i32_1044 : BitVec 32 := 0#32
  let arg1 : BitVec 32 := BitVec.ofNat 32 (i 1).val
  let c4_i32_1040 : BitVec 32 := 4#32
  let v2415 : BitVec 32 := Scalar.muli arg1 c4_i32_1040
  let c3_i32_1041 : BitVec 32 := 3#32
  let v2416 : BitVec 32 := Scalar.addi v2415 c3_i32_1041
  let c256_i32_1042 : BitVec 32 := 256#32
  let v2417 : BitVec 32 := Scalar.muli v2416 c256_i32_1042
  let c128_i32_1043 : BitVec 32 := 128#32
  let v2418 : BitVec 32 := Scalar.subi v2417 c128_i32_1043
  let v2419 : BitVec 32 := Scalar.maxsi c0_i32_1044 v2418
  let v2420 : BitVec 32 := Scalar.minsi c1536_i32_1045 v2419
  v2420
def k0_mult44 (i : grid0.Coords) : BitVec 32 :=
  let c1536_i32_1060 : BitVec 32 := 1536#32
  let c0_i32_1059 : BitVec 32 := 0#32
  let arg1 : BitVec 32 := BitVec.ofNat 32 (i 1).val
  let c4_i32_1055 : BitVec 32 := 4#32
  let v2448 : BitVec 32 := Scalar.muli arg1 c4_i32_1055
  let c3_i32_1056 : BitVec 32 := 3#32
  let v2449 : BitVec 32 := Scalar.addi v2448 c3_i32_1056
  let c256_i32_1057 : BitVec 32 := 256#32
  let v2450 : BitVec 32 := Scalar.muli v2449 c256_i32_1057
  let c128_i32_1058 : BitVec 32 := 128#32
  let v2451 : BitVec 32 := Scalar.subi v2450 c128_i32_1058
  let v2452 : BitVec 32 := Scalar.maxsi c0_i32_1059 v2451
  let v2453 : BitVec 32 := Scalar.minsi c1536_i32_1060 v2452
  v2453
def k0_mult45 (i : grid0.Coords) : BitVec 32 :=
  let c1536_i32_1110 : BitVec 32 := 1536#32
  let c0_i32_1109 : BitVec 32 := 0#32
  let arg1 : BitVec 32 := BitVec.ofNat 32 (i 1).val
  let c4_i32_1105 : BitVec 32 := 4#32
  let v2578 : BitVec 32 := Scalar.muli arg1 c4_i32_1105
  let c3_i32_1106 : BitVec 32 := 3#32
  let v2579 : BitVec 32 := Scalar.addi v2578 c3_i32_1106
  let c256_i32_1107 : BitVec 32 := 256#32
  let v2580 : BitVec 32 := Scalar.muli v2579 c256_i32_1107
  let c128_i32_1108 : BitVec 32 := 128#32
  let v2581 : BitVec 32 := Scalar.subi v2580 c128_i32_1108
  let v2582 : BitVec 32 := Scalar.maxsi c0_i32_1109 v2581
  let v2583 : BitVec 32 := Scalar.minsi c1536_i32_1110 v2582
  v2583
def k0_mult46 (i : grid0.Coords) : BitVec 32 :=
  let c1536_i32_1122 : BitVec 32 := 1536#32
  let c0_i32_1121 : BitVec 32 := 0#32
  let arg1 : BitVec 32 := BitVec.ofNat 32 (i 1).val
  let c4_i32_1117 : BitVec 32 := 4#32
  let v2592 : BitVec 32 := Scalar.muli arg1 c4_i32_1117
  let c3_i32_1118 : BitVec 32 := 3#32
  let v2593 : BitVec 32 := Scalar.addi v2592 c3_i32_1118
  let c256_i32_1119 : BitVec 32 := 256#32
  let v2594 : BitVec 32 := Scalar.muli v2593 c256_i32_1119
  let c128_i32_1120 : BitVec 32 := 128#32
  let v2595 : BitVec 32 := Scalar.subi v2594 c128_i32_1120
  let v2596 : BitVec 32 := Scalar.maxsi c0_i32_1121 v2595
  let v2597 : BitVec 32 := Scalar.minsi c1536_i32_1122 v2596
  v2597
def k0_mult47 (i : grid0.Coords) : BitVec 32 :=
  let c1536_i32_1137 : BitVec 32 := 1536#32
  let c0_i32_1136 : BitVec 32 := 0#32
  let arg1 : BitVec 32 := BitVec.ofNat 32 (i 1).val
  let c4_i32_1132 : BitVec 32 := 4#32
  let v2625 : BitVec 32 := Scalar.muli arg1 c4_i32_1132
  let c3_i32_1133 : BitVec 32 := 3#32
  let v2626 : BitVec 32 := Scalar.addi v2625 c3_i32_1133
  let c256_i32_1134 : BitVec 32 := 256#32
  let v2627 : BitVec 32 := Scalar.muli v2626 c256_i32_1134
  let c128_i32_1135 : BitVec 32 := 128#32
  let v2628 : BitVec 32 := Scalar.subi v2627 c128_i32_1135
  let v2629 : BitVec 32 := Scalar.maxsi c0_i32_1136 v2628
  let v2630 : BitVec 32 := Scalar.minsi c1536_i32_1137 v2629
  v2630
def k0_mult48 (i : grid0.Coords) : BitVec 32 :=
  let c1536_i32_1171 : BitVec 32 := 1536#32
  let c0_i32_1170 : BitVec 32 := 0#32
  let arg1 : BitVec 32 := BitVec.ofNat 32 (i 1).val
  let c4_i32_1166 : BitVec 32 := 4#32
  let v2730 : BitVec 32 := Scalar.muli arg1 c4_i32_1166
  let c3_i32_1167 : BitVec 32 := 3#32
  let v2731 : BitVec 32 := Scalar.addi v2730 c3_i32_1167
  let c256_i32_1168 : BitVec 32 := 256#32
  let v2732 : BitVec 32 := Scalar.muli v2731 c256_i32_1168
  let c128_i32_1169 : BitVec 32 := 128#32
  let v2733 : BitVec 32 := Scalar.subi v2732 c128_i32_1169
  let v2734 : BitVec 32 := Scalar.maxsi c0_i32_1170 v2733
  let v2735 : BitVec 32 := Scalar.minsi c1536_i32_1171 v2734
  v2735
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .smem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel5Ideal.lean ====
variable {F : FTy → Type} [FloatOps F] [Named F]
def κ : String → Option EReal := fun
  | "log2e" => some (((Real.log 2)⁻¹ : ℝ) : EReal)
  | _ => none
-- ==== Reference5Ideal.lean ====
abbrev S16x2048x1024 : Shape := ⟨3, ![16, 2048, 1024]⟩
abbrev S16x2048x512 : Shape := ⟨3, ![16, 2048, 512]⟩
abbrev S16x256x512 : Shape := ⟨3, ![16, 256, 512]⟩
abbrev S16 : Shape := ⟨1, ![16]⟩
abbrev S3x256x512 : Shape := ⟨3, ![3, 256, 512]⟩
abbrev S16x2048x4x4x64 : Shape := ⟨5, ![16, 2048, 4, 4, 64]⟩
abbrev S16x2304x512 : Shape := ⟨3, ![16, 2304, 512]⟩
abbrev S16x2304x4x2x64 : Shape := ⟨5, ![16, 2304, 4, 2, 64]⟩
abbrev S16x2304x4x1x64 : Shape := ⟨5, ![16, 2304, 4, 1, 64]⟩
abbrev S16x2304x4x64 : Shape := ⟨4, ![16, 2304, 4, 64]⟩
abbrev S16x4x2304x2048x4 : Shape := ⟨5, ![16, 4, 2304, 2048, 4]⟩
abbrev S16x4x4x2048x2304 : Shape := ⟨5, ![16, 4, 4, 2048, 2304]⟩
abbrev S_ : Shape := ⟨0, ![]⟩
abbrev S2048 : Shape := ⟨1, ![2048]⟩
abbrev S2048x1 : Shape := ⟨2, ![2048, 1]⟩
abbrev S2304 : Shape := ⟨1, ![2304]⟩
abbrev S1x2304 : Shape := ⟨2, ![1, 2304]⟩
abbrev S2048x2304 : Shape := ⟨2, ![2048, 2304]⟩
abbrev S4x4 : Shape := ⟨2, ![4, 4]⟩
abbrev S1x4x4x1x1 : Shape := ⟨5, ![1, 4, 4, 1, 1]⟩
abbrev S16x4x4x2048x1 : Shape := ⟨5, ![16, 4, 4, 2048, 1]⟩
abbrev S16x4x4x2048x2305 : Shape := ⟨5, ![16, 4, 4, 2048, 2305]⟩
abbrev S16x4x4x2048 : Shape := ⟨4, ![16, 4, 4, 2048]⟩
abbrev S16x4x64x4x2048 : Shape := ⟨5, ![16, 4, 64, 4, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x512, .bf16⟩
  | .hbm, ⟨2, _⟩ => ⟨S16x2048x512, .bf16⟩
  | .hbm, ⟨3, _⟩ => ⟨S16x256x512, .bf16⟩
  | .hbm, ⟨4, _⟩ => ⟨S16x256x512, .bf16⟩
  | .hbm, ⟨5, _⟩ => ⟨S16, .f32⟩
  | .hbm, ⟨6, _⟩ => ⟨S3x256x512, .f32⟩
  | .hbm, ⟨7, _⟩ => ⟨S16x2048x1024, .f32⟩
  | .hbm, ⟨8, _⟩ => ⟨S16x2048x4x4x64, .f32⟩
  | .hbm, ⟨9, _⟩ => ⟨S16x2304x512, .bf16⟩
  | .hbm, ⟨10, _⟩ => ⟨S16x2304x512, .f32⟩
  | .hbm, ⟨11, _⟩ => ⟨S16x2304x4x2x64, .f32⟩
  | .hbm, ⟨12, _⟩ => ⟨S16x2304x4x1x64, .f32⟩
  | .hbm, ⟨13, _⟩ => ⟨S16x2304x4x64, .f32⟩
  | .hbm, ⟨14, _⟩ => ⟨S16x2304x512, .bf16⟩
  | .hbm, ⟨15, _⟩ => ⟨S16x2304x512, .f32⟩
  | .hbm, ⟨16, _⟩ => ⟨S16x2304x4x2x64, .f32⟩
  | .hbm, ⟨17, _⟩ => ⟨S16x2304x4x1x64, .f32⟩
  | .hbm, ⟨18, _⟩ => ⟨S16x2304x4x64, .f32⟩
  | .hbm, ⟨19, _⟩ => ⟨S16x4x2304x2048x4, .f32⟩
  | .hbm, ⟨20, _⟩ => ⟨S16x4x4x2048x2304, .f32⟩
  | .hbm, ⟨21, _⟩ => ⟨S_, .f32⟩
  | .hbm, ⟨22, _⟩ => ⟨S_, .f32⟩
  | .hbm, ⟨23, _⟩ => ⟨S16x4x4x2048x2304, .f32⟩
  | .hbm, ⟨24, _⟩ => ⟨S16x4x4x2048x2304, .f32⟩
  | .hbm, ⟨25, _⟩ => ⟨S2048, .i32⟩
  | .hbm, ⟨26, _⟩ => ⟨S2048x1, .i32⟩
  | .hbm, ⟨27, _⟩ => ⟨S2304, .i32⟩
  | .hbm, ⟨28, _⟩ => ⟨S1x2304, .i32⟩
  | .hbm, ⟨29, _⟩ => ⟨S2048x2304, .i32⟩
  | .hbm, ⟨30, _⟩ => ⟨S2048x2304, .i32⟩
  | .hbm, ⟨31, _⟩ => ⟨S2048x2304, .i32⟩
  | .hbm, ⟨32, _⟩ => ⟨S2048x2304, .i32⟩
  | .hbm, ⟨33, _⟩ => ⟨S_, .i32⟩
  | .hbm, ⟨34, _⟩ => ⟨S2048x2304, .i32⟩
  | .hbm, ⟨35, _⟩ => ⟨S2048x2304, .i1⟩
  | .hbm, ⟨36, _⟩ => ⟨S_, .i32⟩
  | .hbm, ⟨37, _⟩ => ⟨S1x2304, .i32⟩
  | .hbm, ⟨38, _⟩ => ⟨S1x2304, .i1⟩
  | .hbm, ⟨39, _⟩ => ⟨S2048x2304, .i1⟩
  | .hbm, ⟨40, _⟩ => ⟨S2048x2304, .i1⟩
  | .hbm, ⟨41, _⟩ => ⟨S_, .f32⟩
  | .hbm, ⟨42, _⟩ => ⟨S_, .f32⟩
  | .hbm, ⟨43, _⟩ => ⟨S16x4x4x2048x2304, .i1⟩
  | .hbm, ⟨44, _⟩ => ⟨S16x4x4x2048x2304, .f32⟩
  | .hbm, ⟨45, _⟩ => ⟨S16x4x4x2048x2304, .f32⟩
  | .hbm, ⟨46, _⟩ => ⟨S4x4, .f32⟩
  | .hbm, ⟨47, _⟩ => ⟨S1x4x4x1x1, .f32⟩
  | .hbm, ⟨48, _⟩ => ⟨S16x4x4x2048x1, .f32⟩
  | .hbm, ⟨49, _⟩ => ⟨S16x4x4x2048x2305, .f32⟩
  | .hbm, ⟨50, _⟩ => ⟨S_, .f32⟩
  | .hbm, ⟨51, _⟩ => ⟨S16x4x4x2048, .f32⟩
  | .hbm, ⟨52, _⟩ => ⟨S_, .f32⟩
  | .hbm, ⟨53, _⟩ => ⟨S16x4x4x2048, .f32⟩
  | .hbm, ⟨54, _⟩ => ⟨S16x4x4x2048, .f32⟩
  | .hbm, ⟨55, _⟩ => ⟨S16x4x4x2048x1, .f32⟩
  | .hbm, ⟨56, _⟩ => ⟨S16x4x4x2048x2305, .f32⟩
  | .hbm, ⟨57, _⟩ => ⟨S16x4x4x2048x2305, .f32⟩
  | .hbm, ⟨58, _⟩ => ⟨S16x4x4x2048x2305, .f32⟩
  | .hbm, ⟨59, _⟩ => ⟨S_, .f32⟩
  | .hbm, ⟨60, _⟩ => ⟨S16x4x4x2048, .f32⟩
  | .hbm, ⟨61, _⟩ => ⟨S16x4x4x2048x1, .f32⟩
  | .hbm, ⟨62, _⟩ => ⟨S16x4x4x2048x2305, .f32⟩
  | .hbm, ⟨63, _⟩ => ⟨S16x4x4x2048x2305, .f32⟩
  | .hbm, ⟨64, _⟩ => ⟨S16x4x4x2048x2304, .f32⟩
  | .hbm, ⟨65, _⟩ => ⟨S16x4x64x4x2048, .f32⟩
  | .hbm, ⟨66, _⟩ => ⟨S16x2048x4x4x64, .f32⟩
  | .hbm, ⟨67, _⟩ => ⟨S16x2048x1024, .f32⟩
  | .hbm, ⟨68, _⟩ => ⟨S16x2048x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_c_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel6.lean ====
abbrev S16x2048x1024 : Shape := ⟨3, ![16, 2048, 1024]⟩
abbrev S16x6x1024 : Shape := ⟨3, ![16, 6, 1024]⟩
abbrev S1024 : Shape := ⟨1, ![1024]⟩
abbrev S1024x1536 : Shape := ⟨2, ![1024, 1536]⟩
abbrev S64 : Shape := ⟨1, ![64]⟩
abbrev S2048x2x16 : Shape := ⟨3, ![2048, 2, 16]⟩
abbrev S128x128 : Shape := ⟨2, ![128, 128]⟩
abbrev S2048x2x1x16 : Shape := ⟨4, ![2048, 2, 1, 16]⟩
abbrev S2048x2x2x16 : Shape := ⟨4, ![2048, 2, 2, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S_ : Shape := ⟨0, ![]⟩
abbrev S1x128 : Shape := ⟨2, ![1, 128]⟩
abbrev S16x2048x512 : Shape := ⟨3, ![16, 2048, 512]⟩
abbrev S1x512x1024 : Shape := ⟨3, ![1, 512, 1024]⟩
abbrev S1x6x1024 : Shape := ⟨3, ![1, 6, 1024]⟩
abbrev S512x128 : Shape := ⟨2, ![512, 128]⟩
abbrev S1x512x512 : Shape := ⟨3, ![1, 512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x128 : Shape := ⟨3, ![1, 512, 128]⟩

abbrev nBuf : Space → Nat
  | .hbm => 39
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024x1536, .bf16⟩
  | .hbm, ⟨4, _⟩ => ⟨S64, .f32⟩
  | .hbm, ⟨5, _⟩ => ⟨S64, .f32⟩
  | .hbm, ⟨6, _⟩ => ⟨S2048x2x16, .f32⟩
  | .hbm, ⟨7, _⟩ => ⟨S2048x2x16, .f32⟩
  | .hbm, ⟨8, _⟩ => ⟨S128x128, .bf16⟩
  | .hbm, ⟨9, _⟩ => ⟨S2048x2x1x16, .f32⟩
  | .hbm, ⟨10, _⟩ => ⟨S2048x2x1x16, .f32⟩
  | .hbm, ⟨11, _⟩ => ⟨S2048x2x2x16, .f32⟩
  | .hbm, ⟨12, _⟩ => ⟨S2048x2x16, .f32⟩
  | .hbm, ⟨13, _⟩ => ⟨S2048x2x1x16, .f32⟩
  | .hbm, ⟨14, _⟩ => ⟨S2048x2x1x16, .f32⟩
  | .hbm, ⟨15, _⟩ => ⟨S2048x2x2x16, .f32⟩
  | .hbm, ⟨16, _⟩ => ⟨S2048x64, .f32⟩
  | .hbm, ⟨17, _⟩ => ⟨S1x2048x1x64, .f32⟩
  | .hbm, ⟨18, _⟩ => ⟨S1x2048x2x64, .f32⟩
  | .hbm, ⟨19, _⟩ => ⟨S2048x128, .f32⟩
  | .hbm, ⟨20, _⟩ => ⟨S2048x64, .f32⟩
  | .hbm, ⟨21, _⟩ => ⟨S1x2048x1x64, .f32⟩
  | .hbm, ⟨22, _⟩ => ⟨S1x2048x2x64, .f32⟩
  | .hbm, ⟨23, _⟩ => ⟨S2048x128, .f32⟩
  | .hbm, ⟨24, _⟩ => ⟨S1x1024, .f32⟩
  | .hbm, ⟨25, _⟩ => ⟨S1x64, .f32⟩
  | .hbm, ⟨26, _⟩ => ⟨S2x64, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S1x128, .f32⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S1x128, .f32⟩
  | .hbm, ⟨36, _⟩ => ⟨S16x2048x1024, .bf16⟩
  | .hbm, ⟨37, _⟩ => ⟨S16x2048x512, .bf16⟩
  | .hbm, ⟨38, _⟩ => ⟨S16x2048x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1x128, .f32⟩
  | .local _ .vmem, ⟨7, _⟩ => ⟨S1x128, .f32⟩
  | .local _ .vmem, ⟨8, _⟩ => ⟨S128x128, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S16x2048x1024 : Shape := ⟨3, ![16, 2048, 1024]⟩
abbrev S16x6x1024 : Shape := ⟨3, ![16, 6, 1024]⟩
abbrev S1024 : Shape := ⟨1, ![1024]⟩
abbrev S1024x1536 : Shape := ⟨2, ![1024, 1536]⟩
abbrev S64 : Shape := ⟨1, ![64]⟩
abbrev S2048x2x16 : Shape := ⟨3, ![2048, 2, 16]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1536 : Shape := ⟨3, ![16, 2048, 1536]⟩
abbrev S16x2048x16x64 : Shape := ⟨4, ![16, 2048, 16, 64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x2048x16x32 : Shape := ⟨4, ![16, 2048, 16, 32]⟩
abbrev S2048x1x16 : Shape := ⟨3, ![2048, 1, 16]⟩
abbrev S2048x16 : Shape := ⟨2, ![2048, 16]⟩
abbrev S16x2048x16x16 : Shape := ⟨4, ![16, 2048, 16, 16]⟩
abbrev S1x2048x1x16 : Shape := ⟨4, ![1, 2048, 1, 16]⟩
abbrev S16x2048x256 : Shape := ⟨3, ![16, 2048, 256]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16x2048x4x32 : Shape := ⟨4, ![16, 2048, 4, 32]⟩
abbrev S16x2048x4x16 : Shape := ⟨4, ![16, 2048, 4, 16]⟩
abbrev S16x2048x4x128 : Shape := ⟨4, ![16, 2048, 4, 128]⟩
abbrev S16x2048x512 : Shape := ⟨3, ![16, 2048, 512]⟩

abbrev nBuf : Space → Nat
  | .hbm => 184
  | .vmem => 0
  | .smem => 0
  | _ => 0

abbrev hbmTy0_0 (i : Nat) : BufTy := match i % 128 with
  | 0 => ⟨S16x2048x1024, .f32⟩
  | 1 => ⟨S16x6x1024, .f32⟩
  | 2 => ⟨S1024, .f32⟩
  | 3 => ⟨S1024x1536, .bf16⟩
  | 4 => ⟨S64, .f32⟩
  | 5 => ⟨S64, .f32⟩
  | 6 => ⟨S2048x2x16, .f32⟩
  | 7 => ⟨S2048x2x16, .f32⟩
  | 8 => ⟨S16x1x1024, .f32⟩
  | 9 => ⟨S16x1x1024, .f32⟩
  | 10 => ⟨S16x2048x1024, .f32⟩
  | 11 => ⟨S_, .f32⟩
  | 12 => ⟨S16x2048, .f32⟩
  | 13 => ⟨S16x2048x1, .f32⟩
  | 14 => ⟨S_, .f32⟩
  | 15 => ⟨S16x2048x1, .f32⟩
  | 16 => ⟨S16x2048x1, .f32⟩
  | 17 => ⟨S_, .f32⟩
  | 18 => ⟨S16x2048x1, .f32⟩
  | 19 => ⟨S16x2048x1, .f32⟩
  | 20 => ⟨S16x2048x1, .f32⟩
  | 21 => ⟨S16x2048x1024, .f32⟩
  | 22 => ⟨S16x2048x1024, .f32⟩
  | 23 => ⟨S1x1x1024, .f32⟩
  | 24 => ⟨S16x2048x1024, .f32⟩
  | 25 => ⟨S16x2048x1024, .f32⟩
  | 26 => ⟨S_, .f32⟩
  | 27 => ⟨S16x1x1024, .f32⟩
  | 28 => ⟨S16x1x1024, .f32⟩
  | 29 => ⟨S16x2048x1024, .f32⟩
  | 30 => ⟨S16x2048x1024, .f32⟩
  | 31 => ⟨S16x2048x1024, .f32⟩
  | 32 => ⟨S16x2048x1024, .f32⟩
  | 33 => ⟨S1024x1536, .f32⟩
  | 34 => ⟨S16x2048x1536, .f32⟩
  | 35 => ⟨S16x2048x1024, .f32⟩
  | 36 => ⟨S16x2048x16x64, .f32⟩
  | 37 => ⟨S16x2048x16x64, .f32⟩
  | 38 => ⟨S_, .f32⟩
  | 39 => ⟨S16x2048x16, .f32⟩
  | 40 => ⟨S16x2048x16x1, .f32⟩
  | 41 => ⟨S_, .f32⟩
  | 42 => ⟨S16x2048x16x1, .f32⟩
  | 43 => ⟨S16x2048x16x1, .f32⟩
  | 44 => ⟨S_, .f32⟩
  | 45 => ⟨S16x2048x16x1, .f32⟩
  | 46 => ⟨S16x2048x16x1, .f32⟩
  | 47 => ⟨S16x2048x16x1, .f32⟩
  | 48 => ⟨S16x2048x16x64, .f32⟩
  | 49 => ⟨S16x2048x16x64, .f32⟩
  | 50 => ⟨S1x1x1x64, .f32⟩
  | 51 => ⟨S16x2048x16x64, .f32⟩
  | 52 => ⟨S16x2048x16x64, .f32⟩
  | 53 => ⟨S_, .f32⟩
  | 54 => ⟨S16x2048x16x64, .f32⟩
  | 55 => ⟨S16x2048x16x64, .f32⟩
  | 56 => ⟨S16x2048x16x32, .f32⟩
  | 57 => ⟨S2048x1x16, .f32⟩
  | 58 => ⟨S2048x16, .f32⟩
  | 59 => ⟨S2048x1x16, .f32⟩
  | 60 => ⟨S2048x16, .f32⟩
  | 61 => ⟨S16x2048x16x16, .f32⟩
  | 62 => ⟨S16x2048x16x16, .f32⟩
  | 63 => ⟨S2048x1x16, .f32⟩
  | 64 => ⟨S2048x1x16, .f32⟩
  | 65 => ⟨S1x2048x1x16, .f32⟩
  | 66 => ⟨S16x2048x16x16, .f32⟩
  | 67 => ⟨S16x2048x16x16, .f32⟩
  | 68 => ⟨S1x2048x1x16, .f32⟩
  | 69 => ⟨S16x2048x16x16, .f32⟩
  | 70 => ⟨S16x2048x16x16, .f32⟩
  | 71 => ⟨S16x2048x16x16, .f32⟩
  | 72 => ⟨S1x2048x1x16, .f32⟩
  | 73 => ⟨S16x2048x16x16, .f32⟩
  | 74 => ⟨S16x2048x16x16, .f32⟩
  | 75 => ⟨S1x2048x1x16, .f32⟩
  | 76 => ⟨S16x2048x16x16, .f32⟩
  | 77 => ⟨S16x2048x16x16, .f32⟩
  | 78 => ⟨S16x2048x16x16, .f32⟩
  | 79 => ⟨S16x2048x16x32, .f32⟩
  | 80 => ⟨S16x2048x16x32, .f32⟩
  | 81 => ⟨S2048x1x16, .f32⟩
  | 82 => ⟨S2048x16, .f32⟩
  | 83 => ⟨S2048x1x16, .f32⟩
  | 84 => ⟨S2048x16, .f32⟩
  | 85 => ⟨S16x2048x16x16, .f32⟩
  | 86 => ⟨S16x2048x16x16, .f32⟩
  | 87 => ⟨S2048x1x16, .f32⟩
  | 88 => ⟨S2048x1x16, .f32⟩
  | 89 => ⟨S1x2048x1x16, .f32⟩
  | 90 => ⟨S16x2048x16x16, .f32⟩
  | 91 => ⟨S16x2048x16x16, .f32⟩
  | 92 => ⟨S1x2048x1x16, .f32⟩
  | 93 => ⟨S16x2048x16x16, .f32⟩
  | 94 => ⟨S16x2048x16x16, .f32⟩
  | 95 => ⟨S16x2048x16x16, .f32⟩
  | 96 => ⟨S1x2048x1x16, .f32⟩
  | 97 => ⟨S16x2048x16x16, .f32⟩
  | 98 => ⟨S16x2048x16x16, .f32⟩
  | 99 => ⟨S1x2048x1x16, .f32⟩
  | 100 => ⟨S16x2048x16x16, .f32⟩
  | 101 => ⟨S16x2048x16x16, .f32⟩
  | 102 => ⟨S16x2048x16x16, .f32⟩
  | 103 => ⟨S16x2048x16x32, .f32⟩
  | 104 => ⟨S16x2048x16x64, .f32⟩
  | 105 => ⟨S16x2048x256, .f32⟩
  | 106 => ⟨S16x2048x4x64, .f32⟩
  | 107 => ⟨S16x2048x4x64, .f32⟩
  | 108 => ⟨S_, .f32⟩
  | 109 => ⟨S16x2048x4, .f32⟩
  | 110 => ⟨S16x2048x4x1, .f32⟩
  | 111 => ⟨S_, .f32⟩
  | 112 => ⟨S16x2048x4x1, .f32⟩
  | 113 => ⟨S16x2048x4x1, .f32⟩
  | 114 => ⟨S_, .f32⟩
  | 115 => ⟨S16x2048x4x1, .f32⟩
  | 116 => ⟨S16x2048x4x1, .f32⟩
  | 117 => ⟨S16x2048x4x1, .f32⟩
  | 118 => ⟨S16x2048x4x64, .f32⟩
  | 119 => ⟨S16x2048x4x64, .f32⟩
  | 120 => ⟨S1x1x1x64, .f32⟩
  | 121 => ⟨S16x2048x4x64, .f32⟩
  | 122 => ⟨S16x2048x4x64, .f32⟩
  | 123 => ⟨S16x2048x4x32, .f32⟩
  | 124 => ⟨S2048x1x16, .f32⟩
  | 125 => ⟨S2048x16, .f32⟩
  | 126 => ⟨S2048x1x16, .f32⟩
  | 127 => ⟨S2048x16, .f32⟩
  | _ => ⟨S16x2048x1024, .f32⟩

abbrev hbmTy0_1 (i : Nat) : BufTy := match i % 128 with
  | 0 => ⟨S16x2048x4x16, .f32⟩
  | 1 => ⟨S16x2048x4x16, .f32⟩
  | 2 => ⟨S2048x1x16, .f32⟩
  | 3 => ⟨S2048x1x16, .f32⟩
  | 4 => ⟨S1x2048x1x16, .f32⟩
  | 5 => ⟨S16x2048x4x16, .f32⟩
  | 6 => ⟨S16x2048x4x16, .f32⟩
  | 7 => ⟨S1x2048x1x16, .f32⟩
  | 8 => ⟨S16x2048x4x16, .f32⟩
  | 9 => ⟨S16x2048x4x16, .f32⟩
  | 10 => ⟨S16x2048x4x16, .f32⟩
  | 11 => ⟨S1x2048x1x16, .f32⟩
  | 12 => ⟨S16x2048x4x16, .f32⟩
  | 13 => ⟨S16x2048x4x16, .f32⟩
  | 14 => ⟨S1x2048x1x16, .f32⟩
  | 15 => ⟨S16x2048x4x16, .f32⟩
  | 16 => ⟨S16x2048x4x16, .f32⟩
  | 17 => ⟨S16x2048x4x16, .f32⟩
  | 18 => ⟨S16x2048x4x32, .f32⟩
  | 19 => ⟨S16x2048x4x32, .f32⟩
  | 20 => ⟨S2048x1x16, .f32⟩
  | 21 => ⟨S2048x16, .f32⟩
  | 22 => ⟨S2048x1x16, .f32⟩
  | 23 => ⟨S2048x16, .f32⟩
  | 24 => ⟨S16x2048x4x16, .f32⟩
  | 25 => ⟨S16x2048x4x16, .f32⟩
  | 26 => ⟨S2048x1x16, .f32⟩
  | 27 => ⟨S2048x1x16, .f32⟩
  | 28 => ⟨S1x2048x1x16, .f32⟩
  | 29 => ⟨S16x2048x4x16, .f32⟩
  | 30 => ⟨S16x2048x4x16, .f32⟩
  | 31 => ⟨S1x2048x1x16, .f32⟩
  | 32 => ⟨S16x2048x4x16, .f32⟩
  | 33 => ⟨S16x2048x4x16, .f32⟩
  | 34 => ⟨S16x2048x4x16, .f32⟩
  | 35 => ⟨S1x2048x1x16, .f32⟩
  | 36 => ⟨S16x2048x4x16, .f32⟩
  | 37 => ⟨S16x2048x4x16, .f32⟩
  | 38 => ⟨S1x2048x1x16, .f32⟩
  | 39 => ⟨S16x2048x4x16, .f32⟩
  | 40 => ⟨S16x2048x4x16, .f32⟩
  | 41 => ⟨S16x2048x4x16, .f32⟩
  | 42 => ⟨S16x2048x4x32, .f32⟩
  | 43 => ⟨S16x2048x4x64, .f32⟩
  | 44 => ⟨S16x2048x256, .f32⟩
  | 45 => ⟨S16x2048x4x64, .f32⟩
  | 46 => ⟨S16x2048x1024, .f32⟩
  | 47 => ⟨S16x2048x1024, .bf16⟩
  | 48 => ⟨S16x2048x4x128, .f32⟩
  | 49 => ⟨S16x2048x512, .f32⟩
  | 50 => ⟨S16x2048x512, .bf16⟩
  | 51 => ⟨S_, .f32⟩
  | 52 => ⟨S16x2048x4x64, .f32⟩
  | 53 => ⟨S16x2048x4x128, .f32⟩
  | 54 => ⟨S16x2048x512, .f32⟩
  | 55 => ⟨S16x2048x512, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_7 : Ref sig .tc := ⟨.hbm, 108, rfl⟩
abbrev main_v92 : Ref sig .tc := ⟨.hbm, 109, rfl⟩
abbrev main_v93 : Ref sig .tc := ⟨.hbm, 110, rfl⟩
abbrev main_cst_8 : Ref sig .tc := ⟨.hbm, 111, rfl⟩
abbrev main_v94 : Ref sig .tc := ⟨.hbm, 112, rfl⟩
abbrev main_v95 : Ref sig .tc := ⟨.hbm, 113, rfl⟩
abbrev main_cst_9 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_cst_10 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩

abbrev nD : Nat := 1
abbrev τ : Topo := Topo.v7x

variable {F : FTy → Type} [FloatOps F]
-- ==== Proof.AttnRow.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

/-! The attention of one query over 2304 keys, in base 2; and each payload of the kernel read at an index as a
piece of it. -/

@[expose] public section
set_option maxRecDepth 16384
noncomputable section
open Idealize.ShloMosaic Idealize.ShloMosaic.TcCoe Idealize.SL.Sem

namespace AttnRow

/-- The greatest score of a row. -/
def top (s : Fin 2304 → EReal) : EReal := Finset.univ.fold max (Ideal.ofBits .f32 0xFF800000#32) s

/-- The unnormalised weight of a key. -/
def weight (s : Fin 2304 → EReal) (k : Fin 2304) : EReal := Ideal.exp2 (s k - top s)

/-- The weighted sum of `w` over the keys. -/
def wsum (s w : Fin 2304 → EReal) : EReal := ∑ k, weight s k * w k

/-- The weighted sum in the kernel's three runs of 768 keys. -/
def acc (s : Fin 2304 → EReal) (a b c : Fin 768 → EReal) : EReal :=
  (∑ k : Fin 768, weight s ⟨k, by omega⟩ * a k) + (∑ k : Fin 768, weight s ⟨768 + k, by omega⟩ * b k)
    + ∑ k : Fin 768, weight s ⟨1536 + k, by omega⟩ * c k

theorem acc_eq (s w : Fin 2304 → EReal) (a b c : Fin 768 → EReal) (ha : ∀ k : Fin 768, a k = w ⟨k, by omega⟩)
    (hb : ∀ k : Fin 768, b k = w ⟨768 + k, by omega⟩) (hc : ∀ k : Fin 768, c k = w ⟨1536 + k, by omega⟩) :
    acc s a b c = wsum s w := by
  unfold acc wsum
  rw [show (∑ k, weight s k * w k) = _ from Fin.sum_univ_add (a := 1536) (b := 768) fun k => weight s k * w k,
    Fin.sum_univ_add (a := 768) (b := 768)]
  simp only [ha, hb, hc]
  rfl

/-- A lane's partner, half a vector away. -/
def opp (j : Fin 128) : Fin 128 := ⟨(j + 128 - 64) % 128, by omega⟩

end AttnRow

namespace Cert.KernelIdeal.Value
open Cert.KernelIdeal Cert.KernelIdeal.Gen AttnRow

/-- The test of a lane against 64. -/
theorem lane_lt {α : Type} (j : Fin 128) (x y : α) :
    Scalar.select (IntOp.cmpi CmpIPredicate.slt (BitVec.ofNat 32 (j : ℕ)) 64#32) x y = if (j : ℕ) < 64 then x else y := by
  have h : ∀ j : Fin 128, IntOp.cmpi CmpIPredicate.slt (BitVec.ofNat 32 (j : ℕ)) 64#32 = if (j : ℕ) < 64 then 1#1 else 0#1 := by
    decide +kernel
  rw [h]
  split <;> rfl

section
variable (q : FVec Ideal S1x512x128 .bf16) (K : FVec Ideal S2304x128 .bf16) (r : Fin 512) (k : Fin 2304)

theorem pay16_at : k0_pay16 (F := Ideal) q K (ix2 r k) = ∑ l : Fin 128, q (ix3 0 r l) * K (ix2 k l) := by pointwise [k0_pay16]
theorem pay17_at : k0_pay17 (F := Ideal) q K = k0_pay16 q K := rfl
theorem pay19_at : k0_pay19 (F := Ideal) q K = k0_pay16 q K := rfl
theorem pay23_at : k0_pay23 (F := Ideal) q K = k0_pay16 q K := rfl
theorem pay25_at : k0_pay25 (F := Ideal) q K = k0_pay16 q K := rfl
theorem pay29_at : k0_pay29 (F := Ideal) q K = k0_pay16 q K := rfl
theorem pay32_at : k0_pay32 (F := Ideal) q K = k0_pay16 q K := rfl
theorem pay36_at : k0_pay36 (F := Ideal) q K = k0_pay16 q K := rfl
end

/-- The quotient of two lanes of the weighted sum of three tiles of values. -/
def ratio (s : FVec Ideal S512x2304 .f32) (a b c : FVec Ideal S1x768x128 .bf16) (r : Fin 512) (n d : Fin 128) : EReal :=
  Ideal.div (acc (fun k => s (ix2 r k)) (fun k => a (ix3 0 k n)) (fun k => b (ix3 0 k n)) (fun k => c (ix3 0 k n)))
    (acc (fun k => s (ix2 r k)) (fun k => a (ix3 0 k d)) (fun k => b (ix3 0 k d)) (fun k => c (ix3 0 k d)))

section
variable (s : FVec Ideal S512x2304 .f32) (a b c : FVec Ideal S1x768x128 .bf16) (h : FVec Ideal S512x128 .f32) (r : Fin 512) (j : Fin 128)

theorem pay18_at : k0_pay18 (F := Ideal) s a b c (ix2 r j) = ratio s a b c r j (opp j) := by
  pointwise [k0_pay18, ratio, acc, weight, top, opp]
  rfl
theorem pay24_at : k0_pay24 (F := Ideal) s a b c (ix2 r j) = ratio s a b c r j (opp j) := by
  pointwise [k0_pay24, ratio, acc, weight, top, opp]
  rfl
theorem pay31_at : k0_pay31 (F := Ideal) s (k0_pay30 s) a b c (ix2 r j) = ratio s a b c r j (opp j) := by
  pointwise [k0_pay31, k0_pay30, ratio, acc, weight, top, opp]
  rfl
theorem pay38_at : k0_pay38 (F := Ideal) s (k0_pay37 s) a b c (ix2 r j) = ratio s a b c r j (opp j) := by
  pointwise [k0_pay38, k0_pay37, ratio, acc, weight, top, opp]
  rfl

theorem pay22_at : k0_pay22 (F := Ideal) k0_pay2 s h (k0_pay20 s) (k0_pay21 s) a b c (ix3 0 r j)
    = if (j : ℕ) < 64 then h (ix2 r j) else ratio s a b c r (opp j) j := by
  rw [← lane_lt]
  pointwise [k0_pay22, k0_pay20, k0_pay21, k0_pay2, ratio, acc, weight, top, opp]
  rfl
theorem pay28_at : k0_pay28 (F := Ideal) k0_pay2 s h (k0_pay26 s) (k0_pay27 s) a b c (ix3 0 r j)
    = if (j : ℕ) < 64 then h (ix2 r j) else ratio s a b c r (opp j) j := by
  rw [← lane_lt]
  pointwise [k0_pay28, k0_pay26, k0_pay27, k0_pay2, ratio, acc, weight, top, opp]
  rfl
theorem pay35_at : k0_pay35 (F := Ideal) k0_pay2 s h (k0_pay33 s) (k0_pay34 s) a b c (ix3 0 r j)
    = if (j : ℕ) < 64 then h (ix2 r j) else ratio s a b c r (opp j) j := by
  rw [← lane_lt]
  pointwise [k0_pay35, k0_pay33, k0_pay34, k0_pay2, ratio, acc, weight, top, opp]
  rfl
theorem pay1_at : k0_pay1 (F := Ideal) k0_pay2 s h (k0_pay39 s) (k0_pay40 s a) (k0_pay41 s) b c (ix3 0 r j)
    = if (j : ℕ) < 64 then h (ix2 r j) else ratio s a b c r (opp j) j := by
  rw [← lane_lt]
  pointwise [k0_pay1, k0_pay39, k0_pay40, k0_pay41, k0_pay2, ratio, acc, weight, top, opp]
  rfl
end

section
variable (v : FVec Ideal S1x2048x128 .bf16) (vc : FVec Ideal S1x256x128 .bf16) (k : Fin 2048) (kc : Fin 256) (j : Fin 128)

theorem pay9_at : k0_pay9 (F := Ideal) v (ix3 0 k j) = if (j : ℕ) < 64 then v (ix3 0 k j) else 1 := by
  rw [← lane_lt]
  pointwise [k0_pay9, k0_pay5, k0_pay6, k0_pay7]
theorem pay10_at : k0_pay10 (F := Ideal) (k0_pay8 v) (ix3 0 k j) = if (j : ℕ) < 64 then v (ix3 0 k (opp j)) else 1 := by
  rw [← lane_lt]
  pointwise [k0_pay8, k0_pay10, k0_pay5, k0_pay6, k0_pay7, opp]
theorem pay14_at : k0_pay14 (F := Ideal) vc (ix3 0 kc j) = if (j : ℕ) < 64 then vc (ix3 0 kc j) else 1 := by
  rw [← lane_lt]
  pointwise [k0_pay14, k0_pay11, k0_pay12, k0_pay13]
theorem pay15_at : k0_pay15 (F := Ideal) vc (ix3 0 kc j) = if (j : ℕ) < 64 then vc (ix3 0 kc (opp j)) else 1 := by
  rw [← lane_lt]
  pointwise [k0_pay15, k0_pay11, k0_pay12, k0_pay13, opp]
end

end Cert.KernelIdeal.Value
end
-- ==== Proof.AttnBlock.lean ====
module

public import proofs.«01_k».proof.Proof.AttnRow

/-! What the attention kernel writes back at a grid point. -/

@[expose] public section
set_option maxRecDepth 16384
noncomputable section
open Idealize.ShloMosaic Idealize.ShloMosaic.TcCoe Idealize.SL.Sem
namespace Cert.KernelIdeal.Value
open Cert.KernelIdeal Cert.KernelIdeal.Gen AttnRow
variable (m : (ℓ : Loc nD τ sig) → Buf (Elt Ideal) ℓ)

section
variable (Q K : FVec Ideal S1x2048x256 .bf16) (KC : FVec Ideal S1x256x256 .bf16) (V : FVec Ideal S1x2048x128 .bf16) (VC : FVec Ideal S1x256x128 .bf16)

/-- The keys of a pair of heads, the sequence's before the context's. -/
def keys (k : Fin 2304) (l : Fin 256) : EReal :=
  if h : (k : ℕ) < 2048 then K (ix3 0 ⟨k, h⟩ l) else KC (ix3 0 ⟨k - 2048, by omega⟩ l)

/-- The values of a pair of heads, the sequence's before the context's. -/
def vals (k : Fin 2304) (j : Fin 128) : EReal :=
  if h : (k : ℕ) < 2048 then V (ix3 0 ⟨k, h⟩ j) else VC (ix3 0 ⟨k - 2048, by omega⟩ j)

/-- The scores of query `r` for head `h` of the pair. -/
def scores (h : Fin 2) (r : Fin 2048) (k : Fin 2304) : EReal :=
  ∑ l : Fin 128, Q (ix3 0 r ⟨128 * h + l, by omega⟩) * keys K KC k ⟨128 * h + l, by omega⟩

/-- The lanes of values of head `h` of the pair, the other half of the lanes being ones. -/
def lanes (h : Fin 2) (k : Fin 2304) (j : Fin 128) : EReal :=
  if (j : ℕ) < 64 then vals V VC k (if h = 0 then j else opp j) else 1

/-- The stores that fill the buffer of keys. -/
abbrev keyStores : List (View.Piece (Elt Ideal) S2304x256 .bf16) :=
  [⟨Rect.unit (s := S2304x256) ![2048, 0] ![256, 256] inb_S2304x256_S256x256_2048_0, k0_pay4 (F := Ideal) KC⟩,
    ⟨Rect.unit (s := S2304x256) ![0, 0] ![2048, 256] inb_S2304x256_S2048x256_0_0, k0_pay3 (F := Ideal) K⟩]

/-- The stores that fill the buffer of values. -/
abbrev valStores : List (View.Piece (Elt Ideal) S2x2304x128 .bf16) :=
  [⟨Rect.unit (s := S2x2304x128) ![1, 2048, 0] ![1, 256, 128] inb_S2x2304x128_S1x256x128_1_2048_0, k0_pay15 (F := Ideal) VC⟩,
    ⟨Rect.unit (s := S2x2304x128) ![0, 2048, 0] ![1, 256, 128] inb_S2x2304x128_S1x256x128_0_2048_0, k0_pay14 (F := Ideal) VC⟩,
    ⟨Rect.unit (s := S2x2304x128) ![1, 0, 0] ![1, 2048, 128] inb_S2x2304x128_S1x2048x128_1_0_0, k0_pay10 (F := Ideal) (k0_pay8 V)⟩,
    ⟨Rect.unit (s := S2x2304x128) ![0, 0, 0] ![1, 2048, 128] inb_S2x2304x128_S1x2048x128_0_0_0, k0_pay9 (F := Ideal) V⟩]

/-- The buffer of keys, as it is filled. -/
theorem keys_read (h : Fin 2) (o : ℕ) (ho : o = 128 * h)
    (hin : ∀ a, (![0, o] : Fin 2 → Nat) a + S2304x128.size a ≤ S2304x256.size a) (k : Fin 2304) (l : Fin 128) :
    View.readCov (Val := Elt Ideal) (View.whole cc0_scratch0) (keyStores K KC)
      (Rect.unit (s := S2304x256) ![0, o] ![2304, 128] hin).toLoadRect (ix2 k l) = keys K KC k ⟨128 * h + l, by omega⟩ := by
  subst ho
  rw [View.readCov_eq_canon']
  canon_tiles x hx using (View.cover_of_tiledBy _ ![256, 256] (by sl_kernel_rfl) _)
  all_goals
    have e0 := hx0
    have e1 := hx1
    simp [Rect.unit] at e0 e1
    clear hx0 hx1
    idx_vars x
    unfold keys
  · rw [dif_neg (by omega)]
    pointwise [k0_pay4]
    blk_ext
  · rw [dif_pos (by omega)]
    pointwise [k0_pay3]
    blk_ext

/-- The buffer of values, as it is filled. -/
theorem vals_read (h : Fin 2) (o' o : ℕ) (ho' : o' = h) (ho : o + 768 ≤ 2304)
    (hin : ∀ a, (![o', o, 0] : Fin 3 → Nat) a + S1x768x128.size a ≤ S2x2304x128.size a) (k : Fin 768) (j : Fin 128) :
    View.readCov (Val := Elt Ideal) (View.whole cc0_scratch1) (valStores V VC)
      (Rect.unit (s := S2x2304x128) ![o', o, 0] ![1, 768, 128] hin).toLoadRect (ix3 0 k j) = lanes V VC h ⟨o + k, by omega⟩ j := by
  subst ho'
  rw [View.readCov_eq_canon']
  canon_tiles x hx using (View.cover_of_tiledBy _ ![1, 256, 128] (by sl_kernel_rfl) _)
  all_goals
    have e0 := hx0
    have e1 := hx1
    have e2 := hx2
    simp [Rect.unit] at e0 e1 e2
    clear hx0 hx1 hx2
    idx_vars x
    obtain rfl : x0 = 0 := Subsingleton.elim _ _
    obtain rfl : x2 = j := Fin.ext (by omega)
    unfold lanes vals
    simp only [pay9_at, pay10_at, pay14_at, pay15_at]
    split
    swap
    · rfl
  · rw [dif_neg (by simp; omega), if_neg (by rintro rfl; simp at e0)]
    blk_ext
  · rw [dif_neg (by simp; omega)]
    blk_ext
  · rw [dif_pos (by omega), if_neg (by rintro rfl; simp at e0)]
    blk_ext
  · rw [dif_pos (by omega)]
    blk_ext

/-- A tile of queries against the keys of head `h`, and then against its values: the quotient of lanes `n` and `d`. -/
theorem ratio_eq (h : Fin 2) (o o' o'' : ℕ) (e' : o' = 128 * h) (e'' : o'' = h) (r : Fin 2048) (r' : Fin 512) (er : (r : ℕ) = o + r') (n d : Fin 128)
    (hq : ∀ a, (![0, o, o'] : Fin 3 → Nat) a + S1x512x128.size a ≤ S1x2048x256.size a)
    (hk : ∀ a, (![0, o'] : Fin 2 → Nat) a + S2304x128.size a ≤ S2304x256.size a)
    (ha : ∀ a, (![o'', 0, 0] : Fin 3 → Nat) a + S1x768x128.size a ≤ S2x2304x128.size a)
    (hb : ∀ a, (![o'', 768, 0] : Fin 3 → Nat) a + S1x768x128.size a ≤ S2x2304x128.size a)
    (hc : ∀ a, (![o'', 1536, 0] : Fin 3 → Nat) a + S1x768x128.size a ≤ S2x2304x128.size a) :
    ratio (k0_pay16 (F := Ideal) (View.ld Q (Rect.unit (s := S1x2048x256) ![0, o, o'] ![1, 512, 128] hq))
        (View.readCov (Val := Elt Ideal) (View.whole cc0_scratch0) (keyStores K KC)
          (Rect.unit (s := S2304x256) ![0, o'] ![2304, 128] hk).toLoadRect))
      (View.readCov (Val := Elt Ideal) (View.whole cc0_scratch1) (valStores V VC) (Rect.unit (s := S2x2304x128) ![o'', 0, 0] ![1, 768, 128] ha).toLoadRect)
      (View.readCov (Val := Elt Ideal) (View.whole cc0_scratch1) (valStores V VC) (Rect.unit (s := S2x2304x128) ![o'', 768, 0] ![1, 768, 128] hb).toLoadRect)
      (View.readCov (Val := Elt Ideal) (View.whole cc0_scratch1) (valStores V VC) (Rect.unit (s := S2x2304x128) ![o'', 1536, 0] ![1, 768, 128] hc).toLoadRect)
      r' n d
    = Ideal.div (wsum (scores Q K KC h r) fun k => lanes V VC h k n) (wsum (scores Q K KC h r) fun k => lanes V VC h k d) := by
  unfold ratio
  have hs : (fun k => k0_pay16 (F := Ideal) (View.ld Q (Rect.unit (s := S1x2048x256) ![0, o, o'] ![1, 512, 128] hq))
      (View.readCov (Val := Elt Ideal) (View.whole cc0_scratch0) (keyStores K KC)
        (Rect.unit (s := S2304x256) ![0, o'] ![2304, 128] hk).toLoadRect) (ix2 r' k)) = scores Q K KC h r := by
    funext k
    rw [pay16_at]
    unfold scores
    refine Fin.sum_fin_congr fun l => Ideal.mul_congr ?_ (keys_read K KC h o' e' hk k l)
    subst e'
    pointwise
    blk_ext
  rw [hs]
  congr 1 <;> refine acc_eq _ _ _ _ _ (fun k => ?_) (fun k => ?_) (fun k => ?_) <;>
    exact (vals_read V VC h o'' _ e'' (by omega) _ k _).trans (by congr 1 <;> exact Fin.ext (by simp))

/-- One tile of the attention at row `r` and lane `j`, from the blocks the kernel was given: lanes 0 to 63 are the
first head's, the others the second's. -/
def tile (r : Fin 2048) (j : Fin 128) : EReal :=
  Ideal.div (wsum (scores Q K KC ⟨j / 64, by omega⟩ r) fun k => vals V VC k j) (wsum (scores Q K KC ⟨j / 64, by omega⟩ r) fun _ => 1)

/-- What is stored at a row and lane of a tile of queries is the tile of the attention. -/
theorem stored_eq (o : ℕ) (r : Fin 2048) (r' : Fin 512) (er : (r : ℕ) = o + r') (j : Fin 128)
    (hq0 : ∀ a, (![0, o, 0] : Fin 3 → Nat) a + S1x512x128.size a ≤ S1x2048x256.size a)
    (hq1 : ∀ a, (![0, o, 128] : Fin 3 → Nat) a + S1x512x128.size a ≤ S1x2048x256.size a) :
    (if (j : ℕ) < 64 then ratio (k0_pay16 (F := Ideal) (View.ld Q (Rect.unit (s := S1x2048x256) ![0, o, 0] ![1, 512, 128] hq0))
          (View.readCov (Val := Elt Ideal) (View.whole cc0_scratch0) (keyStores K KC)
            (Rect.unit (s := S2304x256) ![0, 0] ![2304, 128] inb_S2304x256_S2304x128_0_0).toLoadRect))
        (View.readCov (Val := Elt Ideal) (View.whole cc0_scratch1) (valStores V VC) (Rect.unit (s := S2x2304x128) ![0, 0, 0] ![1, 768, 128] inb_S2x2304x128_S1x768x128_0_0_0).toLoadRect)
        (View.readCov (Val := Elt Ideal) (View.whole cc0_scratch1) (valStores V VC) (Rect.unit (s := S2x2304x128) ![0, 768, 0] ![1, 768, 128] inb_S2x2304x128_S1x768x128_0_768_0).toLoadRect)
        (View.readCov (Val := Elt Ideal) (View.whole cc0_scratch1) (valStores V VC) (Rect.unit (s := S2x2304x128) ![0, 1536, 0] ![1, 768, 128] inb_S2x2304x128_S1x768x128_0_1536_0).toLoadRect)
        r' j (opp j)
      else ratio (k0_pay16 (F := Ideal) (View.ld Q (Rect.unit (s := S1x2048x256) ![0, o, 128] ![1, 512, 128] hq1))
          (View.readCov (Val := Elt Ideal) (View.whole cc0_scratch0) (keyStores K KC)
            (Rect.unit (s := S2304x256) ![0, 128] ![2304, 128] inb_S2304x256_S2304x128_0_128).toLoadRect))
        (View.readCov (Val := Elt Ideal) (View.whole cc0_scratch1) (valStores V VC) (Rect.unit (s := S2x2304x128) ![1, 0, 0] ![1, 768, 128] inb_S2x2304x128_S1x768x128_1_0_0).toLoadRect)
        (View.readCov (Val := Elt Ideal) (View.whole cc0_scratch1) (valStores V VC) (Rect.unit (s := S2x2304x128) ![1, 768, 0] ![1, 768, 128] inb_S2x2304x128_S1x768x128_1_768_0).toLoadRect)
        (View.readCov (Val := Elt Ideal) (View.whole cc0_scratch1) (valStores V VC) (Rect.unit (s := S2x2304x128) ![1, 1536, 0] ![1, 768, 128] inb_S2x2304x128_S1x768x128_1_1536_0).toLoadRect)
        r' (opp j) j) = tile Q K KC V VC r j := by
  unfold tile
  split <;> rename_i hj
  · have hd : (⟨(j : ℕ) / 64, by omega⟩ : Fin 2) = 0 := by apply Fin.ext; simp; omega
    have ho : ¬ (opp j : ℕ) < 64 := by simp only [opp]; omega
    rw [hd]
    refine (ratio_eq Q K KC V VC 0 o 0 0 rfl rfl r r' er _ _ _ _ _ _ _).trans ?_
    simp only [lanes, hj, ho, if_true, if_false]
  · have hd : (⟨(j : ℕ) / 64, by omega⟩ : Fin 2) = 1 := by apply Fin.ext; simp; omega
    have ho : (opp j : ℕ) < 64 := by simp only [opp]; omega
    have hoo : opp (opp j) = j := by apply Fin.ext; simp only [opp]; omega
    rw [hd]
    refine (ratio_eq Q K KC V VC 1 o 128 1 rfl rfl r r' er _ _ _ _ _ _ _).trans ?_
    simp only [lanes, hj, ho, hoo, one_ne_zero, if_true, if_false]

end

/-- What the kernel writes back at a grid point. -/
theorem point (c : Dev nD) (t : Fin cfg0.N) (r : Fin 2048) (j : Fin 128) : outsAt0 m c t (ix3 0 r j)
    = tile (iblk m c 0 t) (iblk m c 1 t) (iblk m c 2 t) (iblk m c 3 t) (iblk m c 4 t) r j := by
  unfold outsAt0
  frame_out
  canon_tiles x hx
  all_goals
    have e0 : (r : ℕ) = _ := hx1
    have e1 : (j : ℕ) = x 2 := hx2
    clear hx0 hx1 hx2
    idx_vars x
    obtain rfl : x0 = 0 := Subsingleton.elim _ _
    obtain rfl : j = x2 := Fin.ext e1
    simp only [pay1_at, pay22_at, pay28_at, pay35_at, pay18_at, pay24_at, pay31_at, pay38_at, pay17_at, pay19_at, pay23_at,
      pay25_at, pay29_at, pay32_at, pay36_at]
    exact stored_eq _ _ _ _ _ _ _ _ (by omega) _ _ _

end Cert.KernelIdeal.Value
end
-- ==== Proof.AttnArray.lean ====
module

public import proofs.«01_k».proof.Proof.AttnBlock

/-! The attention kernel's result array, as one function of the argument arrays. -/

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen AttnRow
variable (m : (ℓ : Loc nD τ sig) → Buf (Elt Ideal) ℓ)

section
variable (Q K : FVec Ideal S16x2048x2048 .bf16) (KC : FVec Ideal S16x256x2048 .bf16) (V : FVec Ideal S16x2048x1024 .bf16)
    (VC : FVec Ideal S16x256x1024 .bf16) (b : Fin 16)

/-- The keys of batch `b`, the sequence's before the context's. -/
def allKeys (k : Fin 2304) (l : Fin 2048) : EReal :=
  if h : (k : ℕ) < 2048 then K (ix3 b ⟨k, h⟩ l) else KC (ix3 b ⟨k - 2048, by omega⟩ l)

/-- The values of batch `b`, the sequence's before the context's. -/
def allVals (k : Fin 2304) (l : Fin 1024) : EReal :=
  if h : (k : ℕ) < 2048 then V (ix3 b ⟨k, h⟩ l) else VC (ix3 b ⟨k - 2048, by omega⟩ l)

/-- The scores of query `r` of batch `b` for head `h`. -/
def allScores (h : Fin 16) (r : Fin 2048) (k : Fin 2304) : EReal :=
  ∑ l : Fin 128, Q (ix3 b r ⟨128 * h + l, by omega⟩) * allKeys K KC b k ⟨128 * h + l, by omega⟩

/-- The attention of query `r` of batch `b` in lane `j` of the result. -/
def entry (r : Fin 2048) (j : Fin 1024) : EReal :=
  Ideal.div (wsum (allScores Q K KC b ⟨j / 64, by omega⟩ r) fun k => allVals V VC b k j)
    (wsum (allScores Q K KC b ⟨j / 64, by omega⟩ r) fun _ => 1)

/-- The attention of the argument arrays. -/
def array : FVec Ideal S16x2048x1024 .bf16 := fun i => entry Q K KC V VC (i 0) (i 1) (i 2)
end

/-- The index maps of the windows. -/
theorem idx : ∀ t : Fin cfg0.N, win0_0.index t = ![t.val / 8, 0, t.val % 8] ∧ win0_1.index t = ![t.val / 8, 0, t.val % 8]
    ∧ win0_2.index t = ![t.val / 8, 0, t.val % 8] ∧ win0_3.index t = ![t.val / 8, 0, t.val % 8]
    ∧ win0_4.index t = ![t.val / 8, 0, t.val % 8] ∧ win0_5.index t = ![t.val / 8, 0, t.val % 8] :=
  (by decide +kernel : ∀ t : Fin grid0.N, _)

theorem final (c : Dev nD) : (dats m 0 c).arrAt 5 (cfgs 0).N
    = array (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  idx_vars y
  obtain rfl : y0 = 0 := Subsingleton.elim _ _
  rw [point]
  have ht : t.val < 128 := lt_of_lt_of_eq t.isLt N_0
  have he : ((cfg0.win 5).blk t).view.emb (ix3 0 y1 y2) = ix3 ⟨t.val / 8, by omega⟩ y1 ⟨t.val % 8 * 128 + y2, by omega⟩ := by
    blk_ext [idx t]
  refine Eq.trans ?_ (congrArg _ he.symm)
  have hs : scores (iblk m c 0 t) (iblk m c 1 t) (iblk m c 2 t) ⟨y2 / 64, by omega⟩ y1
      = allScores (m ((c : Thread nD τ).loc main_arg0)) (m ((c : Thread nD τ).loc main_arg1)) (m ((c : Thread nD τ).loc main_arg2))
        ⟨t.val / 8, by omega⟩ ⟨(t.val % 8 * 128 + y2) / 64, by omega⟩ y1 := by
    funext k
    unfold scores allScores
    refine Fin.sum_fin_congr fun l => Ideal.mul_congr ?_ ?_
    · blk_ext [iblk, V_main_arg0, idx t]
    · unfold keys allKeys
      split
      · blk_ext [iblk, V_main_arg1, idx t]
      · blk_ext [iblk, V_main_arg2, idx t]
  have hv : (fun k => vals (iblk m c 3 t) (iblk m c 4 t) k y2)
      = fun k => allVals (m ((c : Thread nD τ).loc main_arg3)) (m ((c : Thread nD τ).loc main_arg4))
        ⟨t.val / 8, by omega⟩ k ⟨t.val % 8 * 128 + y2, by omega⟩ := by
    funext k
    unfold vals allVals
    split
    · blk_ext [iblk, V_main_arg3, idx t]
    · blk_ext [iblk, V_main_arg4, idx t]
  unfold tile
  rw [hs, hv]
  rfl
end Cert.KernelIdeal.Value
end
-- ==== Proof.AttnSoftmax.lean ====
module

public import proofs.«01_k».proof.Proof.AttnRow

/-! The softmax of real scores: in base 2 with one division of the weighted sum, and in base e with every weight divided. -/

@[expose] public section
set_option maxRecDepth 16384
noncomputable section
open Idealize.ShloMosaic

namespace AttnRow

/-- An extended real that is a real. -/
def IsReal (x : EReal) : Prop := ∃ r : ℝ, x = (r : EReal)

theorem IsReal.mul {x y : EReal} : IsReal x → IsReal y → IsReal (x * y) := by
  rintro ⟨a, rfl⟩ ⟨b, rfl⟩
  exact ⟨a * b, (EReal.coe_mul a b).symm⟩

theorem coe_sum {n : ℕ} (f : Fin n → ℝ) : ((∑ k, f k : ℝ) : EReal) = ∑ k, (f k : EReal) :=
  map_sum (⟨⟨Real.toEReal, rfl⟩, EReal.coe_add⟩ : ℝ →+ EReal) f Finset.univ

theorem IsReal.sum {n : ℕ} {f : Fin n → EReal} (h : ∀ k, IsReal (f k)) : IsReal (∑ k, f k) := by
  choose r hr using h
  exact ⟨∑ k, r k, by rw [coe_sum]; exact Finset.sum_congr rfl fun k _ => hr k⟩

theorem ofBits_bot : Ideal.ofBits .f32 0xFF800000#32 = ⊥ := by simp [Ideal.ofBits, Ideal.ieee]
theorem ofBits_two : Ideal.ofBits .f32 0x40000000#32 = ((2 : ℝ) : EReal) := by
  simp [Ideal.ofBits, Ideal.ieee]
  rw [← EReal.coe_mul]
  norm_num

theorem log_two : Ideal.log (Ideal.ofBits .f32 0x40000000#32) = ((Real.log 2 : ℝ) : EReal) := by
  rw [ofBits_two, Ideal.log_coe, if_neg (by norm_num)]

/-- The greatest score is the one no other exceeds. -/
theorem top_eq (s : Fin 2304 → EReal) (k₀ : Fin 2304) (h : ∀ k, s k ≤ s k₀) : top s = s k₀ := by
  unfold top
  rw [ofBits_bot]
  exact le_antisymm ((Finset.fold_max_le _).2 ⟨bot_le, fun k _ => h k⟩) ((Finset.le_fold_max _).2 (Or.inr ⟨k₀, Finset.mem_univ _, le_rfl⟩))

/-- The greatest score of a row of reals, before and after the change of base. -/
theorem exists_top (x : Fin 2304 → ℝ) : ∃ x₀ : ℝ, top (fun k => (x k : EReal)) = x₀
    ∧ top (fun k => (x k : EReal) * ((Real.log 2 : ℝ) : EReal)) = ((x₀ * Real.log 2 : ℝ) : EReal) := by
  obtain ⟨k₀, h⟩ := Finite.exists_max x
  refine ⟨x k₀, top_eq _ k₀ fun k => EReal.coe_le_coe_iff.2 (h k), ?_⟩
  rw [top_eq _ k₀ fun k => ?_, ← EReal.coe_mul]
  rw [← EReal.coe_mul, ← EReal.coe_mul]
  exact EReal.coe_le_coe_iff.2 (mul_le_mul_of_nonneg_right (h k) (Real.log_nonneg (by norm_num)))

/-- The weight of a key in base e. -/
def weightE (s : Fin 2304 → EReal) (k : Fin 2304) : EReal :=
  Ideal.exp (s k * ((Real.log 2 : ℝ) : EReal) - max ⊥ (top fun k => s k * ((Real.log 2 : ℝ) : EReal)))

theorem weight_real {s : Fin 2304 → EReal} (hs : ∀ k, IsReal (s k)) (k : Fin 2304) :
    (∃ e : ℝ, 0 < e ∧ weight s k = (e : EReal)) ∧ weightE s k = weight s k := by
  choose x hx using hs
  obtain rfl : s = fun k => (x k : EReal) := funext hx
  obtain ⟨x₀, h1, h2⟩ := exists_top x
  have hw : weight (fun k => (x k : EReal)) k = ((Real.rpow 2 (x k - x₀) : ℝ) : EReal) := by
    unfold weight
    rw [h1, ← EReal.coe_sub, Ideal.exp2_coe]
  refine ⟨⟨_, Real.rpow_pos_of_pos (by norm_num) _, hw⟩, ?_⟩
  rw [hw]
  unfold weightE
  rw [h2, max_eq_right bot_le, ← EReal.coe_mul, ← EReal.coe_sub, Ideal.exp_coe]
  refine congrArg Real.toEReal ?_
  show _ = (2 : ℝ) ^ (x k - x₀)
  rw [Real.rpow_def_of_pos (by norm_num)]
  exact congrArg Real.exp (by ring)

/-- A nonnegative real factor goes into a sum. -/
theorem sum_mul_coe {n : ℕ} (f : Fin n → EReal) (r : ℝ) (hr : 0 ≤ r) : (∑ k, f k) * (r : EReal) = ∑ k, f k * (r : EReal) := by
  classical
  refine Finset.induction_on (Finset.univ : Finset (Fin n)) (by simp) fun a t ha ih => ?_
  rw [Finset.sum_insert ha, Finset.sum_insert ha, ← ih,
    EReal.right_distrib_of_nonneg_of_ne_top (by exact_mod_cast hr) (EReal.coe_ne_top r)]

/-- Dividing each weight by their sum and dividing the weighted sum agree, whatever is weighted. -/
theorem softmax_eq {s : Fin 2304 → EReal} (hs : ∀ k, IsReal (s k)) (v : Fin 2304 → EReal) :
    ∑ k, v k * Ideal.div (weightE s k) (0 + ∑ l, weightE s l) = Ideal.div (wsum s v) (wsum s fun _ => 1) := by
  simp only [fun k => (weight_real hs k).2]
  choose e he hw using fun k => (weight_real hs k).1
  have hD : ∑ l, weight s l = ((∑ l, e l : ℝ) : EReal) := by
    rw [coe_sum]
    exact Finset.sum_congr rfl fun l _ => hw l
  have hpos : 0 < ∑ l, e l := Finset.sum_pos (fun l _ => he l) ⟨0, Finset.mem_univ _⟩
  unfold wsum
  simp only [mul_one, zero_add, hD, Ideal.div_coe hpos.ne']
  rw [sum_mul_coe _ _ (by positivity)]
  refine Finset.sum_congr rfl fun k _ => ?_
  rw [← mul_assoc, mul_comm (v k)]

end AttnRow
end
-- ==== Proof.AttnReference.lean ====
module

public import proofs.«01_k».proof.Proof.AttnArray
public import proofs.«01_k».proof.Proof.AttnSoftmax
public import proofs.«01_k».proof.Proof.Gen.ReferenceIdeal.Read

/-! The attention reference's result, as the same function of the argument arrays. -/

@[expose] public section
set_option maxRecDepth 16384
noncomputable section
open Idealize.ShloMosaic Idealize.ShloMosaic.TcCoe Idealize.SL.Sem
namespace Cert.ReferenceIdeal.Read
open Cert.ReferenceIdeal Cert.ReferenceIdeal.Gen AttnRow
open Cert.KernelIdeal.Value (allKeys allVals allScores entry array)

variable (Q K : FVec Ideal S16x2048x2048 .bf16) (KC : FVec Ideal S16x256x2048 .bf16) (V : FVec Ideal S16x2048x1024 .bf16)
    (VC : FVec Ideal S16x256x1024 .bf16) (b : Fin 16)

theorem keys_at (k : Fin 2304) (h : Fin 16) (l : Fin 128) : val_main_v4 (F := Ideal) K KC (ix4 b k h l)
    = allKeys K KC b k ⟨128 * h + l, by omega⟩ := by
  pointwise [val_main_v4, val_main_v3, val_main_v2]
  unfold allKeys
  split <;> exact congrArg _ (congrArg (ix3 _ _) (Fin.ext (by simp only; omega)))

theorem vals_at (k : Fin 2304) (h : Fin 16) (l : Fin 64) : val_main_v7 (F := Ideal) V VC (ix4 b k h l)
    = allVals V VC b k ⟨64 * h + l, by omega⟩ := by
  pointwise [val_main_v7, val_main_v6, val_main_v5]
  unfold allVals
  split <;> exact congrArg _ (congrArg (ix3 _ _) (Fin.ext (by simp only; omega)))

theorem scores_at (h : Fin 16) (r : Fin 2048) (k : Fin 2304) : val_main_v8 (F := Ideal) Q K KC (ix4 b h r k)
    = allScores Q K KC b h r k := by
  unfold allScores
  simp only [← keys_at]
  pointwise [val_main_v8, val_main_v1, val_main_v0]
  exact Fin.sum_fin_congr fun l => Ideal.mul_congr (congrArg _ (congrArg (ix3 _ _) (Fin.ext (by simp only; omega)))) rfl

theorem scaled_at (h : Fin 16) (r : Fin 2048) (k : Fin 2304) : val_main_v11 (F := Ideal) Q K KC (ix4 b h r k)
    = allScores Q K KC b h r k * ((Real.log 2 : ℝ) : EReal) := by
  rw [val_main_v11_apply, scores_at, val_main_v10_apply, val_main_v9_apply, val_main_cst_apply, ← log_two]
  rfl

theorem max_at (h : Fin 16) (r : Fin 2048) : val_main_v12 (F := Ideal) Q K KC (ix3 b h r)
    = top fun k => val_main_v11 (F := Ideal) Q K KC (ix4 b h r k) := by
  unfold top
  generalize hv : val_main_v11 (F := Ideal) Q K KC = x
  pointwise [val_main_v12, val_main_cst_0, hv]

theorem weights_at (h : Fin 16) (r : Fin 2048) (k : Fin 2304) : val_main_v18 (F := Ideal) Q K KC (ix4 b h r k)
    = weightE (allScores Q K KC b h r) k := by
  unfold weightE
  simp only [← scaled_at]
  rw [← max_at, ← ofBits_bot, val_main_v18_apply, val_main_v17_apply, val_main_v16_apply, val_main_v15_apply,
    val_main_v14_apply, val_main_v13_apply, val_main_cst_1_apply,
    show idx_main_v15 (idx_main_v16 (ix4 b h r k)) = ix3 b h r from funext fun a => by fin_cases a <;> rfl]
  generalize val_main_v11 (F := Ideal) Q K KC (ix4 b h r k) = x
  generalize val_main_v12 (F := Ideal) Q K KC (ix3 b h r) = y
  rfl

theorem result (hQ : ∀ i, IsReal (Q i)) (hK : ∀ i, IsReal (K i)) (hKC : ∀ i, IsReal (KC i)) :
    val_main_v26 (F := Ideal) Q K KC V VC = array Q K KC V VC := by
  funext i
  idx_vars i
  have hs : ∀ h k, IsReal (allScores Q K KC i0 h i1 k) := fun h k => IsReal.sum fun l => (hQ _).mul (by
    unfold allKeys
    split
    · exact hK _
    · exact hKC _)
  show _ = entry Q K KC V VC i0 i1 i2
  unfold entry
  rw [← softmax_eq (hs _)]
  have hv : ∀ k, allVals V VC i0 k i2 = val_main_v7 (F := Ideal) V VC (ix4 i0 k ⟨i2 / 64, by omega⟩ ⟨i2 % 64, by omega⟩) :=
    fun k => ((vals_at V VC i0 k _ _).trans (congrArg _ (Fin.ext (by simp only; omega)))).symm
  simp only [← weights_at, hv]
  pointwise [val_main_v26, val_main_v25, val_main_v24, val_main_v23, val_main_v22, val_main_v21, val_main_v20, val_main_v19,
    val_main_cst_2]

end Cert.ReferenceIdeal.Read
end
-- ==== Proof.AttnClaim.lean ====
module

public import proofs.«01_k».proof.Defs
public import proofs.«01_k».proof.Proof.AttnReference
public import proofs.«01_k».proof.Proof.Gen.Pre_finite_scores
public import proofs.«01_k».proof.Proof.Gen.Kernel.Frame
public import Idealize.ShloMosaic.Lib.Claim

/-! The claims about the attention call. -/

@[expose] public section
set_option maxRecDepth 16384
noncomputable section
open Idealize.ShloMosaic Idealize.SL.Sem
namespace Cert.Proof

theorem frame_attn : Cert.quiescent_Kernel := fun m g _ => Cert.Kernel.Gen.frame m g
theorem frame_attn_ideal : Cert.quiescent_KernelIdeal := fun m g _ => Cert.KernelIdeal.Gen.frame m g
theorem frame_attn_reference : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run m g)
theorem frame_attn_ideal_pre : Cert.quiescent_KernelIdeal_pre_finite_scores := fun m g _ => frame_attn_ideal m g trivial
theorem frame_attn_reference_pre : Cert.quiescent_ReferenceIdeal_pre_finite_scores := fun m g _ => frame_attn_reference m g trivial
theorem preserves_attn : Cert.preserves_Kernel_KernelIdeal := trivial

/-- What the precondition says of one entry. -/
theorem real_of_test {x : EReal} (h : Ideal.cmp .olt (max x (-x)) (Ideal.ofBits .f32 0x7F800000#32) = 1#1) : AttnRow.IsReal x := by
  have ht : Ideal.ofBits .f32 0x7F800000#32 = ⊤ := by simp [Ideal.ofBits, Ideal.ieee]
  rw [ht] at h
  induction x with
  | coe r => exact ⟨r, rfl⟩
  | bot => simp [Ideal.cmp] at h
  | top => simp [Ideal.cmp] at h

theorem algebraic_attn : Cert.algebraic_KernelIdeal_ReferenceIdeal_pre_finite_scores := by
  pair_intro
  · run_from Cert.KernelIdeal.Value.run_blocks m g
  · run_from Cert.ReferenceIdeal.Value.run m' g'
    obtain ⟨h0, h1, h2, h3, h4⟩ := hagree c
    obtain ⟨hQ, hK, hKC⟩ := hpre c
    rw [Cert.ReferenceIdeal.Read.val_main_v26_eq, h0, h1, h2, h3, h4]
    exact (Cert.ReferenceIdeal.Read.result _ _ _ _ _ (fun i => real_of_test (congrFun hQ i)) (fun i => real_of_test (congrFun hK i))
      fun i => real_of_test (congrFun hKC i)).trans (Cert.KernelIdeal.Value.final m c).symm

end Cert.Proof
end
-- ==== Proof.TailRow.lean ====
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

/-! The feed-forward block of one token, as a function of the token's rows and of the weights; and each
payload of the kernel read at an index as a piece of that function. -/

@[expose] public section
set_option maxRecDepth 16384
noncomputable section
open Idealize.ShloMosaic Idealize.ShloMosaic.TcCoe Idealize.SL.Sem

namespace TailRow

/-- The residual stream after the attention's output projection: `h + m2 * (o · wo)`. -/
def rH (o h m2 : Fin 1024 → EReal) (wo : Fin 1024 → Fin 1024 → EReal) (j : Fin 1024) : EReal :=
  h j + m2 j * ∑ k, o k * wo k j

/-- The RMS norm with gain `g`, scale `m4` and shift `m3` of a row. -/
def rA (x m3 m4 g : Fin 1024 → EReal) (j : Fin 1024) : EReal :=
  x j * Ideal.rsqrt (Ideal.div (∑ k, x k * x k) (Ideal.ofBits .f32 0x44800000#32) + Ideal.ofBits .f32 0x358637BD#32)
    * g j * (1 + m4 j) + m3 j

/-- The gated activation: `g / (1 + exp (- g)) * u`. -/
def gate (g u : EReal) : EReal := Ideal.div g (1 + Ideal.exp (0 - g)) * u

/-- The hidden unit `c` of a normed row. -/
def rAct (a : Fin 1024 → EReal) (w : Fin 1024 → Fin 5632 → EReal) (c : Fin 2816) : EReal :=
  gate (∑ k, a k * w k ⟨c, by omega⟩) (∑ k, a k * w k ⟨2816 + c, by omega⟩)

/-- One token's row after the whole block. -/
def row (o h m2 m3 m4 m5 g : Fin 1024 → EReal) (wo : Fin 1024 → Fin 1024 → EReal)
    (w : Fin 1024 → Fin 5632 → EReal) (wd : Fin 2816 → Fin 1024 → EReal) (j : Fin 1024) : EReal :=
  rH o h m2 wo j + m5 j * ∑ c, rAct (rA (rH o h m2 wo) m3 m4 g) w c * wd c j

end TailRow

namespace Cert.Kernel2Ideal.Value
open Cert.Kernel2Ideal Cert.Kernel2Ideal.Gen TailRow

/-- The residual stream of row `r`. -/
theorem pay2_at (v0 : FVec Ideal S1x512x1024 .f32) (v2 : FVec Ideal S1x1x1024 .f32) (v4 : FVec Ideal S1x512x1024 .bf16)
    (v6 : FVec Ideal S1024x1024 .bf16) (r : Fin 512) (j : Fin 1024) :
    k0_pay2 (F := Ideal) v0 v2 v4 v6 (ix2 r j)
      = rH (fun k => v4 (ix3 0 r k)) (fun k => v0 (ix3 0 r k)) (fun k => v2 (ix3 0 0 k)) (fun k l => v6 (ix2 k l)) j := by
  pointwise [k0_pay2, rH]

/-- The normed row, before and after the shift. -/
theorem pay5_at (v0 : FVec Ideal S1x512x1024 .f32) (v2 v15 v13 : FVec Ideal S1x1x1024 .f32) (v4 : FVec Ideal S1x512x1024 .bf16)
    (v6 : FVec Ideal S1024x1024 .bf16) (v11 : FVec Ideal S1x1024 .f32) (r : Fin 512) (j : Fin 1024) :
    k0_pay5 (F := Ideal) (k0_pay3 v0 v2 v4 v6 v11 v15) (k0_pay4 v13) (ix2 r j)
      = rA (rH (fun k => v4 (ix3 0 r k)) (fun k => v0 (ix3 0 r k)) (fun k => v2 (ix3 0 0 k)) (fun k l => v6 (ix2 k l)))
          (fun k => v13 (ix3 0 0 k)) (fun k => v15 (ix3 0 0 k)) (fun k => v11 (ix2 0 k)) j := by
  rw [show rH (fun k => v4 (ix3 0 r k)) (fun k => v0 (ix3 0 r k)) (fun k => v2 (ix3 0 0 k)) (fun k l => v6 (ix2 k l))
    = fun j => k0_pay2 (F := Ideal) v0 v2 v4 v6 (ix2 r j) from funext fun j => (pay2_at v0 v2 v4 v6 r j).symm]
  pointwise [k0_pay5, k0_pay3, k0_pay4, rA]

/-- The gated activation of a normed tile `a` against a gate tile and an up tile of the weights, at an index. -/
def chunk (a : FVec Ideal S512x1024 .bf16) (wg wu : FVec Ideal S1024x256 .bf16) (r : Fin 512) (c : Fin 256) : EReal :=
  gate (∑ k : Fin 1024, a (ix2 r k) * wg (ix2 k c)) (∑ k : Fin 1024, a (ix2 r k) * wu (ix2 k c))

section
variable (x y : FVec Ideal S512x1024 .f32) (a : FVec Ideal S512x1024 .bf16) (wg wu : FVec Ideal S1024x256 .bf16) (r : Fin 512) (c : Fin 256)

theorem pay6_at : k0_pay6 (F := Ideal) x y wg wu (ix2 r c) = chunk (k0_pay5 x y) wg wu r c := by
  pointwise [k0_pay6, chunk, gate]
theorem pay7_at : k0_pay7 (F := Ideal) x y wg wu (ix2 r c) = chunk (k0_pay5 x y) wg wu r c := by
  pointwise [k0_pay7, chunk, gate]
theorem pay9_at : k0_pay9 (F := Ideal) (k0_pay5 x y) (k0_pay8 x y wg) wu (ix2 r c) = chunk (k0_pay5 x y) wg wu r c := by
  pointwise [k0_pay9, k0_pay8, chunk, gate]
theorem pay10_at : k0_pay10 (F := Ideal) a wg wu (ix2 r c) = chunk a wg wu r c := by
  pointwise [k0_pay10, chunk, gate]
theorem pay14_at : k0_pay14 (F := Ideal) (k0_pay11 a wg) (k0_pay12 a wu) (k0_pay13 a wg) (ix2 r c) = chunk a wg wu r c := by
  pointwise [k0_pay14, k0_pay11, k0_pay12, k0_pay13, chunk, gate]
theorem pay15_at : k0_pay15 (F := Ideal) a wg wu (ix2 r c) = chunk a wg wu r c := by
  pointwise [k0_pay15, chunk, gate]
theorem pay17_at : k0_pay17 (F := Ideal) (k0_pay16 a wg wu) (ix2 r c) = chunk a wg wu r c := by
  pointwise [k0_pay17, k0_pay16, chunk, gate]
theorem pay18_at : k0_pay18 (F := Ideal) a wg wu (ix2 r c) = chunk a wg wu r c := by
  pointwise [k0_pay18, chunk, gate]
theorem pay19_at : k0_pay19 (F := Ideal) a wg wu (ix2 r c) = chunk a wg wu r c := by
  pointwise [k0_pay19, chunk, gate]
theorem pay20_at : k0_pay20 (F := Ideal) a wg (constant S512x256 .f32 0x00000000#32) wu (ix2 r c) = chunk a wg wu r c := by
  pointwise [k0_pay20, chunk, gate]
theorem pay21_at : k0_pay21 (F := Ideal) a wg wu (ix2 r c) = chunk a wg wu r c := by
  pointwise [k0_pay21, chunk, gate]
end

/-- The block's last step: the gated residual of the product with the down weights. -/
theorem pay1_at (h : FVec Ideal S512x1024 .f32) (act : FVec Ideal S512x2816 .bf16) (wd : FVec Ideal S2816x1024 .bf16)
    (m5 : FVec Ideal S1x1x1024 .f32) (r : Fin 512) (j : Fin 1024) :
    k0_pay1 (F := Ideal) h (k0_pay22 act wd) m5 (ix3 0 r j)
      = h (ix2 r j) + m5 (ix3 0 0 j) * ∑ c : Fin 2816, act (ix2 r c) * wd (ix2 c j) := by
  pointwise [k0_pay1, k0_pay22]

end Cert.Kernel2Ideal.Value
end
-- ==== Proof.TailBlock.lean ====
module

public import proofs.«01_k».proof.Proof.TailRow

/-! What the feed-forward kernel writes back at a grid point, and its result array. -/

@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen TailRow
variable (m : (ℓ : Loc nD τ sig) → Buf (Elt Ideal) ℓ)

/-- One tile of the block at row `r` and column `j`, from the blocks the kernel was given. -/
def tile (O : FVec Ideal S1x512x1024 .bf16) (WO : FVec Ideal S1024x1024 .bf16) (H : FVec Ideal S1x512x1024 .f32)
    (M : FVec Ideal S1x6x1024 .f32) (G : FVec Ideal S1x1024 .f32) (W : FVec Ideal S1024x5632 .bf16)
    (WD : FVec Ideal S2816x1024 .bf16) (r : Fin 512) (j : Fin 1024) : EReal :=
  row (fun k => O (ix3 0 r k)) (fun k => H (ix3 0 r k)) (fun k => M (ix3 0 2 k)) (fun k => M (ix3 0 3 k))
    (fun k => M (ix3 0 4 k)) (fun k => M (ix3 0 5 k)) (fun k => G (ix2 0 k)) (fun k l => WO (ix2 k l))
    (fun k l => W (ix2 k l)) (fun k l => WD (ix2 k l)) j

/-- A tile of hidden units is the hidden units of the row it was computed from. -/
theorem chunk_eq (a : FVec Ideal S512x1024 .bf16) (wg wu : FVec Ideal S1024x256 .bf16) (r : Fin 512) (q : Fin 256)
    (A : Fin 1024 → EReal) (W : Fin 1024 → Fin 5632 → EReal) (c : Fin 2816)
    (ha : ∀ k : Fin 1024, a (ix2 r k) = A k) (hg : ∀ k : Fin 1024, wg (ix2 k q) = W k ⟨c, by omega⟩)
    (hu : ∀ k : Fin 1024, wu (ix2 k q) = W k ⟨2816 + c, by omega⟩) : chunk a wg wu r q = rAct A W c := by
  unfold chunk rAct
  simp only [ha, hg, hu]

theorem point (c : Dev nD) (t : Fin cfg0.N) (r : Fin 512) (j : Fin 1024) : outsAt0 m c t (ix3 0 r j) =
    tile (iblk m c 0 t) (iblk m c 1 t) (iblk m c 2 t) (iblk m c 3 t) (iblk m c 4 t) (iblk m c 5 t) (iblk m c 6 t) r j := by
  unfold outsAt0
  frame_out
  rw [pay1_at, pay2_at]
  unfold tile row
  refine Ideal.add_congr ?_ (Ideal.mul_congr ?_ (Fin.sum_fin_congr fun h => Ideal.mul_congr ?_ rfl))
  · pointwise
  · pointwise
  rw [View.readCov_eq_canon']
  canon_tiles x hx
  all_goals
    have e0 : (r : ℕ) = x 0 := by simpa [Rect.unit] using hx0
    have e1 := hx1
    simp [Rect.unit] at e1
    clear hx0 hx1
    idx_vars x
    obtain rfl : r = x0 := Fin.ext e0
    simp only [pay6_at, pay7_at, pay9_at, pay10_at, pay14_at, pay15_at, pay17_at, pay18_at, pay19_at, pay20_at, pay21_at]
    refine chunk_eq _ _ _ _ _ _ _ h (fun k => (pay5_at _ _ _ _ _ _ _ _ _).trans ?_) (fun k => ?_) (fun k => ?_)
    · pointwise
    · pointwise
      blk_ext
    · pointwise
      blk_ext

/-- The index maps of the windows. -/
theorem idx : ∀ t : Fin cfg0.N, win0_0.index t = ![t.val / 4, t.val % 4, 0] ∧ win0_1.index t = ![0, 0]
    ∧ win0_2.index t = ![t.val / 4, t.val % 4, 0] ∧ win0_3.index t = ![t.val / 4, 0, 0] ∧ win0_4.index t = ![0, 0]
    ∧ win0_5.index t = ![0, 0] ∧ win0_6.index t = ![0, 0] ∧ win0_7.index t = ![t.val / 4, t.val % 4, 0] :=
  (by decide +kernel : ∀ t : Fin grid0.N, _)

end Cert.Kernel2Ideal.Value
end
-- ==== Proof.TailArray.lean ====
module

public import proofs.«01_k».proof.Proof.TailBlock

/-! The feed-forward kernel's result array, as one function of the argument arrays. -/

@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen TailRow
variable (m : (ℓ : Loc nD τ sig) → Buf (Elt Ideal) ℓ)

/-- The block applied to every token of the argument arrays. -/
def array (O : FVec Ideal S16x2048x1024 .bf16) (WO : FVec Ideal S1024x1024 .bf16) (H : FVec Ideal S16x2048x1024 .f32)
    (M : FVec Ideal S16x6x1024 .f32) (G : FVec Ideal S1024 .f32) (W : FVec Ideal S1024x5632 .bf16)
    (WD : FVec Ideal S2816x1024 .bf16) : FVec Ideal S16x2048x1024 .f32 := fun i =>
  row (fun k => O (ix3 (i 0) (i 1) k)) (fun k => H (ix3 (i 0) (i 1) k)) (fun k => M (ix3 (i 0) 2 k)) (fun k => M (ix3 (i 0) 3 k))
    (fun k => M (ix3 (i 0) 4 k)) (fun k => M (ix3 (i 0) 5 k)) (fun k => G (ix1 k)) (fun k l => WO (ix2 k l))
    (fun k l => W (ix2 k l)) (fun k l => WD (ix2 k l)) (i 2)

theorem final (c : Dev nD) : (dats m 0 c).arrAt 7 (cfgs 0).N
    = array (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  idx_vars y
  obtain rfl : y0 = 0 := Subsingleton.elim _ _
  rw [point]
  have ht : t.val < 64 := lt_of_lt_of_eq t.isLt N_0
  have he : ((cfg0.win 7).blk t).view.emb (ix3 0 y1 y2) = ix3 ⟨t.val / 4, by omega⟩ ⟨t.val % 4 * 512 + y1, by omega⟩ y2 := by
    blk_ext [idx t]
  refine Eq.trans ?_ (congrArg _ he.symm)
  unfold tile array
  congr 1 <;> funext k
  · blk_ext [iblk, V_main_arg0, idx t]
  · blk_ext [iblk, V_main_arg2, idx t]
  · blk_ext [iblk, V_main_arg3, idx t]
  · blk_ext [iblk, V_main_arg3, idx t]
  · blk_ext [iblk, V_main_arg3, idx t]
  · blk_ext [iblk, V_main_arg3, idx t]
  · show iblk m c 4 t (ix2 0 k) = _
    blk_simp [iblk]
    entry_read
    pointwise
    blk_ext [idx t]
  · funext l
    blk_ext [iblk, V_main_arg1, idx t]
  · funext l
    blk_ext [iblk, V_main_arg5, idx t]
  · funext l
    blk_ext [iblk, V_main_arg6, idx t]
end Cert.Kernel2Ideal.Value
end
-- ==== Proof.TailReference.lean ====
module

public import proofs.«01_k».proof.Proof.TailArray
public import proofs.«01_k».proof.Proof.Gen.Reference2Ideal.Read

/-! The feed-forward reference's result, as the same function of the argument arrays. -/

@[expose] public section
set_option maxRecDepth 16384
noncomputable section
open Idealize.ShloMosaic Idealize.ShloMosaic.TcCoe Idealize.SL.Sem

namespace TailRow

theorem one_add_exp_ne_zero (x : EReal) : (1 : EReal) + Ideal.exp x ≠ 0 := by
  have h : (0 : EReal) ≤ Ideal.exp x := by
    induction x with
    | bot => exact le_refl (0 : EReal)
    | coe r => rw [Ideal.exp_coe]; exact_mod_cast (Real.exp_pos r).le
    | top => exact le_top (a := (0 : EReal))
  intro h0
  have : (1 : EReal) ≤ 0 := h0 ▸ le_add_of_nonneg_right h
  exact absurd this (by norm_num)

/-- The gated activation with the logistic function in it. -/
theorem gate_eq (g u : EReal) : g * Ideal.div 1 (1 + Ideal.exp (-g)) * u = gate g u := by
  unfold gate
  rw [zero_sub]
  unfold Ideal.div
  rw [if_neg (one_add_exp_ne_zero _), if_neg (one_add_exp_ne_zero _), one_mul]

end TailRow

namespace Cert.Reference2Ideal.Read
open Cert.Reference2Ideal Cert.Reference2Ideal.Gen TailRow

variable (O : FVec Ideal S16x2048x1024 .bf16) (WO : FVec Ideal S1024x1024 .bf16) (H : FVec Ideal S16x2048x1024 .f32)
    (M : FVec Ideal S16x6x1024 .f32) (G : FVec Ideal S1024 .f32) (W : FVec Ideal S1024x5632 .bf16)
    (WD : FVec Ideal S2816x1024 .bf16) (b : Fin 16) (n : Fin 2048)

theorem h_at (j : Fin 1024) : val_main_v6 (F := Ideal) O WO H M (ix3 b n j)
    = rH (fun k => O (ix3 b n k)) (fun k => H (ix3 b n k)) (fun k => M (ix3 b 2 k)) (fun k l => WO (ix2 k l)) j := by
  pointwise [val_main_v6, val_main_v5, val_main_v4, val_main_v3, val_main_v2, val_main_v1, val_main_v0, rH]

theorem a_at (j : Fin 1024) : val_main_v27 (F := Ideal) O WO H M G (ix3 b n j)
    = rA (fun k => val_main_v6 (F := Ideal) O WO H M (ix3 b n k)) (fun k => M (ix3 b 3 k)) (fun k => M (ix3 b 4 k))
        (fun k => G (ix1 k)) j := by
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8, val_main_v7, val_main_cst, val_main_cst_0, val_main_cst_1, val_main_cst_2, rA]

theorem act_at (c : Fin 2816) : val_main_v34 (F := Ideal) O WO H M G W (ix3 b n c)
    = rAct (fun k => val_main_v27 (F := Ideal) O WO H M G (ix3 b n k)) (fun k l => W (ix2 k l)) c := by
  unfold rAct
  rw [← gate_eq]
  pointwise [val_main_v34, val_main_v33, val_main_v32, val_main_v31, val_main_v29, val_main_v28, val_main_call0_v5, val_main_call0_v4,
    val_main_call0_v3, val_main_call0_v2, val_main_call0_v1, val_main_call0_v0, val_main_call0_cst, val_main_call0_cst_0]

theorem result : val_main_v39 (F := Ideal) O WO H M G W WD = Cert.Kernel2Ideal.Value.array O WO H M G W WD := by
  funext i
  idx_vars i
  show _ = row (fun k => O (ix3 i0 i1 k)) (fun k => H (ix3 i0 i1 k)) (fun k => M (ix3 i0 2 k)) (fun k => M (ix3 i0 3 k))
    (fun k => M (ix3 i0 4 k)) (fun k => M (ix3 i0 5 k)) (fun k => G (ix1 k)) (fun k l => WO (ix2 k l))
    (fun k l => W (ix2 k l)) (fun k l => WD (ix2 k l)) i2
  unfold row
  rw [← h_at O WO H M i0 i1 i2, ← funext (h_at O WO H M i0 i1)]
  rw [← funext (a_at O WO H M G i0 i1)]
  simp only [← act_at]
  pointwise [val_main_v39, val_main_v38, val_main_v37, val_main_v36, val_main_v35, val_main_v30]

end Cert.Reference2Ideal.Read
end
-- ==== Proof.TailClaim.lean ====
module

public import proofs.«01_k».proof.Defs
public import proofs.«01_k».proof.Proof.TailReference
public import proofs.«01_k».proof.Proof.Gen.Kernel2.Frame
public import Idealize.ShloMosaic.Lib.Claim

/-! The claims about the feed-forward call. -/

@[expose] public section
set_option maxRecDepth 16384
noncomputable section
open Idealize.ShloMosaic Idealize.SL.Sem
namespace Cert.Proof

theorem frame_tail : Cert.quiescent_Kernel2 := fun m g _ => Cert.Kernel2.Gen.frame m g
theorem frame_tail_ideal : Cert.quiescent_Kernel2Ideal := fun m g _ => Cert.Kernel2Ideal.Gen.frame m g
theorem frame_tail_reference : Cert.quiescent_Reference2Ideal := by
  intro m g _
  exact (θ_run Cert.Reference2Ideal.defs _ _).mono
    (fun r h => ⟨fun c => (h c).2, sem_eq_zero_of_no_sems (by decide) r.2⟩) (Cert.Reference2Ideal.Value.run m g)
theorem preserves_tail : Cert.preserves_Kernel2_Kernel2Ideal := trivial

theorem algebraic_tail : Cert.algebraic_Kernel2Ideal_Reference2Ideal := by
  pair_intro
  · run_from Cert.Kernel2Ideal.Value.run_blocks m g
  · run_from Cert.Reference2Ideal.Value.run m' g'
    obtain ⟨h0, h1, h2, h3, h4, h5, h6⟩ := hagree c
    rw [Cert.Reference2Ideal.Read.val_main_v39_eq, h0, h1, h2, h3, h4, h5, h6]
    exact (Cert.Reference2Ideal.Read.result _ _ _ _ _ _ _).trans (Cert.Kernel2Ideal.Value.final m c).symm

end Cert.Proof
end
-- ==== Proof.FfnRow.lean ====
module

public import proofs.«01_k».proof.Proof.Gen.Kernel3Ideal.Value
public import proofs.«01_k».proof.Proof.TailBlock

/-! The feed-forward block without the attention's output projection: one token's row, and each payload of
the kernel read at an index as a piece of it. -/

@[expose] public section
set_option maxRecDepth 16384
noncomputable section
open Idealize.ShloMosaic Idealize.ShloMosaic.TcCoe Idealize.SL.Sem

namespace TailRow

/-- One token's row after the feed-forward block. -/
def ffn (h m3 m4 m5 g : Fin 1024 → EReal) (w : Fin 1024 → Fin 5632 → EReal) (wd : Fin 2816 → Fin 1024 → EReal)
    (j : Fin 1024) : EReal :=
  h j + m5 j * ∑ c, rAct (rA h m3 m4 g) w c * wd c j

end TailRow

namespace Cert.Kernel3Ideal.Value
open Cert.Kernel3Ideal Cert.Kernel3Ideal.Gen TailRow
open Cert.Kernel2Ideal.Value (chunk)

/-- The normed row. -/
theorem pay5_at (v0 : FVec Ideal S1x512x1024 .f32) (v2 : FVec Ideal S1x1024 .f32) (v4 v6 : FVec Ideal S1x1x1024 .f32)
    (r : Fin 512) (j : Fin 1024) : k0_pay5 (F := Ideal) v0 v2 v4 v6 (ix2 r j)
      = rA (fun k => v0 (ix3 0 r k)) (fun k => v4 (ix3 0 0 k)) (fun k => v6 (ix3 0 0 k)) (fun k => v2 (ix2 0 k)) j := by
  pointwise [k0_pay5, k0_pay4, rA]

/-- A tile of hidden units, at an index. -/
theorem pay11_at (a : FVec Ideal S512x1024 .bf16) (wg wu : FVec Ideal S1024x256 .bf16) (r : Fin 512) (c : Fin 256) :
    k0_pay11 (F := Ideal) a wg wu (ix2 r c) = chunk a wg wu r c := by
  pointwise [k0_pay11, chunk, gate]

section
variable (v0 : FVec Ideal S1x512x1024 .f32) (v2 : FVec Ideal S1x1024 .f32) (v4 v6 : FVec Ideal S1x1x1024 .f32)
  (a : FVec Ideal S512x1024 .bf16) (wg wu : FVec Ideal S1024x256 .bf16)

/-! However a tile of hidden units is cut into payloads, it is the same function of the normed tile and of
two tiles of weights. -/
theorem pay10_eq : k0_pay10 (F := Ideal) (k0_pay6 v0 v2 v4 v6 wg) (k0_pay7 v0 v2 v4 v6 wu) (k0_pay8 v0 v2 v4 v6 wg) k0_pay9
    = k0_pay11 (k0_pay5 v0 v2 v4 v6) wg wu := rfl
theorem pay13_eq : k0_pay13 (F := Ideal) (k0_pay12 a wg wu) = k0_pay11 a wg wu := rfl
theorem pay14_eq : k0_pay14 (F := Ideal) a wg wu = k0_pay11 a wg wu := rfl
theorem pay15_eq : k0_pay15 (F := Ideal) a wg wu = k0_pay11 a wg wu := rfl
theorem pay17_eq : k0_pay17 (F := Ideal) a (k0_pay16 a wg) wu = k0_pay11 a wg wu := rfl
theorem pay18_eq : k0_pay18 (F := Ideal) a wg wu = k0_pay11 a wg wu := rfl
theorem pay22_eq : k0_pay22 (F := Ideal) (k0_pay19 a wg) (k0_pay20 a wu) (k0_pay21 a wg) = k0_pay11 a wg wu := rfl
theorem pay23_eq : k0_pay23 (F := Ideal) a wg wu = k0_pay11 a wg wu := rfl
theorem pay1_eq : k0_pay1 (F := Ideal) (k0_pay24 a wg wu) = k0_pay11 a wg wu := rfl
theorem pay2_eq : k0_pay2 (F := Ideal) a wg wu = k0_pay11 a wg wu := rfl
end

/-- The block's last step: the gated residual of the product with the down weights. -/
theorem pay3_at (h : FVec Ideal S1x512x1024 .f32) (act : FVec Ideal S512x2816 .bf16) (wd : FVec Ideal S2816x1024 .bf16)
    (m5 : FVec Ideal S1x1x1024 .f32) (r : Fin 512) (j : Fin 1024) :
    k0_pay3 (F := Ideal) (k0_pay4 h) act wd m5 (ix3 0 r j)
      = h (ix3 0 r j) + m5 (ix3 0 0 j) * ∑ c : Fin 2816, act (ix2 r c) * wd (ix2 c j) := by
  pointwise [k0_pay3, k0_pay4]

end Cert.Kernel3Ideal.Value
end
-- ==== Proof.FfnBlock.lean ====
module

public import proofs.«01_k».proof.Proof.FfnRow

/-! What the feed-forward kernel without output projection writes back at a grid point, and its result array
as one function of the argument arrays. -/

@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen TailRow
open Cert.Kernel2Ideal.Value (chunk_eq)
variable (m : (ℓ : Loc nD τ sig) → Buf (Elt Ideal) ℓ)

/-- One tile of the block at row `r` and column `j`, from the blocks the kernel was given. -/
def tile (H : FVec Ideal S1x512x1024 .f32) (M : FVec Ideal S1x6x1024 .f32) (G : FVec Ideal S1x1024 .f32)
    (W : FVec Ideal S1024x5632 .bf16) (WD : FVec Ideal S2816x1024 .bf16) (r : Fin 512) (j : Fin 1024) : EReal :=
  ffn (fun k => H (ix3 0 r k)) (fun k => M (ix3 0 3 k)) (fun k => M (ix3 0 4 k)) (fun k => M (ix3 0 5 k))
    (fun k => G (ix2 0 k)) (fun k l => W (ix2 k l)) (fun k l => WD (ix2 k l)) j

theorem point (c : Dev nD) (t : Fin cfg0.N) (r : Fin 512) (j : Fin 1024) : outsAt0 m c t (ix3 0 r j) =
    tile (iblk m c 0 t) (iblk m c 1 t) (iblk m c 2 t) (iblk m c 3 t) (iblk m c 4 t) r j := by
  unfold outsAt0
  frame_out
  rw [pay3_at]
  unfold tile ffn
  refine Ideal.add_congr ?_ (Ideal.mul_congr ?_ (Fin.sum_fin_congr fun h => Ideal.mul_congr ?_ rfl))
  · pointwise
  · pointwise
  rw [View.readCov_eq_canon']
  canon_tiles x hx
  all_goals
    have e0 : (r : ℕ) = x 0 := by simpa [Rect.unit] using hx0
    have e1 := hx1
    simp [Rect.unit] at e1
    clear hx0 hx1
    idx_vars x
    obtain rfl : r = x0 := Fin.ext e0
    simp only [pay10_eq, pay13_eq, pay14_eq, pay15_eq, pay17_eq, pay18_eq, pay22_eq, pay23_eq, pay1_eq, pay2_eq, pay11_at]
    refine chunk_eq _ _ _ _ _ _ _ h (fun k => (pay5_at _ _ _ _ _ _).trans ?_) (fun k => ?_) (fun k => ?_)
    · pointwise
    · pointwise
      blk_ext
    · pointwise
      blk_ext

/-- The index maps of the windows. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0]
    ∧ win0_5.index t = ![t.val / 4, t.val % 4, 0] :=
  (by decide +kernel : ∀ t : Fin grid0.N, _)

/-- The block applied to every token of the argument arrays. -/
def array (H : FVec Ideal S16x2048x1024 .f32) (M : FVec Ideal S16x6x1024 .f32) (G : FVec Ideal S1024 .f32)
    (W : FVec Ideal S1024x5632 .bf16) (WD : FVec Ideal S2816x1024 .bf16) : FVec Ideal S16x2048x1024 .f32 := fun i =>
  ffn (fun k => H (ix3 (i 0) (i 1) k)) (fun k => M (ix3 (i 0) 3 k)) (fun k => M (ix3 (i 0) 4 k)) (fun k => M (ix3 (i 0) 5 k))
    (fun k => G (ix1 k)) (fun k l => W (ix2 k l)) (fun k l => WD (ix2 k l)) (i 2)

theorem final (c : Dev nD) : (dats m 0 c).arrAt 5 (cfgs 0).N
    = array (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  idx_vars y
  obtain rfl : y0 = 0 := Subsingleton.elim _ _
  rw [point]
  have ht : t.val < 64 := lt_of_lt_of_eq t.isLt N_0
  have he : ((cfg0.win 5).blk t).view.emb (ix3 0 y1 y2) = ix3 ⟨t.val / 4, by omega⟩ ⟨t.val % 4 * 512 + y1, by omega⟩ y2 := by
    blk_ext [idx t]
  refine Eq.trans ?_ (congrArg _ he.symm)
  unfold tile array
  congr 1 <;> funext k
  · blk_ext [iblk, V_main_arg0, idx t]
  · blk_ext [iblk, V_main_arg1, idx t]
  · blk_ext [iblk, V_main_arg1, idx t]
  · blk_ext [iblk, V_main_arg1, idx t]
  · show iblk m c 2 t (ix2 0 k) = _
    blk_simp [iblk]
    entry_read
    pointwise
    blk_ext [idx t]
  · funext l
    blk_ext [iblk, V_main_arg3, idx t]
  · funext l
    blk_ext [iblk, V_main_arg4, idx t]
end Cert.Kernel3Ideal.Value
end
-- ==== Proof.FfnReference.lean ====
module

public import proofs.«01_k».proof.Proof.FfnBlock
public import proofs.«01_k».proof.Proof.TailReference
public import proofs.«01_k».proof.Proof.Gen.Reference3Ideal.Read

/-! The result of the feed-forward reference without output projection, as the same function of the
argument arrays. -/

@[expose] public section
set_option maxRecDepth 16384
noncomputable section
open Idealize.ShloMosaic Idealize.ShloMosaic.TcCoe Idealize.SL.Sem
namespace Cert.Reference3Ideal.Read
open Cert.Reference3Ideal Cert.Reference3Ideal.Gen TailRow

variable (H : FVec Ideal S16x2048x1024 .f32) (M : FVec Ideal S16x6x1024 .f32) (G : FVec Ideal S1024 .f32)
    (W : FVec Ideal S1024x5632 .bf16) (WD : FVec Ideal S2816x1024 .bf16) (b : Fin 16) (n : Fin 2048)

theorem a_at (j : Fin 1024) : val_main_v20 (F := Ideal) H M G (ix3 b n j)
    = rA (fun k => H (ix3 b n k)) (fun k => M (ix3 b 3 k)) (fun k => M (ix3 b 4 k)) (fun k => G (ix1 k)) j := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, rA]

theorem act_at (c : Fin 2816) : val_main_v27 (F := Ideal) H M G W (ix3 b n c)
    = rAct (fun k => val_main_v20 (F := Ideal) H M G (ix3 b n k)) (fun k l => W (ix2 k l)) c := by
  unfold rAct
  rw [← gate_eq]
  pointwise [val_main_v27, val_main_v26, val_main_v25, val_main_v24, val_main_v22, val_main_v21, val_main_call0_v5, val_main_call0_v4,
    val_main_call0_v3, val_main_call0_v2, val_main_call0_v1, val_main_call0_v0, val_main_call0_cst, val_main_call0_cst_0]

theorem result : val_main_v32 (F := Ideal) H M G W WD = Cert.Kernel3Ideal.Value.array H M G W WD := by
  funext i
  idx_vars i
  show _ = ffn (fun k => H (ix3 i0 i1 k)) (fun k => M (ix3 i0 3 k)) (fun k => M (ix3 i0 4 k))
    (fun k => M (ix3 i0 5 k)) (fun k => G (ix1 k)) (fun k l => W (ix2 k l)) (fun k l => WD (ix2 k l)) i2
  unfold ffn
  rw [← funext (a_at H M G i0 i1)]
  simp only [← act_at]
  pointwise [val_main_v32, val_main_v31, val_main_v30, val_main_v29, val_main_v28, val_main_v23]

end Cert.Reference3Ideal.Read
end
-- ==== Proof.FfnClaim.lean ====
module

public import proofs.«01_k».proof.Defs
public import proofs.«01_k».proof.Proof.FfnReference
public import proofs.«01_k».proof.Proof.Gen.Kernel3.Frame
public import Idealize.ShloMosaic.Lib.Claim

/-! The claims about the feed-forward call without output projection. -/

@[expose] public section
set_option maxRecDepth 16384
noncomputable section
open Idealize.ShloMosaic Idealize.SL.Sem
namespace Cert.Proof

theorem frame_ffn : Cert.quiescent_Kernel3 := fun m g _ => Cert.Kernel3.Gen.frame m g
theorem frame_ffn_ideal : Cert.quiescent_Kernel3Ideal := fun m g _ => Cert.Kernel3Ideal.Gen.frame m g
theorem frame_ffn_reference : Cert.quiescent_Reference3Ideal := by
  intro m g _
  exact (θ_run Cert.Reference3Ideal.defs _ _).mono
    (fun r h => ⟨fun c => (h c).2, sem_eq_zero_of_no_sems (by decide) r.2⟩) (Cert.Reference3Ideal.Value.run m g)
theorem preserves_ffn : Cert.preserves_Kernel3_Kernel3Ideal := trivial

theorem algebraic_ffn : Cert.algebraic_Kernel3Ideal_Reference3Ideal := by
  pair_intro
  · run_from Cert.Kernel3Ideal.Value.run_blocks m g
  · run_from Cert.Reference3Ideal.Value.run m' g'
    obtain ⟨h0, h1, h2, h3, h4⟩ := hagree c
    rw [Cert.Reference3Ideal.Read.val_main_v32_eq, h0, h1, h2, h3, h4]
    exact (Cert.Reference3Ideal.Read.result _ _ _ _ _).trans (Cert.Kernel3Ideal.Value.final m c).symm

end Cert.Proof
end
-- ==== Proof.ProjRow.lean ====
module

public import proofs.«01_k».proof.Proof.Gen.Kernel4Ideal.Value
public import proofs.«01_k».proof.Proof.TailRow

/-! The projection of one token to queries, keys and values, with each head of queries and keys normed; and
each payload of the kernel read at an index as a piece of it. -/

@[expose] public section
set_option maxRecDepth 16384
noncomputable section
open Idealize.ShloMosaic Idealize.ShloMosaic.TcCoe Idealize.SL.Sem

namespace ProjRow

/-- The projection of a normed row to a column of the weights. -/
def proj {n : ℕ} (a : Fin 1024 → EReal) (w : Fin 1024 → Fin n → EReal) (c : Fin n) : EReal := ∑ k, a k * w k c

/-- The RMS norm of a head with gain `g`. -/
def hnorm (y g : Fin 64 → EReal) (d : Fin 64) : EReal :=
  y d * Ideal.rsqrt (Ideal.div (∑ e, y e * y e) (Ideal.ofBits .f32 0x42800000#32) + Ideal.ofBits .f32 0x358637BD#32) * g d

/-- Column `c` of a row of heads, normed over its head. -/
def headAt {n : ℕ} (hn : 64 ∣ n) (Y : Fin n → EReal) (g : Fin 64 → EReal) (c : Fin n) : EReal :=
  hnorm (fun e => Y ⟨64 * (c / 64) + e, by omega⟩) g ⟨c % 64, by omega⟩

/-- A lane of two heads side by side, normed over its half of the lanes. -/
def lanes (y g : Fin 128 → EReal) (c : Fin 128) : EReal :=
  y c * Ideal.rsqrt ((if (c : ℕ) < 64 then ∑ l : Fin 128, (if (l : ℕ) < 64 then y l * y l else 0)
    else ∑ l : Fin 128, (if (l : ℕ) < 64 then 0 else y l * y l)) * Ideal.ofBits .f32 0x3C800000#32
      + Ideal.ofBits .f32 0x358637BD#32) * g c

theorem sum_lo (f : Fin 128 → EReal) : (∑ l : Fin 128, if (l : ℕ) < 64 then f l else 0) = ∑ e : Fin 64, f ⟨e, by omega⟩ := by
  rw [Fin.sum_univ_add (a := 64) (b := 64) fun l : Fin 128 => if (l : ℕ) < 64 then f l else 0]
  simp
  rfl

theorem sum_hi (f : Fin 128 → EReal) : (∑ l : Fin 128, if (l : ℕ) < 64 then 0 else f l) = ∑ e : Fin 64, f ⟨64 + e, by omega⟩ := by
  rw [Fin.sum_univ_add (a := 64) (b := 64) fun l : Fin 128 => if (l : ℕ) < 64 then 0 else f l]
  simp
  rfl

theorem mul_64th (x : EReal) : x * Ideal.ofBits .f32 0x3C800000#32 = Ideal.div x (Ideal.ofBits .f32 0x42800000#32) := by
  rw [show Ideal.ofBits .f32 0x42800000#32 = ((64 : ℝ) : EReal) by
      simp [Ideal.ofBits, Ideal.ieee, -EReal.coe_mul]; norm_num,
    show Ideal.ofBits .f32 0x3C800000#32 = ((1 / 64 : ℝ) : EReal) by
      simp [Ideal.ofBits, Ideal.ieee, -EReal.coe_mul]; norm_num,
    Ideal.div_coe (by norm_num)]

/-- Two heads side by side, normed by halves, are columns of the row of heads. -/
theorem lanes_eq {n : ℕ} (hn : 64 ∣ n) (Y : Fin n → EReal) (G : Fin 64 → EReal) (y g : Fin 128 → EReal) (o : ℕ) (c : Fin 128)
    (J : Fin n) (ho : 64 ∣ o) (hJ : (J : ℕ) = o + c) (hy : ∀ (l : Fin 128) (h : o + l < n), y l = Y ⟨o + l, h⟩)
    (hg : g c = G ⟨c % 64, by omega⟩) : lanes y g c = headAt hn Y G J := by
  have hJn := J.isLt
  unfold lanes headAt hnorm
  rw [sum_lo, sum_hi, mul_64th]
  have hc : y c = Y ⟨64 * (J / 64) + J % 64, by omega⟩ := by
    rw [hy c (by omega)]
    exact congrArg Y (Fin.ext (by simp only []; omega))
  have hd : (⟨c % 64, by omega⟩ : Fin 64) = ⟨J % 64, by omega⟩ := Fin.ext (by simp only []; omega)
  rw [hg, hc, hd]
  have hs : (if (c : ℕ) < 64 then ∑ e : Fin 64, y ⟨e, by omega⟩ * y ⟨e, by omega⟩
      else ∑ e : Fin 64, y ⟨64 + e, by omega⟩ * y ⟨64 + e, by omega⟩)
      = ∑ e : Fin 64, Y ⟨64 * (J / 64) + e, by omega⟩ * Y ⟨64 * (J / 64) + e, by omega⟩ := by
    split
    all_goals
      refine Finset.sum_congr rfl fun e _ => ?_
      rw [hy _ (by simp only []; omega)]
      congr 1 <;> exact congrArg Y (Fin.ext (by simp only []; omega))
  rw [hs]

end ProjRow

namespace Cert.Kernel4Ideal.Value
open Cert.Kernel4Ideal Cert.Kernel4Ideal.Gen TailRow ProjRow

/-- The test of a lane against 64. -/
theorem lane_lt {α : Type} (j : Fin 128) (x y : α) :
    Scalar.select (IntOp.cmpi CmpIPredicate.slt (BitVec.ofNat 32 (j : ℕ)) 64#32) x y = if (j : ℕ) < 64 then x else y := by
  have h : ∀ j : Fin 128, IntOp.cmpi CmpIPredicate.slt (BitVec.ofNat 32 (j : ℕ)) 64#32 = if (j : ℕ) < 64 then 1#1 else 0#1 := by
    decide +kernel
  rw [h]
  split <;> rfl

/-- The normed row. -/
theorem pay5_at (v0 : FVec Ideal S1x512x1024 .f32) (v2 : FVec Ideal S1x1024 .f32) (v4 v6 : FVec Ideal S1x1x1024 .f32)
    (r : Fin 512) (j : Fin 1024) : k0_pay5 (F := Ideal) v0 v2 v4 v6 (ix2 r j)
      = rA (fun k => v0 (ix3 0 r k)) (fun k => v4 (ix3 0 0 k)) (fun k => v6 (ix3 0 0 k)) (fun k => v2 (ix2 0 k)) j := by
  pointwise [k0_pay5, rA]

/-- A tile of the projection, at an index. -/
theorem pay17_at (a : FVec Ideal S512x1024 .bf16) (w : FVec Ideal S1024x256 .bf16) (r : Fin 512) (c : Fin 256) :
    k0_pay17 (F := Ideal) a w (ix2 r c) = ∑ k : Fin 1024, a (ix2 r k) * w (ix2 k c) := by
  pointwise [k0_pay17]

section
variable (z : FVec Ideal S512x256 .f32) (g : FVec Ideal S1x128 .f32) (r : Fin 512) (c : Fin 128)

theorem pay49_at : k0_pay49 (F := Ideal) z g (ix3 0 r c) = lanes (fun l => z (ix2 r ⟨l, by omega⟩)) (fun l => g (ix2 0 l)) c := by
  unfold lanes
  simp only [← lane_lt]
  pointwise [k0_pay49]
theorem pay47_at : k0_pay47 (F := Ideal) z g (ix3 0 r c) = lanes (fun l => z (ix2 r ⟨128 + l, by omega⟩)) (fun l => g (ix2 0 l)) c := by
  unfold lanes
  simp only [← lane_lt]
  pointwise [k0_pay47]
theorem pay86_at : k0_pay86 (F := Ideal) z (ix3 0 r c) = z (ix2 r ⟨c, by omega⟩) := by
  pointwise [k0_pay86]
theorem pay87_at : k0_pay87 (F := Ideal) z (ix3 0 r c) = z (ix2 r ⟨128 + c, by omega⟩) := by
  pointwise [k0_pay87]
end

section
variable (x0 : FVec Ideal S1x512x1024 .f32) (x1 : FVec Ideal S1x6x1024 .f32) (x2 : FVec Ideal S1x1024 .f32)
  (x3 : FVec Ideal S1024x3072 .bf16) (x4 x5 : FVec Ideal S1x128 .f32)

/-- A tile of the projection of the normed tile. -/
def mm (w : Vec Ideal S1024x256 .bf16) : FVec Ideal S512x256 .f32 :=
  k0_pay17 (k0_pay5 (View.ld x0 r0_0) (View.ld x2 r0_1) (View.ld x1 r0_2) (View.ld x1 r0_3)) w

/-! The eight pieces of each result, all of one form. -/
theorem out6_eq : out0_6 (F := Ideal) x0 x1 x2 x3 x4 x5 =
    View.canon [⟨r0_17, k0_pay47 (mm x0 x1 x2 (View.ld x3 r0_12)) (View.ld x4 r0_6)⟩,
      ⟨r0_16, k0_pay49 (mm x0 x1 x2 (View.ld x3 r0_12)) (View.ld x4 r0_6)⟩,
      ⟨r0_14, k0_pay47 (mm x0 x1 x2 (View.ld x3 r0_9)) (View.ld x4 r0_6)⟩,
      ⟨r0_13, k0_pay49 (mm x0 x1 x2 (View.ld x3 r0_9)) (View.ld x4 r0_6)⟩,
      ⟨r0_11, k0_pay47 (mm x0 x1 x2 (View.ld x3 r0_5)) (View.ld x4 r0_6)⟩,
      ⟨r0_10, k0_pay49 (mm x0 x1 x2 (View.ld x3 r0_5)) (View.ld x4 r0_6)⟩,
      ⟨r0_8, k0_pay47 (mm x0 x1 x2 (View.ld x3 r0_4)) (View.ld x4 r0_6)⟩,
      ⟨r0_7, k0_pay49 (mm x0 x1 x2 (View.ld x3 r0_4)) (View.ld x4 r0_6)⟩] := rfl
theorem out7_eq : out0_7 (F := Ideal) x0 x1 x2 x3 x4 x5 =
    View.canon [⟨r0_17, k0_pay47 (mm x0 x1 x2 (View.ld x3 r0_20)) (View.ld x5 r0_6)⟩,
      ⟨r0_16, k0_pay49 (mm x0 x1 x2 (View.ld x3 r0_20)) (View.ld x5 r0_6)⟩,
      ⟨r0_14, k0_pay47 (mm x0 x1 x2 (View.ld x3 r0_19)) (View.ld x5 r0_6)⟩,
      ⟨r0_13, k0_pay49 (mm x0 x1 x2 (View.ld x3 r0_19)) (View.ld x5 r0_6)⟩,
      ⟨r0_11, k0_pay47 (mm x0 x1 x2 (View.ld x3 r0_18)) (View.ld x5 r0_6)⟩,
      ⟨r0_10, k0_pay49 (mm x0 x1 x2 (View.ld x3 r0_18)) (View.ld x5 r0_6)⟩,
      ⟨r0_8, k0_pay47 (mm x0 x1 x2 (View.ld x3 r0_15)) (View.ld x5 r0_6)⟩,
      ⟨r0_7, k0_pay49 (mm x0 x1 x2 (View.ld x3 r0_15)) (View.ld x5 r0_6)⟩] := rfl
theorem out8_eq : out0_8 (F := Ideal) x0 x1 x2 x3 x4 x5 =
    View.canon [⟨r0_17, k0_pay87 (mm x0 x1 x2 (View.ld x3 r0_24))⟩, ⟨r0_16, k0_pay86 (mm x0 x1 x2 (View.ld x3 r0_24))⟩,
      ⟨r0_14, k0_pay87 (mm x0 x1 x2 (View.ld x3 r0_23))⟩, ⟨r0_13, k0_pay86 (mm x0 x1 x2 (View.ld x3 r0_23))⟩,
      ⟨r0_11, k0_pay87 (mm x0 x1 x2 (View.ld x3 r0_22))⟩, ⟨r0_10, k0_pay86 (mm x0 x1 x2 (View.ld x3 r0_22))⟩,
      ⟨r0_8, k0_pay87 (mm x0 x1 x2 (View.ld x3 r0_21))⟩, ⟨r0_7, k0_pay86 (mm x0 x1 x2 (View.ld x3 r0_21))⟩] := rfl
end

end Cert.Kernel4Ideal.Value
end
-- ==== Proof.ProjBlock.lean ====
module

public import proofs.«01_k».proof.Proof.ProjRow

/-! What the projection kernel writes back at a grid point, and its result arrays as functions of the argument
arrays. -/

@[expose] public section
set_option maxRecDepth 16384
noncomputable section
open Idealize.ShloMosaic Idealize.ShloMosaic.TcCoe Idealize.SL.Sem
open Idealize.ShloMosaic.Pipeline (Dat)
namespace Cert.Kernel4Ideal.Value
open Cert.Kernel4Ideal Cert.Kernel4Ideal.Gen TailRow ProjRow

section
variable (x0 : FVec Ideal S1x512x1024 .f32) (x1 : FVec Ideal S1x6x1024 .f32) (x2 : FVec Ideal S1x1024 .f32)
  (x3 : FVec Ideal S1024x3072 .bf16) (x4 x5 : FVec Ideal S1x128 .f32)

/-- The projection of row `r` of a tile. -/
def prow (r : Fin 512) (c : Fin 3072) : EReal :=
  proj (rA (fun k => x0 (ix3 0 r k)) (fun k => x1 (ix3 0 0 k)) (fun k => x1 (ix3 0 1 k)) (fun k => x2 (ix2 0 k)))
    (fun k l => x3 (ix2 k l)) c

/-- A tile of the projection, at an index. -/
theorem mm_at (w : Vec Ideal S1024x256 .bf16) (r : Fin 512) (c : Fin 256) (C : Fin 3072)
    (hw : ∀ k : Fin 1024, w (ix2 k c) = x3 (ix2 k C)) : mm x0 x1 x2 w (ix2 r c) = prow x0 x1 x2 x3 r C := by
  unfold mm
  rw [pay17_at]
  unfold prow proj
  refine Fin.sum_fin_congr fun k => Ideal.mul_congr ((pay5_at _ _ _ _ _ _).trans ?_) (hw k)
  congr 1 <;> funext k
  all_goals pointwise

/-- The two halves of a piece of queries or keys, and of a piece of values, as columns of the projection. -/
theorem upper (w : Vec Ideal S1024x256 .bf16) (g : FVec Ideal S1x128 .f32) (G : Fin 64 → EReal)
    (hG : ∀ c : Fin 128, g (ix2 0 c) = G ⟨c % 64, by omega⟩) (r : Fin 512) (c : Fin 128) (J : Fin 3072)
    (hd : 64 ∣ (J : ℕ) - c) (hJ : 128 + (c : ℕ) ≤ J)
    (hw : ∀ (k : Fin 1024) (l : Fin 256) (L : Fin 3072), (L : ℕ) = J - (128 + c) + l → w (ix2 k l) = x3 (ix2 k L)) :
    k0_pay47 (mm x0 x1 x2 w) g (ix3 0 r c) = headAt (by decide) (prow x0 x1 x2 x3 r) G J := by
  rw [pay47_at]
  refine lanes_eq _ _ G _ _ (J - c) c J hd (by omega) (fun l h => ?_) (hG c)
  exact mm_at _ _ _ _ _ _ _ _ fun k => hw k _ _ (by simp only []; omega)
theorem lower (w : Vec Ideal S1024x256 .bf16) (g : FVec Ideal S1x128 .f32) (G : Fin 64 → EReal)
    (hG : ∀ c : Fin 128, g (ix2 0 c) = G ⟨c % 64, by omega⟩) (r : Fin 512) (c : Fin 128) (J : Fin 3072)
    (hd : 64 ∣ (J : ℕ) - c) (hJ : (c : ℕ) ≤ J)
    (hw : ∀ (k : Fin 1024) (l : Fin 256) (L : Fin 3072), (L : ℕ) = J - c + l → w (ix2 k l) = x3 (ix2 k L)) :
    k0_pay49 (mm x0 x1 x2 w) g (ix3 0 r c) = headAt (by decide) (prow x0 x1 x2 x3 r) G J := by
  rw [pay49_at]
  refine lanes_eq _ _ G _ _ (J - c) c J hd (by omega) (fun l h => ?_) (hG c)
  exact mm_at _ _ _ _ _ _ _ _ fun k => hw k _ _ (by simp only [])

theorem point6 (G : Fin 64 → EReal) (hG : ∀ c : Fin 128, x4 (ix2 0 c) = G ⟨c % 64, by omega⟩) (r : Fin 512) (j : Fin 1024) :
    out0_6 (F := Ideal) x0 x1 x2 x3 x4 x5 (ix3 0 r j) = headAt (by decide) (prow x0 x1 x2 x3 r) G ⟨j, by omega⟩ := by
  rw [out6_eq]
  canon_tiles y hy
  all_goals
    have e1 : (r : ℕ) = y 1 := by simpa [Rect.unit] using hy1
    have e2 := hy2
    simp [Rect.unit] at e2
    clear hy0 hy1 hy2
    idx_vars y
    obtain rfl : y0 = 0 := Subsingleton.elim _ _
    obtain rfl : r = y1 := Fin.ext e1
    first
      | with_reducible refine upper _ _ _ _ _ _ G ?_ _ _ _ ?_ ?_ ?_
      | with_reducible refine lower _ _ _ _ _ _ G ?_ _ _ _ ?_ ?_ ?_
    · intro c
      exact .trans (by pointwise) (hG c)
    · simp only []; omega
    · simp only []; omega
    · intro k l L h
      simp only [] at h
      pointwise
      blk_ext
theorem point7 (G : Fin 64 → EReal) (hG : ∀ c : Fin 128, x5 (ix2 0 c) = G ⟨c % 64, by omega⟩) (r : Fin 512) (j : Fin 1024) :
    out0_7 (F := Ideal) x0 x1 x2 x3 x4 x5 (ix3 0 r j) = headAt (by decide) (prow x0 x1 x2 x3 r) G ⟨1024 + j, by omega⟩ := by
  rw [out7_eq]
  canon_tiles y hy
  all_goals
    have e1 : (r : ℕ) = y 1 := by simpa [Rect.unit] using hy1
    have e2 := hy2
    simp [Rect.unit] at e2
    clear hy0 hy1 hy2
    idx_vars y
    obtain rfl : y0 = 0 := Subsingleton.elim _ _
    obtain rfl : r = y1 := Fin.ext e1
    first
      | with_reducible refine upper _ _ _ _ _ _ G ?_ _ _ _ ?_ ?_ ?_
      | with_reducible refine lower _ _ _ _ _ _ G ?_ _ _ _ ?_ ?_ ?_
    · intro c
      exact .trans (by pointwise) (hG c)
    · simp only []; omega
    · simp only []; omega
    · intro k l L h
      simp only [] at h
      pointwise
      blk_ext
theorem point8 (r : Fin 512) (j : Fin 1024) :
    out0_8 (F := Ideal) x0 x1 x2 x3 x4 x5 (ix3 0 r j) = prow x0 x1 x2 x3 r ⟨2048 + j, by omega⟩ := by
  rw [out8_eq]
  canon_tiles y hy
  all_goals
    have e1 : (r : ℕ) = y 1 := by simpa [Rect.unit] using hy1
    have e2 := hy2
    simp [Rect.unit] at e2
    clear hy0 hy1 hy2
    idx_vars y
    obtain rfl : y0 = 0 := Subsingleton.elim _ _
    obtain rfl : r = y1 := Fin.ext e1
    first | rw [pay87_at] | rw [pay86_at]
    refine mm_at _ _ _ _ _ _ _ _ fun k => ?_
    pointwise
    blk_ext
end

/-- The index maps of the windows. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![t.val / 4, t.val % 4, 0] ∧ win0_7.index t = ![t.val / 4, t.val % 4, 0]
    ∧ win0_8.index t = ![t.val / 4, t.val % 4, 0] :=
  (by decide +kernel : ∀ t : Fin grid0.N, _)

section
variable (H : FVec Ideal S16x2048x1024 .f32) (M : FVec Ideal S16x6x1024 .f32) (G : FVec Ideal S1024 .f32)
    (W : FVec Ideal S1024x3072 .bf16)
/-- The projection of a token. -/
def tok (b : Fin 16) (n : Fin 2048) (c : Fin 3072) : EReal :=
  proj (rA (fun k => H (ix3 b n k)) (fun k => M (ix3 b 0 k)) (fun k => M (ix3 b 1 k)) (fun k => G (ix1 k)))
    (fun k l => W (ix2 k l)) c
/-- The gain of the queries, with the scale of the scores. -/
def qgain (g : FVec Ideal S64 .f32) (d : Fin 64) : EReal := g (ix1 d) * Ideal.ofBits .f32 0x3E38AA3B#32
/-! The three results as functions of the argument arrays. -/
def queries (g : FVec Ideal S64 .f32) : FVec Ideal S16x2048x1024 .bf16 := fun i =>
  headAt (by decide) (tok H M G W (i 0) (i 1)) (qgain g) ⟨i 2, by have h : (i 2 : ℕ) < 1024 := (i 2).isLt; omega⟩
def keys (g : FVec Ideal S64 .f32) : FVec Ideal S16x2048x1024 .bf16 := fun i =>
  headAt (by decide) (tok H M G W (i 0) (i 1)) (fun d => g (ix1 d)) ⟨1024 + i 2, by have h : (i 2 : ℕ) < 1024 := (i 2).isLt; omega⟩
def values : FVec Ideal S16x2048x1024 .bf16 := fun i =>
  tok H M G W (i 0) (i 1) ⟨2048 + i 2, by have h : (i 2 : ℕ) < 1024 := (i 2).isLt; omega⟩
end

variable (m : (ℓ : Loc nD τ sig) → Buf (Elt Ideal) ℓ)

/-- The projection of a row of the blocks of a grid point, as a token of the argument arrays. -/
theorem prow_blk (c : Dev nD) (t : Fin cfg0.N) (r : Fin 512) (ht : t.val < 64) :
    prow (iblk m c 0 t) (iblk m c 1 t) (iblk m c 2 t) (iblk m c 3 t) r
      = tok (m ((c : Thread nD τ).loc main_arg0)) (m ((c : Thread nD τ).loc main_arg1)) (m ((c : Thread nD τ).loc main_arg2))
        (m ((c : Thread nD τ).loc main_arg3)) ⟨t.val / 4, by omega⟩ ⟨t.val % 4 * 512 + r, by omega⟩ := by
  funext l
  unfold prow tok
  congr 1
  · congr 1 <;> funext k
    · blk_ext [iblk, V_main_arg0, idx t]
    · blk_ext [iblk, V_main_arg1, idx t]
    · blk_ext [iblk, V_main_arg1, idx t]
    · show iblk m c 2 t (ix2 0 k) = _
      blk_simp [iblk]
      entry_read
      pointwise
      blk_ext [idx t]
  · funext k l
    blk_ext [iblk, V_main_arg3, idx t]

/-- The gains of the queries and of the keys, as the kernel is given them. -/
theorem gain_q (c : Dev nD) (t : Fin cfg0.N) (l : Fin 128) : iblk m c 4 t (ix2 0 l)
    = qgain (m ((c : Thread nD τ).loc main_arg4)) ⟨l % 64, by omega⟩ := by
  unfold qgain
  blk_simp [iblk]
  entry_read
  pointwise
  blk_ext [idx t]
theorem gain_k (c : Dev nD) (t : Fin cfg0.N) (l : Fin 128) : iblk m c 5 t (ix2 0 l)
    = (m ((c : Thread nD τ).loc main_arg5) : FVec Ideal S64 .f32) (ix1 ⟨l % 64, by omega⟩) := by
  blk_simp [iblk]
  entry_read
  pointwise
  blk_ext [idx t]

theorem final6 (c : Dev nD) : (dats m 0 c).arrAt 6 (cfgs 0).N
    = queries (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  idx_vars y
  obtain rfl : y0 = 0 := Subsingleton.elim _ _
  have ht : t.val < 64 := lt_of_lt_of_eq t.isLt N_0
  have he : ((cfg0.win 6).blk t).view.emb (ix3 0 y1 y2) = ix3 ⟨t.val / 4, by omega⟩ ⟨t.val % 4 * 512 + y1, by omega⟩ y2 := by
    blk_ext [idx t]
  rw [point6 _ _ _ _ _ _ (qgain (m ((c : Thread nD τ).loc main_arg4))) (gain_q m c t), prow_blk m c t y1 ht]
  refine Eq.trans ?_ (congrArg (queries _ _ _ _ _) he.symm)
  unfold queries
  rfl

theorem final7 (c : Dev nD) : (dats m 0 c).arrAt 7 (cfgs 0).N
    = keys (m ((c : Thread nD τ).loc main_arg0)) (m ((c : Thread nD τ).loc main_arg1)) (m ((c : Thread nD τ).loc main_arg2))
        (m ((c : Thread nD τ).loc main_arg3)) (m ((c : Thread nD τ).loc main_arg5)) := by
  refine (dats m 0 c).arrAt_eq_of_covers 7 _ (by decide +kernel) fun t _ y => ?_
  blk_simp
  rw [after0_7]
  idx_vars y
  obtain rfl : y0 = 0 := Subsingleton.elim _ _
  have ht : t.val < 64 := lt_of_lt_of_eq t.isLt N_0
  have he : ((cfg0.win 7).blk t).view.emb (ix3 0 y1 y2) = ix3 ⟨t.val / 4, by omega⟩ ⟨t.val % 4 * 512 + y1, by omega⟩ y2 := by
    blk_ext [idx t]
  rw [point7 _ _ _ _ _ _ (fun d => (m ((c : Thread nD τ).loc main_arg5) : FVec Ideal S64 .f32) (ix1 d)) (gain_k m c t), prow_blk m c t y1 ht]
  refine Eq.trans ?_ (congrArg (keys _ _ _ _ _) he.symm)
  unfold keys
  rfl

theorem final8 (c : Dev nD) : (dats m 0 c).arrAt 8 (cfgs 0).N
    = values (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t _ y => ?_
  blk_simp
  rw [after0_8]
  idx_vars y
  obtain rfl : y0 = 0 := Subsingleton.elim _ _
  have ht : t.val < 64 := lt_of_lt_of_eq t.isLt N_0
  have he : ((cfg0.win 8).blk t).view.emb (ix3 0 y1 y2) = ix3 ⟨t.val / 4, by omega⟩ ⟨t.val % 4 * 512 + y1, by omega⟩ y2 := by
    blk_ext [idx t]
  rw [point8, prow_blk m c t y1 ht]
  refine Eq.trans ?_ (congrArg (values _ _ _ _) he.symm)
  unfold values
  rfl
end Cert.Kernel4Ideal.Value
end
-- ==== Proof.ProjReference.lean ====
module

public import proofs.«01_k».proof.Proof.ProjBlock
public import proofs.«01_k».proof.Proof.Gen.Reference4Ideal.Read

/-! The three results of the projection reference, as the same functions of the argument arrays. -/

@[expose] public section
set_option maxRecDepth 16384
noncomputable section
open Idealize.ShloMosaic Idealize.ShloMosaic.TcCoe Idealize.SL.Sem
namespace Cert.Reference4Ideal.Read
open Cert.Reference4Ideal Cert.Reference4Ideal.Gen TailRow ProjRow
open Cert.Kernel4Ideal.Value (tok qgain queries keys values)

variable (H : FVec Ideal S16x2048x1024 .f32) (M : FVec Ideal S16x6x1024 .f32) (G : FVec Ideal S1024 .f32)
    (W : FVec Ideal S1024x3072 .bf16) (gq gk : FVec Ideal S64 .f32) (b : Fin 16) (n : Fin 2048)

theorem a_at (j : Fin 1024) : val_main_v20 (F := Ideal) H M G (ix3 b n j)
    = rA (fun k => H (ix3 b n k)) (fun k => M (ix3 b 0 k)) (fun k => M (ix3 b 1 k)) (fun k => G (ix1 k)) j := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, rA]

theorem tok_at (l : Fin 3072) : val_main_v22 (F := Ideal) H M G W (ix3 b n l) = tok H M G W b n l := by
  unfold tok proj
  simp only [← a_at]
  pointwise [val_main_v22, val_main_v21]

theorem q4_at (h : Fin 16) (d : Fin 64) : val_main_v39 (F := Ideal) H M G W gq (ix4 b n h d)
    = hnorm (fun e => val_main_v22 (F := Ideal) H M G W (ix3 b n ⟨h * 64 + e, by omega⟩)) (qgain gq) d := by
  unfold hnorm qgain
  rw [← mul_assoc]
  pointwise [val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_cst_3, val_main_cst_4, val_main_cst_5, val_main_cst_6]

theorem k4_at (h : Fin 16) (d : Fin 64) : val_main_v54 (F := Ideal) H M G W gk (ix4 b n h d)
    = hnorm (fun e => val_main_v22 (F := Ideal) H M G W (ix3 b n ⟨1024 + (h * 64 + e), by omega⟩)) (fun d => gk (ix1 d)) d := by
  unfold hnorm
  pointwise [val_main_v54, val_main_v53, val_main_v52, val_main_v51, val_main_v50, val_main_v49, val_main_v48, val_main_v47,
    val_main_v46, val_main_v45, val_main_v44, val_main_v43, val_main_v42, val_main_v41, val_main_v40,
    val_main_cst_7, val_main_cst_8, val_main_cst_9]

/-- A normed head, as columns of a row of heads. -/
theorem head_eq {n : ℕ} (hn : 64 ∣ n) (Y : Fin n → EReal) (g y : Fin 64 → EReal) (d : Fin 64) (J : Fin n)
    (hy : ∀ e : Fin 64, y e = Y ⟨64 * (J / 64) + e, by omega⟩) (hd : d = ⟨J % 64, by omega⟩) : hnorm y g d = headAt hn Y g J := by
  subst hd
  rw [funext hy]
  rfl

theorem queries_eq : val_main_v56 (F := Ideal) H M G W gq = queries H M G W gq := by
  funext i
  idx_vars i
  have h1 : (i2 : ℕ) < 1024 := i2.isLt
  have h : val_main_v56 (F := Ideal) H M G W gq (ix3 i0 i1 i2)
      = val_main_v39 (F := Ideal) H M G W gq (ix4 i0 i1 ⟨i2 / 64, by omega⟩ ⟨i2 % 64, by omega⟩) := by
    pointwise [val_main_v56, val_main_v55]
  rw [h, q4_at, funext fun e => tok_at H M G W i0 i1 _]
  show _ = headAt (by decide) (tok H M G W i0 i1) (qgain gq) ⟨i2, by omega⟩
  refine head_eq _ _ _ _ _ _ (fun e => congrArg _ (Fin.ext ?_)) (Fin.ext ?_) <;> simp only [] <;> omega

theorem keys_eq : val_main_v58 (F := Ideal) H M G W gk = keys H M G W gk := by
  funext i
  idx_vars i
  have h1 : (i2 : ℕ) < 1024 := i2.isLt
  have h : val_main_v58 (F := Ideal) H M G W gk (ix3 i0 i1 i2)
      = val_main_v54 (F := Ideal) H M G W gk (ix4 i0 i1 ⟨i2 / 64, by omega⟩ ⟨i2 % 64, by omega⟩) := by
    pointwise [val_main_v58, val_main_v57]
  rw [h, k4_at, funext fun e => tok_at H M G W i0 i1 _]
  show _ = headAt (by decide) (tok H M G W i0 i1) (fun d => gk (ix1 d)) ⟨1024 + i2, by omega⟩
  refine head_eq _ _ _ _ _ _ (fun e => congrArg _ (Fin.ext ?_)) (Fin.ext ?_) <;> simp only [] <;> omega

theorem values_eq : val_main_v60 (F := Ideal) H M G W = values H M G W := by
  funext i
  idx_vars i
  show _ = tok H M G W i0 i1 ⟨2048 + i2, by omega⟩
  rw [← tok_at]
  pointwise [val_main_v60, val_main_v59]

end Cert.Reference4Ideal.Read
end
-- ==== Proof.ProjClaim.lean ====
module

public import proofs.«01_k».proof.Defs
public import proofs.«01_k».proof.Proof.ProjReference
public import proofs.«01_k».proof.Proof.Gen.Kernel4.Frame
public import Idealize.ShloMosaic.Lib.Claim

/-! The claims about the projection to queries, keys and values. -/

@[expose] public section
set_option maxRecDepth 16384
noncomputable section
open Idealize.ShloMosaic Idealize.SL.Sem
namespace Cert.Proof

theorem frame_proj : Cert.quiescent_Kernel4 := fun m g _ => Cert.Kernel4.Gen.frame m g
theorem frame_proj_ideal : Cert.quiescent_Kernel4Ideal := fun m g _ => Cert.Kernel4Ideal.Gen.frame m g
theorem frame_proj_reference : Cert.quiescent_Reference4Ideal := by
  intro m g _
  exact (θ_run Cert.Reference4Ideal.defs _ _).mono
    (fun r h => ⟨fun c => (h c).2.2.2, sem_eq_zero_of_no_sems (by decide) r.2⟩) (Cert.Reference4Ideal.Value.run m g)
theorem preserves_proj : Cert.preserves_Kernel4_Kernel4Ideal := trivial

theorem algebraic_proj : Cert.algebraic_Kernel4Ideal_Reference4Ideal := by
  pair_intro
  · run_from Cert.Kernel4Ideal.Value.run_blocks m g
  · run_from Cert.Reference4Ideal.Value.run m' g'
    all_goals obtain ⟨h0, h1, h2, h3, h4, h5⟩ := hagree c
    · rw [Cert.Reference4Ideal.Read.val_main_v56_eq, h0, h1, h2, h3, h4]
      exact (Cert.Reference4Ideal.Read.queries_eq _ _ _ _ _).trans (Cert.Kernel4Ideal.Value.final6 m c).symm
    · rw [Cert.Reference4Ideal.Read.val_main_v58_eq, h0, h1, h2, h3, h5]
      exact (Cert.Reference4Ideal.Read.keys_eq _ _ _ _ _).trans (Cert.Kernel4Ideal.Value.final7 m c).symm
    · rw [Cert.Reference4Ideal.Read.val_main_v60_eq]
      exact (Cert.Reference4Ideal.Read.values_eq _ _ _ _).trans (Cert.Kernel4Ideal.Value.final8 m c).symm

end Cert.Proof
end
-- ==== Proof.SwaRow.lean ====
module

public import proofs.«01_k».proof.Proof.Gen.Kernel5Ideal.Value
public import Idealize.ShloMosaic.Lib.Pipeline.ValueKit
public import Idealize.ShloMosaic.Lib.Pipeline.ReadBack
public import Idealize.ShloMosaic.Lib.Pointwise

/-! What the windowed attention stores: the sixteen chains of a grid point, each of four heads, stored as two pairs. -/

@[expose] public section
set_option maxRecDepth 16384
noncomputable section
open Idealize.ShloMosaic Idealize.ShloMosaic.TcCoe Idealize.SL.Sem
namespace Cert.Kernel5Ideal.Value
open Cert.Kernel5Ideal Cert.Kernel5Ideal.Gen

/-- The scores of four heads' queries, from two tiles of lanes, against the window's keys and the context's. -/
def scoreMat (a b : Vec Ideal S1x256x128 .bf16) (kw : Vec Ideal S1x512x128 .bf16) (kc : Vec Ideal S1x256x128 .bf16)
    (w : Vec Ideal S1x256x512 .f32) : FVec Ideal S1024x768 .f32 :=
  k0_pay7 (k0_pay5 (k0_pay3 a a b b) kw kc w) (k0_pay6 (k0_pay3 a a b b) kw kc)

/-- The first two heads of a chain. -/
def pair0 (s : FVec Ideal S1024x768 .f32) (v : FVec Ideal S768x128 .bf16) (s0 s1 s2 s3 : Elt Ideal .f32) : FVec Ideal S1x256x128 .bf16 :=
  k0_pay30 k0_pay2 s v (k0_pay15 s s0) (k0_pay16 s s0) (k0_pay20 s s1) (k0_pay21 s s1) (k0_pay22 s) (k0_pay23 s2) s3

/-- The last two heads of a chain. -/
def pair1 (s : FVec Ideal S1024x768 .f32) (v : FVec Ideal S768x128 .bf16) (s0 s1 s2 s3 : Elt Ideal .f32) : FVec Ideal S1x256x128 .bf16 :=
  k0_pay32 k0_pay2 (k0_pay28 s s3) (k0_pay29 s v (k0_pay15 s s0) (k0_pay20 s s1) (k0_pay22 s) (k0_pay23 s2) s3)
    (k0_pay31 s v (k0_pay15 s s0) (k0_pay20 s s1) (k0_pay22 s) (k0_pay23 s2) s3)

theorem inb_q (b : Fin 4) (n : Fin 8) (a) : (![0, 256 * (b : ℕ), 128 * (n : ℕ)] : Fin 3 → Nat) a + S1x256x128.size a ≤ S1x1024x1024.size a := by
  have := b.2
  have := n.2
  fin_cases a <;> simp [S1x256x128, S1x1024x1024] <;> omega
theorem inb_c (h : Fin 4) (a) : (![0, 0, 128 * (h : ℕ)] : Fin 3 → Nat) a + S1x256x128.size a ≤ S1x256x512.size a := by
  have := h.2
  fin_cases a <;> simp [S1x256x128, S1x256x512] <;> omega
theorem inb_s (n : Fin 16) (a) : (![(n : ℕ)] : Fin 1 → Nat) a + S1.size a ≤ S16.size a := by
  have := n.2
  fin_cases a
  simp [S1, S16]

/-- Where the window of a block of queries starts, for the lanes of a chain. -/
def winOff (i : grid0.Coords) (b h : Fin 4) : Fin 3 → Nat := ![0, k0_off1 i (BitVec.ofNat 32 b) 1, 128 * (h : ℕ)]

theorem inb_w (i : grid0.Coords) (b h : Fin 4) (a) : winOff i b h a + S1x512x128.size a ≤ S1x2048x512.size a := by
  have h1 := facts.k0_off1_inb i b 1
  have := h.2
  fin_cases a
  · simp [winOff, S1x512x128, S1x2048x512]
  · exact h1
  · simp [winOff, S1x512x128, S1x2048x512]
    omega

section
variable (i : grid0.Coords) (x0 : Vec Ideal S1x1024x1024 .bf16) (x1 x2 : Vec Ideal S1x2048x512 .bf16) (x3 x4 : Vec Ideal S1x256x512 .bf16)
  (x5 : Vec Ideal S16 .f32) (x6 : Vec Ideal S3x256x512 .f32)

/-- A chain's scores. -/
def chainScores (b h : Fin 4) : FVec Ideal S1024x768 .f32 :=
  scoreMat (View.ld x0 (Rect.unit _ S1x256x128.size (inb_q b ⟨2 * h, by omega⟩))) (View.ld x0 (Rect.unit _ S1x256x128.size (inb_q b ⟨2 * h + 1, by omega⟩)))
    (View.ld x1 (Rect.unit _ S1x512x128.size (inb_w i b h))) (View.ld x3 (Rect.unit _ S1x256x128.size (inb_c h)))
    (View.ld x6 (Rect.unit _ S1x256x512.size (facts.k0_off2_inb i b)))

/-- A chain's values. -/
def chainVals (b h : Fin 4) : FVec Ideal S768x128 .bf16 :=
  k0_pay11 (View.ld x2 (Rect.unit _ S1x512x128.size (inb_w i b h))) (View.ld x4 (Rect.unit _ S1x256x128.size (inb_c h)))

/-- A head's sink. -/
def sinkOf (n : Fin 16) : Elt Ideal .f32 := View.ld x5 (Rect.unit _ S1.size (inb_s n)) (Shape.Idx.first (show 0 < S1.numel by decide))

/-- What a chain stores for one pair of heads. -/
def chainPair (b h : Fin 4) (p : Fin 2) : FVec Ideal S1x256x128 .bf16 :=
  (if p = 0 then pair0 else pair1) (chainScores i x0 x1 x3 x6 b h) (chainVals i x2 x4 b h)
    (sinkOf x5 ⟨4 * h, by omega⟩) (sinkOf x5 ⟨4 * h + 1, by omega⟩) (sinkOf x5 ⟨4 * h + 2, by omega⟩) (sinkOf x5 ⟨4 * h + 3, by omega⟩)

/-- A store of a grid point. -/
def piece (b h : Fin 4) (p : Fin 2) : View.Piece (Elt Ideal) S1x1024x1024 .bf16 :=
  ⟨Rect.unit _ S1x256x128.size (inb_q b ⟨2 * h + p, by omega⟩), chainPair i x0 x1 x2 x3 x4 x5 x6 b h p⟩

/-- The stores of a grid point, the last one first. -/
def pieces : List (View.Piece (Elt Ideal) S1x1024x1024 .bf16) :=
  List.ofFn fun k : Fin 32 => piece i x0 x1 x2 x3 x4 x5 x6 ⟨(31 - k) / 8, by omega⟩ ⟨(31 - k) / 2 % 4, by omega⟩ ⟨(31 - k) % 2, by omega⟩
end

set_option maxHeartbeats 4000000 in
/-- The body leaves these stores in the output. -/
theorem run_eq (c : Dev nD) (i : grid0.Coords) (arg2 : Memref sig .tc .vmem S1x1024x1024 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .smem S16 .f32) (harg7 : arg7.IsWhole) (arg8 : Memref sig .tc .vmem S3x256x512 .f32) (harg8 : arg8.IsWhole) (arg9 : Memref sig .tc .vmem S1x1024x1024 .bf16) (harg9 : arg9.IsWhole)
    (x0 : Vec Ideal S1x1024x1024 .bf16) (x1 : Vec Ideal S1x2048x512 .bf16) (x2 : Vec Ideal S1x2048x512 .bf16) (x3 : Vec Ideal S1x256x512 .bf16) (x4 : Vec Ideal S1x256x512 .bf16) (x5 : Vec Ideal S16 .f32) (x6 : Vec Ideal S3x256x512 .f32) :
    (kernelRun0_A c i arg2 harg2 arg3 harg3 arg4 harg4 arg5 harg5 arg6 harg6 arg7 harg7 arg8 harg8 arg9 harg9 x0 x1 x2 x3 x4 x5 x6).1
    = pieces i (arg2.view.read (Elt Ideal) (harg2.unread x0)) (arg3.view.read (Elt Ideal) (harg3.unread x1)) (arg4.view.read (Elt Ideal) (harg4.unread x2))
      (arg5.view.read (Elt Ideal) (harg5.unread x3)) (arg6.view.read (Elt Ideal) (harg6.unread x4)) (arg7.view.read (Elt Ideal) (harg7.unread x5)) (arg8.view.read (Elt Ideal) (harg8.unread x6)) := by
  rfl

end Cert.Kernel5Ideal.Value
end
-- ==== Proof.SwaSoftmax.lean ====
module

public import proofs.«01_k».proof.Proof.AttnSoftmax

/-! The softmax of masked scores with a sink: in base 2 over the keys of a window, and in base e over all the keys. -/

@[expose] public section
set_option maxRecDepth 16384
noncomputable section
open Idealize.ShloMosaic

namespace SwaRow
open AttnRow

/-- The greatest of a row of scores and a sink. -/
def stop {n : ℕ} (s : Fin n → EReal) (z : EReal) : EReal := max (Finset.univ.fold max (Ideal.ofBits .f32 0xFF800000#32) s) z

/-- The weighted sum of `num` over the weighted sum of `den` with the sink's weight. -/
def quot {n : ℕ} (s : Fin n → EReal) (z : EReal) (num den : Fin n → EReal) : EReal :=
  Ideal.div (∑ k, Ideal.exp2 (s k - stop s z) * num k) (∑ k, Ideal.exp2 (s k - stop s z) * den k + Ideal.exp2 (z - stop s z))

section
variable {n : ℕ} (V : Fin n → Prop) [DecidablePred V] (S : Fin n → ℝ) (Z : ℝ)

/-- The unnormalised weight of a key. -/
def part (k : Fin n) : ℝ := if V k then (2 : ℝ) ^ S k else 0

/-- The sum of the weights, the sink's among them. -/
def total : ℝ := ∑ k, part V S k + (2 : ℝ) ^ Z

/-- The share of a key. -/
def share (k : Fin n) : ℝ := part V S k / total V S Z

theorem part_nonneg (k : Fin n) : 0 ≤ part V S k := by
  unfold part
  split <;> positivity

theorem total_pos : 0 < total V S Z :=
  add_pos_of_nonneg_of_pos (Finset.sum_nonneg fun k _ => part_nonneg V S k) (Real.rpow_pos_of_pos (by norm_num) _)
end

/-- The greatest of scores that are real or absent is real or absent. -/
theorem fold_real {n : ℕ} (s : Fin n → EReal) (h : ∀ k, s k = ⊥ ∨ IsReal (s k)) :
    Finset.univ.fold max (Ideal.ofBits .f32 0xFF800000#32) s = ⊥ ∨ IsReal (Finset.univ.fold max (Ideal.ofBits .f32 0xFF800000#32) s) := by
  classical
  rw [ofBits_bot]
  refine Finset.induction_on (Finset.univ : Finset (Fin n)) (Or.inl (Finset.fold_empty ..)) fun a t ha ih => ?_
  rw [Finset.fold_insert ha]
  rcases max_choice (s a) (t.fold max ⊥ s) with e | e <;> rw [e]
  · exact h a
  · exact ih

theorem max_real {x : EReal} (h : x = ⊥ ∨ IsReal x) (z : ℝ) : IsReal (max x z) := by
  rcases max_choice x z with e | e <;> rw [e]
  · rcases h with h | h
    · rw [h, max_eq_right bot_le] at e
      exact absurd e (EReal.coe_ne_bot z)
    · exact h
  · exact ⟨z, rfl⟩

section
variable {n : ℕ} {V : Fin n → Prop} [DecidablePred V] {S : Fin n → ℝ} {Z : ℝ}

/-- Weights with a common factor, divided by their sum with the sink's. -/
theorem scaled_share (c : ℝ) (hc : 0 < c) (k : Fin n) :
    part V S k * c * (1 / (∑ l, part V S l * c + (2 : ℝ) ^ Z * c)) = share V S Z k := by
  have := total_pos V S Z
  rw [← Finset.sum_mul, ← add_mul]
  show _ * (1 / (total V S Z * c)) = part V S k / total V S Z
  field_simp

/-- The window's quotient is the sum of the values by their shares. -/
theorem quot_eq {s : Fin n → EReal} (hs : ∀ k, s k = if V k then (S k : EReal) else ⊥) (num : Fin n → EReal) :
    quot s Z num (fun _ => 1) = ∑ k, num k * (share V S Z k : EReal) := by
  have hr : ∀ k, s k = ⊥ ∨ IsReal (s k) := fun k => by
    rw [hs]
    split
    · exact Or.inr ⟨_, rfl⟩
    · exact Or.inl rfl
  obtain ⟨M, hM⟩ := max_real (fold_real s hr) Z
  have hc : (0 : ℝ) < 2 ^ (-M) := Real.rpow_pos_of_pos (by norm_num) _
  have he : ∀ x : ℝ, Ideal.exp2 ((x : EReal) - (M : EReal)) = (((2 : ℝ) ^ x * 2 ^ (-M) : ℝ) : EReal) := fun x => by
    rw [← EReal.coe_sub, Ideal.exp2_coe, ← Real.rpow_add (by norm_num)]
    rfl
  have hw : ∀ k, Ideal.exp2 (s k - (M : EReal)) = ((part V S k * 2 ^ (-M) : ℝ) : EReal) := fun k => by
    rw [hs, part]
    split
    · exact he _
    · rw [EReal.bot_sub, Ideal.exp2_bot]
      simp
  have hpos : 0 < ∑ l, part V S l * 2 ^ (-M) + (2 : ℝ) ^ Z * 2 ^ (-M) := by
    rw [← Finset.sum_mul, ← add_mul]
    exact mul_pos (total_pos V S Z) hc
  unfold quot
  rw [show stop s Z = (M : EReal) from hM]
  simp only [hw, he, mul_one]
  rw [← coe_sum, ← EReal.coe_add, Ideal.div_coe hpos.ne', sum_mul_coe _ _ (by positivity)]
  refine Finset.sum_congr rfl fun k _ => ?_
  rw [← scaled_share _ hc k, EReal.coe_mul (part V S k * _), mul_comm _ (num k), mul_assoc]

/-- The softmax over all the keys and the sink, the sink's weight dropped, is the sum of the values by their shares. -/
theorem softmax_eq {y : Fin (n + 1) → EReal} (hy : ∀ k : Fin n, y k.castSucc = if V k then ((S k * Real.log 2 : ℝ) : EReal) else ⊥)
    (hz : y (Fin.last n) = ((Z * Real.log 2 : ℝ) : EReal)) (v : Fin n → EReal) (M' : EReal)
    (hM' : M' = max ⊥ (Finset.univ.fold max (Ideal.ofBits .f32 0xFF800000#32) y)) :
    ∑ k : Fin n, v k * Ideal.div (Ideal.exp (y k.castSucc - M')) (0 + ∑ l, Ideal.exp (y l - M')) = ∑ k, v k * (share V S Z k : EReal) := by
  have hr : ∀ k, y k = ⊥ ∨ IsReal (y k) := fun k => by
    refine Fin.lastCases (Or.inr ⟨_, hz⟩) (fun k => ?_) k
    rw [hy]
    split
    · exact Or.inr ⟨_, rfl⟩
    · exact Or.inl rfl
  obtain ⟨M, hM⟩ : IsReal M' := by
    rw [hM', max_eq_right bot_le]
    refine (fold_real y hr).resolve_left fun h => ?_
    have := (Finset.fold_max_le (b := Ideal.ofBits .f32 0xFF800000#32) (f := y) (s := Finset.univ) ⊥).1 h.le
    have := this.2 (Fin.last n) (Finset.mem_univ _)
    rw [hz] at this
    exact absurd (le_bot_iff.1 this) (EReal.coe_ne_bot _)
  subst hM
  have hc : (0 : ℝ) < Real.exp (-M) := Real.exp_pos _
  have he : ∀ x : ℝ, Ideal.exp (((x * Real.log 2 : ℝ) : EReal) - (M : EReal)) = (((2 : ℝ) ^ x * Real.exp (-M) : ℝ) : EReal) := fun x => by
    rw [← EReal.coe_sub, Ideal.exp_coe, Real.rpow_def_of_pos (by norm_num), ← Real.exp_add]
    exact congrArg _ (congrArg _ (by ring))
  have hw : ∀ k : Fin n, Ideal.exp (y k.castSucc - (M : EReal)) = ((part V S k * Real.exp (-M) : ℝ) : EReal) := fun k => by
    rw [hy, part]
    split
    · exact he _
    · rw [EReal.bot_sub, Ideal.exp_bot]
      simp
  have hpos : 0 < ∑ l, part V S l * Real.exp (-M) + (2 : ℝ) ^ Z * Real.exp (-M) := by
    rw [← Finset.sum_mul, ← add_mul]
    exact mul_pos (total_pos V S Z) hc
  have hD : 0 + ∑ l, Ideal.exp (y l - (M : EReal)) = ((∑ l, part V S l * Real.exp (-M) + (2 : ℝ) ^ Z * Real.exp (-M) : ℝ) : EReal) := by
    rw [zero_add, Fin.sum_univ_castSucc, hz, he, EReal.coe_add, coe_sum]
    simp only [hw]
  rw [hD]
  refine Finset.sum_congr rfl fun k _ => ?_
  rw [hw, Ideal.div_coe hpos.ne', ← scaled_share _ hc k, EReal.coe_mul (part V S k * _)]

end

/-- Keys outside a window have no share. -/
theorem share_window {n N : ℕ} (V : Fin N → Prop) [DecidablePred V] (S : Fin N → ℝ) (Z : ℝ) (v : Fin N → EReal) (w : Fin n → Fin N)
    (hw : Function.Injective w) (hV : ∀ k, V k → k ∈ Set.range w) :
    ∑ k, v (w k) * (share (fun k => V (w k)) (fun k => S (w k)) Z k : EReal) = ∑ k, v k * (share V S Z k : EReal) := by
  have h0 : ∀ k, k ∉ Set.range w → part V S k = 0 := fun k hk => if_neg fun h => hk (hV k h)
  have hT : total (fun k => V (w k)) (fun k => S (w k)) Z = total V S Z := by
    unfold total
    exact congrArg (· + _) (Fintype.sum_of_injective w hw _ (part V S) h0 fun k => rfl)
  refine Fintype.sum_of_injective w hw _ _ (fun k hk => ?_) fun k => ?_
  · rw [share, h0 k hk]
    simp
  · unfold share
    rw [hT]
    rfl

end SwaRow
end
-- ==== Proof.SwaBlock.lean ====
module

public import proofs.«01_k».proof.Proof.SwaRow
public import proofs.«01_k».proof.Proof.SwaSoftmax

/-! What the sliding-window attention kernel writes back at one grid point, entry by entry. -/

@[expose] public section
set_option maxRecDepth 16384
noncomputable section
open Idealize.ShloMosaic Idealize.ShloMosaic.TcCoe Idealize.SL.Sem
namespace Cert.Kernel5Ideal.Value
open Cert.Kernel5Ideal Cert.Kernel5Ideal.Gen SwaRow
open AttnRow (opp)

variable (s : FVec Ideal S1024x768 .f32) (v : FVec Ideal S768x128 .bf16) (s0 s1 s2 s3 : Elt Ideal .f32)
  (a b : Vec Ideal S1x256x128 .bf16) (kw : Vec Ideal S1x512x128 .bf16) (kc : Vec Ideal S1x256x128 .bf16)
    (w : Vec Ideal S1x256x512 .f32)

/-- The kernel's constant for the change of base. -/
def log2e : EReal := Named.named (F := Ideal) (φ := .f32) κ "log2e" 0x3FB8AA3B#32

/-- A head's quotient of two lanes of the values. -/
def headQuot (g : Fin 4) (z : EReal) (r : Fin 256) (l l' : Fin 128) : EReal :=
  quot (fun k => s (ix2 ⟨256 * g + r, by omega⟩ k)) (z * log2e) (fun k => v (ix2 k l)) fun k => v (ix2 k l')

theorem lane_lt {α : Type} (j : Fin 128) (x y : α) :
    Scalar.select (IntOp.cmpi CmpIPredicate.slt (BitVec.ofNat 32 (j : ℕ)) 64#32) x y = if (j : ℕ) < 64 then x else y := by
  have h : ∀ j : Fin 128, IntOp.cmpi CmpIPredicate.slt (BitVec.ofNat 32 (j : ℕ)) 64#32 = if (j : ℕ) < 64 then 1#1 else 0#1 := by
    decide +kernel
  rw [h]
  split <;> rfl

theorem pair0_at (r : Fin 256) (l : Fin 128) : pair0 s v s0 s1 s2 s3 (ix3 0 r l)
    = if (l : ℕ) < 64 then headQuot s v 0 s0 r l (opp l) else headQuot s v 1 s1 r (opp l) l := by
  rw [← lane_lt]
  have e0 : (⟨256 * ((0 : Fin 4) : ℕ) + r, by simp; omega⟩ : Fin 1024) = ⟨r, by omega⟩ := Fin.ext (by simp)
  have e1 : (⟨256 * ((1 : Fin 4) : ℕ) + r, by simp; omega⟩ : Fin 1024) = ⟨256 + r, by omega⟩ := Fin.ext (by simp)
  unfold headQuot quot stop log2e
  rw [e0, e1]
  pointwise [pair0, k0_pay30, k0_pay29, k0_pay28, k0_pay31, k0_pay15, k0_pay20, k0_pay22, k0_pay23, k0_pay16, k0_pay21, k0_pay2, k0_pay12, k0_pay13, k0_pay14, k0_pay17,k0_pay18,k0_pay19, k0_pay24,k0_pay25,k0_pay26,k0_pay27, opp]
  rfl
theorem pair1_at (r : Fin 256) (l : Fin 128) : pair1 s v s0 s1 s2 s3 (ix3 0 r l)
    = if (l : ℕ) < 64 then headQuot s v 2 s2 r l (opp l) else headQuot s v 3 s3 r (opp l) l := by
  rw [← lane_lt]
  have e0 : (⟨256 * ((2 : Fin 4) : ℕ) + r, by simp; omega⟩ : Fin 1024) = ⟨512 + r, by omega⟩ := Fin.ext (by simp)
  have e1 : (⟨256 * ((3 : Fin 4) : ℕ) + r, by simp; omega⟩ : Fin 1024) = ⟨768 + r, by omega⟩ := Fin.ext (by simp)
  unfold headQuot quot stop log2e
  rw [e0, e1]
  pointwise [pair1, k0_pay32, k0_pay29, k0_pay28, k0_pay31, k0_pay15, k0_pay20, k0_pay22, k0_pay23, k0_pay16, k0_pay21, k0_pay2, k0_pay12, k0_pay13, k0_pay14, k0_pay17,k0_pay18,k0_pay19, k0_pay24,k0_pay25,k0_pay26,k0_pay27, opp]
  simp (disch := omega) only [dif_pos, dif_neg]
  simp only [show 768 + (r : ℕ) - 256 - 256 - 256 = r by omega, show 512 + (r : ℕ) - 256 - 256 = r by omega]
  rfl

theorem vals_at (k : Fin 768) (l : Fin 128) : k0_pay11 (F := Ideal) kw kc (ix2 k l)
    = if h : (k : ℕ) < 512 then kw (ix3 0 ⟨k, h⟩ l) else kc (ix3 0 ⟨k - 512, by omega⟩ l) := by
  pointwise [k0_pay11]

/-- The queries of head `g` of a chain, the other head's lanes zero. -/
theorem queries_at (g : Fin 4) (r : Fin 256) (l : Fin 128) : k0_pay3 (F := Ideal) a a b b (ix2 ⟨256 * g + r, by omega⟩ l)
    = if (l : ℕ) / 64 = g % 2 then (if (g : ℕ) < 2 then a else b) (ix3 0 r l) else 0 := by
  pointwise [k0_pay3, k0_pay2]
  simp only [lane_lt]
  repeat' split
  all_goals first
    | (exfalso; omega)
    | rfl
    | exact congrArg _ (congrArg (fun x => ix3 0 x l) (Fin.ext (by simp only; omega)))

section
variable (q : FVec Ideal S1024x128 .bf16) (R : Fin 1024)

theorem dots_at (k : Fin 768) : k0_pay4 (F := Ideal) q kw kc (ix2 R k) = ∑ l : Fin 128, q (ix2 R l) * k0_pay11 (F := Ideal) kw kc (ix2 k l) := by
  generalize hv : k0_pay11 (F := Ideal) kw kc = x
  unfold k0_pay11 at hv
  unfold k0_pay4
  simp only [hv]
  pointwise

theorem banded_at (k : Fin 512) : k0_pay5 (F := Ideal) q kw kc w (ix2 R k)
    = k0_pay4 (F := Ideal) q kw kc (ix2 R ⟨k, by omega⟩) + w (ix3 0 ⟨R % 256, by omega⟩ k) := by
  unfold k0_pay5
  generalize k0_pay4 (F := Ideal) q kw kc = x
  pointwise
  refine Ideal.add_congr ?_ ?_
  · rfl
  · repeat' split
    all_goals exact congrArg _ (congrArg (fun x => ix3 0 x k) (Fin.ext (by simp only; omega)))

theorem context_at (k : Fin 256) : k0_pay6 (F := Ideal) q kw kc (ix2 R k) = k0_pay4 (F := Ideal) q kw kc (ix2 R ⟨512 + k, by omega⟩) := by
  unfold k0_pay6
  generalize k0_pay4 (F := Ideal) q kw kc = x
  pointwise
end

theorem scores_at (g : Fin 4) (r : Fin 256) (k : Fin 768) : scoreMat a b kw kc w (ix2 ⟨256 * g + r, by omega⟩ k)
    = ∑ l : Fin 128, (if (l : ℕ) / 64 = g % 2 then (if (g : ℕ) < 2 then a else b) (ix3 0 r l) else 0) * k0_pay11 (F := Ideal) kw kc (ix2 k l)
      + if h : (k : ℕ) < 512 then w (ix3 0 r ⟨k, h⟩) else 0 := by
  simp only [← queries_at a b g r]
  generalize hq : k0_pay3 (F := Ideal) a a b b = q
  rw [← dots_at]
  unfold scoreMat k0_pay7
  rw [hq]
  generalize hx : k0_pay5 (F := Ideal) q kw kc w = x
  generalize hy : k0_pay6 (F := Ideal) q kw kc = y
  pointwise
  split
  · rw [← hx, banded_at]
    refine Ideal.add_congr rfl (congrArg _ (congrArg (fun x => ix3 0 x _) (Fin.ext (by simp only; omega))))
  · rw [← hy, context_at, add_zero]
    exact congrArg _ (congrArg (ix2 _) (Fin.ext (by simp only; omega)))

/-- A sum over 128 lanes of which one half is zero. -/
theorem half_sum (e : ℕ) (he : e < 2) (q k : Fin 128 → EReal) : ∑ l : Fin 128, (if (l : ℕ) / 64 = e then q l else 0) * k l
    = ∑ d : Fin 64, q ⟨64 * e + d, by omega⟩ * k ⟨64 * e + d, by omega⟩ := by
  rw [show (∑ l : Fin 128, (if (l : ℕ) / 64 = e then q l else 0) * k l) = _ from
    Fin.sum_univ_add (a := 64) (b := 64) fun l => (if (l : ℕ) / 64 = e then q l else 0) * k l]
  have h0 : ∀ d : Fin 64, ((Fin.castAdd 64 d : Fin 128) : ℕ) / 64 = 0 := fun d => by simp only [Fin.val_castAdd]; omega
  have h1 : ∀ d : Fin 64, ((Fin.natAdd 64 d : Fin 128) : ℕ) / 64 = 1 := fun d => by simp only [Fin.val_natAdd]; omega
  simp only [h0, h1]
  obtain rfl | rfl : e = 0 ∨ e = 1 := by omega
  · simp only [if_true, if_neg (by decide : ¬ (1 : ℕ) = 0), zero_mul, Finset.sum_const_zero, add_zero]
    exact Finset.sum_congr rfl fun d _ => Ideal.mul_congr (congrArg q (Fin.ext (by simp))) (congrArg k (Fin.ext (by simp)))
  · simp only [if_true, if_neg (by decide : ¬ (0 : ℕ) = 1), zero_mul, Finset.sum_const_zero, zero_add]
    exact Finset.sum_congr rfl fun d _ => Ideal.mul_congr (congrArg q (Fin.ext (by simp [add_comm]))) (congrArg k (Fin.ext (by simp [add_comm])))

section
variable (i : grid0.Coords) (x0 : Vec Ideal S1x1024x1024 .bf16) (x1 x2 : Vec Ideal S1x2048x512 .bf16) (x3 x4 : Vec Ideal S1x256x512 .bf16)
  (x5 : Vec Ideal S16 .f32) (x6 : Vec Ideal S3x256x512 .f32) (b h : Fin 4)

/-- Where a window starts. -/
def start : ℕ := k0_off1 i (BitVec.ofNat 32 b) 1

theorem start_le : start i b + 512 ≤ 2048 := facts.k0_off1_inb i b 1

/-- The band a block of queries takes. -/
def bandOf : ℕ := k0_off2 i (BitVec.ofNat 32 b) 0

theorem bandOf_lt : bandOf i b < 3 := by
  have := facts.k0_off2_inb i b 0
  simp [S1x256x512, S3x256x512] at this
  unfold bandOf
  omega

/-- A chain's keys or values, the window's before the context's. -/
theorem chain_vals_at (k : Fin 768) (l : Fin 128) : k0_pay11 (F := Ideal) (View.ld x2 (Rect.unit _ S1x512x128.size (inb_w i b h)))
    (View.ld x4 (Rect.unit _ S1x256x128.size (inb_c h))) (ix2 k l)
    = if hk : (k : ℕ) < 512 then x2 (ix3 0 ⟨start i b + k, by have := start_le i b; omega⟩ ⟨128 * h + l, by omega⟩)
      else x4 (ix3 0 ⟨k - 512, by omega⟩ ⟨128 * h + l, by omega⟩) := by
  rw [vals_at]
  split
  · pointwise
    unfold winOff start
    blk_ext
  · pointwise
    blk_ext

theorem chain_scores_at (g : Fin 4) (r : Fin 256) (k : Fin 768) : chainScores i x0 x1 x3 x6 b h (ix2 ⟨256 * g + r, by omega⟩ k)
    = ∑ d : Fin 64, x0 (ix3 0 ⟨256 * b + r, by omega⟩ ⟨64 * (4 * h + g) + d, by omega⟩)
        * (if hk : (k : ℕ) < 512 then x1 (ix3 0 ⟨start i b + k, by have := start_le i b; omega⟩ ⟨128 * h + (64 * (g % 2) + d), by omega⟩)
          else x3 (ix3 0 ⟨k - 512, by omega⟩ ⟨128 * h + (64 * (g % 2) + d), by omega⟩))
      + if hk : (k : ℕ) < 512 then x6 (ix3 ⟨bandOf i b, bandOf_lt i b⟩ r ⟨k, hk⟩) else 0 := by
  unfold chainScores
  rw [scores_at, half_sum _ (by omega)]
  refine Ideal.add_congr (Finset.sum_congr rfl fun d _ => Ideal.mul_congr ?_ (chain_vals_at i x1 x3 b h k _)) ?_
  · split <;> (pointwise; blk_ext)
  · split
    · have e1 : k0_off2 i (BitVec.ofNat 32 b) 1 = 0 := rfl
      have e2 : k0_off2 i (BitVec.ofNat 32 b) 2 = 0 := rfl
      pointwise
      unfold bandOf
      blk_ext [e1, e2]
    · rfl

theorem sinkOf_eq (n : Fin 16) : sinkOf x5 n = x5 (ix1 n) := by
  unfold sinkOf
  pointwise
  blk_ext

theorem chainPair_at (p : Fin 2) (r : Fin 256) (l : Fin 128) : chainPair i x0 x1 x2 x3 x4 x5 x6 b h p (ix3 0 r l)
    = headQuot (chainScores i x0 x1 x3 x6 b h) (chainVals i x2 x4 b h) ⟨2 * p + l / 64, by omega⟩
      (x5 (ix1 ⟨4 * h + (2 * p + l / 64), by omega⟩)) r ⟨l % 64, by omega⟩ ⟨64 + l % 64, by omega⟩ := by
  unfold chainPair
  simp only [sinkOf_eq]
  have key : ∀ {g g' : Fin 4} {z z' : EReal} {n n' d d' : Fin 128}, g = g' → z = z' → n = n' → d = d' →
      headQuot (chainScores i x0 x1 x3 x6 b h) (chainVals i x2 x4 b h) g z r n d
        = headQuot (chainScores i x0 x1 x3 x6 b h) (chainVals i x2 x4 b h) g' z' r n' d' := by
    rintro g _ z _ n _ d _ rfl rfl rfl rfl
    rfl
  have hx : ∀ {n n' : Fin 16}, (n : ℕ) = n' → x5 (ix1 n) = x5 (ix1 n') := fun e => congrArg _ (congrArg ix1 (Fin.ext e))
  obtain rfl | rfl : p = 0 ∨ p = 1 := by omega
  · rw [if_pos rfl, pair0_at]
    split
    all_goals exact key (Fin.ext (by simp; omega)) (hx (by simp; omega)) (Fin.ext (by simp [opp]; omega)) (Fin.ext (by simp [opp]; omega))
  · rw [if_neg one_ne_zero, pair1_at]
    split
    all_goals exact key (Fin.ext (by simp; omega)) (hx (by simp; omega)) (Fin.ext (by simp [opp]; omega)) (Fin.ext (by simp [opp]; omega))
end

variable (m : (ℓ : Loc nD τ sig) → Buf (Elt Ideal) ℓ)

/-- What the kernel writes back at a grid point. -/
theorem point (c : Dev nD) (t : Fin cfg0.N) (r : Fin 1024) (j : Fin 1024) : outsAt0 m c t (ix3 0 r j)
    = headQuot (chainScores (grid0.coords t) (iblk m c 0 t) (iblk m c 1 t) (iblk m c 3 t) (iblk m c 6 t) ⟨r / 256, by omega⟩ ⟨j / 256, by omega⟩)
      (chainVals (grid0.coords t) (iblk m c 2 t) (iblk m c 4 t) ⟨r / 256, by omega⟩ ⟨j / 256, by omega⟩) ⟨j % 256 / 64, by omega⟩
      ((iblk m c 5 t : Vec Ideal S16 .f32) (ix1 ⟨j / 64, by omega⟩)) ⟨r % 256, by omega⟩ ⟨j % 64, by omega⟩ ⟨64 + j % 64, by omega⟩ := by
  unfold outsAt0 out0_A_7
  rw [View.read_writes_eq_canon _ _ _ (cover0_A_7 c _ _ _ _ _ _ _ _ _ _ _ _ _ _ _ _ _ _ _ _ _ _ _ _), run_eq]
  simp only [Memref.IsWhole.read_unread]
  generalize (iblk m c 0 t) = x0
  generalize (iblk m c 1 t) = x1
  generalize (iblk m c 2 t) = x2
  generalize (iblk m c 3 t) = x3
  generalize (iblk m c 4 t) = x4
  generalize (iblk m c 5 t) = x5
  generalize (iblk m c 6 t) = x6
  unfold pieces piece
  refine View.canon_ofFn_unit_eq_of_forall _ _ _ _ _ _ ⟨⟨31 - (8 * (r / 256) + j / 128), by omega⟩, fun a => ?_⟩ fun k => ?_
  · fin_cases a
    · exact ⟨le_refl 0, Nat.zero_lt_one⟩
    · show 256 * ((31 - (31 - (8 * ((r : ℕ) / 256) + j / 128))) / 8) ≤ (r : ℕ) ∧ (r : ℕ) < 256 * ((31 - (31 - (8 * ((r : ℕ) / 256) + j / 128))) / 8) + 256
      omega
    · show 128 * (2 * ((31 - (31 - (8 * ((r : ℕ) / 256) + j / 128))) / 2 % 4) + (31 - (31 - (8 * ((r : ℕ) / 256) + j / 128))) % 2) ≤ (j : ℕ)
        ∧ (j : ℕ) < 128 * (2 * ((31 - (31 - (8 * ((r : ℕ) / 256) + j / 128))) / 2 % 4) + (31 - (31 - (8 * ((r : ℕ) / 256) + j / 128))) % 2) + 128
      omega
  · intro y hy
    have h1 : (r : ℕ) = 256 * ((31 - k) / 8) + (y 1 : ℕ) := hy 1
    have h2 : (j : ℕ) = 128 * (2 * ((31 - k) / 2 % 4) + (31 - k) % 2) + (y 2 : ℕ) := hy 2
    have l1 : (y 1 : ℕ) < 256 := (y 1).isLt
    have l2 : (y 2 : ℕ) < 128 := (y 2).isLt
    obtain ⟨y0, y1, y2, rfl⟩ : ∃ (y0 : Fin 1) (y1 : Fin 256) (y2 : Fin 128), y = ix3 y0 y1 y2 :=
      ⟨y 0, y 1, y 2, funext fun a => by fin_cases a <;> rfl⟩
    obtain rfl : y0 = 0 := Subsingleton.elim _ _
    change (r : ℕ) = 256 * ((31 - k) / 8) + (y1 : ℕ) at h1
    change (j : ℕ) = 128 * (2 * ((31 - k) / 2 % 4) + (31 - k) % 2) + (y2 : ℕ) at h2
    have key : ∀ {b b' h h' : Fin 4} {g g' : Fin 4} {z z' : EReal} {q q' : Fin 256} {n n' d d' : Fin 128},
        b = b' → h = h' → g = g' → z = z' → q = q' → n = n' → d = d' →
        headQuot (chainScores (grid0.coords t) x0 x1 x3 x6 b h) (chainVals (grid0.coords t) x2 x4 b h) g z q n d
          = headQuot (chainScores (grid0.coords t) x0 x1 x3 x6 b' h') (chainVals (grid0.coords t) x2 x4 b' h') g' z' q' n' d' := by
      rintro b _ h _ g _ z _ q _ n _ d _ rfl rfl rfl rfl rfl rfl rfl
      rfl
    have hx : ∀ {n n' : Fin 16}, (n : ℕ) = n' → x5 (ix1 n) = x5 (ix1 n') := fun e => congrArg _ (congrArg ix1 (Fin.ext e))
    refine (chainPair_at _ _ _ _ _ _ _ _ _ _ _ _ _).trans ?_
    exact key (Fin.ext (by simp only; omega)) (Fin.ext (by simp only; omega)) (Fin.ext (by simp only; omega)) (hx (by simp only; omega))
      (Fin.ext (by simp only; omega)) (Fin.ext (by simp only; omega)) (Fin.ext (by simp only; omega))
end Cert.Kernel5Ideal.Value
end
-- ==== Proof.SwaArray.lean ====
module

public import proofs.«01_k».proof.Proof.SwaBlock

/-! The sliding-window attention kernel's result array, as one function of the argument arrays. -/

@[expose] public section
set_option maxRecDepth 16384
noncomputable section
open Idealize.ShloMosaic Idealize.ShloMosaic.TcCoe Idealize.SL.Sem
open Idealize.ShloMosaic.Pipeline (Dat)
namespace Cert.Kernel5Ideal.Value
open Cert.Kernel5Ideal Cert.Kernel5Ideal.Gen SwaRow
open AttnRow (IsReal)

/-- Whether query `i` may look at key `k`: the key is near, or of the context. -/
def valid (i : Fin 2048) (k : Fin 2304) : Prop := ((i : ℕ) ≤ k + 128 ∧ (k : ℕ) ≤ i + 128) ∨ 2048 ≤ (k : ℕ)

instance (i : Fin 2048) : DecidablePred (valid i) := fun k => by
  unfold valid
  infer_instance

section
variable (Q : FVec Ideal S16x2048x1024 .bf16) (K V : FVec Ideal S16x2048x512 .bf16) (KC VC : FVec Ideal S16x256x512 .bf16)
    (Z : FVec Ideal S16 .f32) (B : FVec Ideal S3x256x512 .f32) (b : Fin 16)

/-- Batch `b`'s keys or values, the sequence's before the context's. -/
def allOf (k : Fin 2304) (l : Fin 512) : EReal :=
  if h : (k : ℕ) < 2048 then K (ix3 b ⟨k, h⟩ l) else KC (ix3 b ⟨k - 2048, by omega⟩ l)

/-- The score of query `i` for key `k` in head `n`. -/
def score (n : Fin 16) (i : Fin 2048) (k : Fin 2304) : EReal :=
  ∑ d : Fin 64, Q (ix3 b i ⟨64 * n + d, by omega⟩) * allOf K KC b k ⟨128 * (n / 4) + d, by omega⟩

/-- A head's sink, in base two. -/
def sinkAt (n : Fin 16) : ℝ := (Z (ix1 n)).toReal * (Real.log 2)⁻¹

/-- The attention of query `i` in lane `j` of the result. -/
def entry (i : Fin 2048) (j : Fin 1024) : EReal :=
  ∑ k, allOf V VC b k ⟨128 * (j / 256) + j % 64, by omega⟩
    * (share (valid i) (fun k => (score Q K KC b ⟨j / 64, by omega⟩ i k).toReal) (sinkAt Z ⟨j / 64, by omega⟩) k : EReal)

/-- The attention of the argument arrays. -/
def array : FVec Ideal S16x2048x1024 .bf16 := fun i => entry Q K V KC VC Z (i 0) (i 1) (i 2)

/-- What the argument arrays are to be. -/
structure Layout : Prop where
  real_q : ∀ i, IsReal (Q i)
  real_k : ∀ i, IsReal (K i)
  real_kc : ∀ i, IsReal (KC i)
  real_z : ∀ i, IsReal (Z i)
  twice_k : ∀ b k (h : Fin 4) (d : Fin 64), K (ix3 b k ⟨128 * h + (64 + d), by omega⟩) = K (ix3 b k ⟨128 * h + d, by omega⟩)
  twice_kc : ∀ b k (h : Fin 4) (d : Fin 64), KC (ix3 b k ⟨128 * h + (64 + d), by omega⟩) = KC (ix3 b k ⟨128 * h + d, by omega⟩)
  ones_v : ∀ b k (h : Fin 4) (d : Fin 64), V (ix3 b k ⟨128 * h + (64 + d), by omega⟩) = 1
  ones_vc : ∀ b k (h : Fin 4) (d : Fin 64), VC (ix3 b k ⟨128 * h + (64 + d), by omega⟩) = 1
  band : ∀ (o : Fin 3) (r : Fin 256) (k : Fin 512), B (ix3 o r k)
    = if 128 * (o : ℕ) + r ≤ k + 128 ∧ (k : ℕ) ≤ 128 * o + r + 128 then 0 else ⊥
end

theorem coe_toReal {x : EReal} (h : IsReal x) : (x.toReal : EReal) = x := by
  obtain ⟨r, rfl⟩ := h
  rfl

theorem log2e_eq : log2e = (((Real.log 2)⁻¹ : ℝ) : EReal) := by
  simp [log2e, Named.named, κ]

section
variable {Q : FVec Ideal S16x2048x1024 .bf16} {K V : FVec Ideal S16x2048x512 .bf16} {KC VC : FVec Ideal S16x256x512 .bf16}
    {Z : FVec Ideal S16 .f32} {B : FVec Ideal S3x256x512 .f32} (L : Layout Q K V KC VC Z B)
include L

theorem allOf_real (b : Fin 16) (k : Fin 2304) (l : Fin 512) : IsReal (allOf K KC b k l) := by
  unfold allOf
  split
  · exact L.real_k _
  · exact L.real_kc _

theorem score_real (b n : Fin 16) (i : Fin 2048) (k : Fin 2304) : IsReal (score Q K KC b n i k) :=
  IsReal.sum fun d => (L.real_q _).mul (allOf_real L b k _)

/-- Each half of a key head's lanes holds the head. -/
theorem allOf_half (b : Fin 16) (k : Fin 2304) (h : Fin 4) (e : Fin 2) (d : Fin 64) :
    allOf K KC b k ⟨128 * h + (64 * e + d), by omega⟩ = allOf K KC b k ⟨128 * h + d, by omega⟩ := by
  obtain rfl | rfl : e = 0 ∨ e = 1 := by omega
  · exact congrArg _ (Fin.ext (by simp))
  · unfold allOf
    split
    · exact L.twice_k b _ h d
    · exact L.twice_kc b _ h d

theorem allOf_ones (b : Fin 16) (k : Fin 2304) (h : Fin 4) (d : Fin 64) :
    allOf V VC b k ⟨128 * h + (64 + d), by omega⟩ = 1 := by
  unfold allOf
  split
  · exact L.ones_v b _ h d
  · exact L.ones_vc b _ h d

/-- A chain's quotient is the attention over all keys. -/
theorem headQuot_entry (b : Fin 16) (i : grid0.Coords) (u : Fin 2) (c h g : Fin 4) (r : Fin 256) (l : Fin 64)
    (x0 : Vec Ideal S1x1024x1024 .bf16) (x1 x2 : Vec Ideal S1x2048x512 .bf16) (x3 x4 : Vec Ideal S1x256x512 .bf16)
    (x5 : Vec Ideal S16 .f32) (x6 : Vec Ideal S3x256x512 .f32)
    (h0 : ∀ r l, x0 (ix3 0 r l) = Q (ix3 b ⟨1024 * u + r, by omega⟩ l)) (h1 : ∀ r l, x1 (ix3 0 r l) = K (ix3 b r l))
    (h2 : ∀ r l, x2 (ix3 0 r l) = V (ix3 b r l)) (h3 : ∀ r l, x3 (ix3 0 r l) = KC (ix3 b r l))
    (h4 : ∀ r l, x4 (ix3 0 r l) = VC (ix3 b r l)) (h5 : ∀ n, x5 (ix1 n) = Z (ix1 n)) (h6 : ∀ o r k, x6 (ix3 o r k) = B (ix3 o r k))
    (hst : start i c = min 1536 (256 * (4 * (u : ℕ) + (c : ℕ)) - 128)) (hbd : 128 * bandOf i c + start i c = 256 * (4 * (u : ℕ) + (c : ℕ))) :
    headQuot (chainScores i x0 x1 x3 x6 c h) (chainVals i x2 x4 c h) g (x5 (ix1 ⟨4 * h + g, by omega⟩)) r ⟨l, by omega⟩ ⟨64 + l, by omega⟩
      = entry Q K V KC VC Z b ⟨1024 * u + (256 * c + r), by omega⟩ ⟨256 * h + (64 * g + l), by omega⟩ := by
  have hle := start_le i c
  let w : Fin 768 → Fin 2304 := fun k => if hk : (k : ℕ) < 512 then ⟨start i c + k, by omega⟩ else ⟨2048 + (k - 512), by omega⟩
  have wv : ∀ k, (w k : ℕ) = if (k : ℕ) < 512 then start i c + k else 2048 + (k - 512) := fun k => by
    show ((if hk : (k : ℕ) < 512 then (⟨start i c + k, by omega⟩ : Fin 2304) else ⟨2048 + (k - 512), by omega⟩ : Fin 2304) : ℕ) = _
    split <;> rfl
  have hk : ∀ {y : FVec Ideal S16x2048x512 .bf16} {yc : FVec Ideal S16x256x512 .bf16} {z : Vec Ideal S1x2048x512 .bf16}
      {zc : Vec Ideal S1x256x512 .bf16}, (∀ r l, z (ix3 0 r l) = y (ix3 b r l)) → (∀ r l, zc (ix3 0 r l) = yc (ix3 b r l)) →
      ∀ (k : Fin 768) (l : Fin 512), (if hk : (k : ℕ) < 512 then z (ix3 0 ⟨start i c + k, by omega⟩ l) else zc (ix3 0 ⟨k - 512, by omega⟩ l))
        = allOf y yc b (w k) l := by
    intro y yc z zc hz hzc k l
    have := wv k
    unfold allOf
    split
    · rename_i hk
      rw [if_pos hk] at this
      rw [dif_pos (by omega), hz]
      exact congrArg (fun q => y (ix3 b q l)) (Fin.ext this.symm)
    · rename_i hk
      rw [if_neg hk] at this
      rw [dif_neg (by omega), hzc]
      exact congrArg (fun q => yc (ix3 b q l)) (Fin.ext (by simp only; omega))
  let I : Fin 2048 := ⟨1024 * u + (256 * c + r), by omega⟩
  let n : Fin 16 := ⟨4 * h + g, by omega⟩
  have hs : ∀ k, chainScores i x0 x1 x3 x6 c h (ix2 ⟨256 * g + r, by omega⟩ k)
      = if valid I (w k) then (((score Q K KC b n I (w k)).toReal : ℝ) : EReal) else ⊥ := fun k => by
    have e : ∑ d : Fin 64, x0 (ix3 0 ⟨256 * c + r, by omega⟩ ⟨64 * (4 * h + g) + d, by omega⟩)
        * (if hk : (k : ℕ) < 512 then x1 (ix3 0 ⟨start i c + k, by omega⟩ ⟨128 * h + (64 * (g % 2) + d), by omega⟩)
          else x3 (ix3 0 ⟨k - 512, by omega⟩ ⟨128 * h + (64 * (g % 2) + d), by omega⟩)) = score Q K KC b n I (w k) := by
      refine Finset.sum_congr rfl fun d _ => Ideal.mul_congr (h0 _ _) ?_
      rw [hk (y := K) h1 h3]
      refine (allOf_half L b (w k) h ⟨g % 2, by omega⟩ d).trans (congrArg _ (Fin.ext ?_))
      show 128 * (h : ℕ) + d = 128 * ((4 * h + g) / 4) + d
      omega
    have hv : valid I (w k) ↔ if (k : ℕ) < 512 then 128 * bandOf i c + r ≤ k + 128 ∧ (k : ℕ) ≤ 128 * bandOf i c + r + 128 else True := by
      unfold valid
      rw [wv]
      show ((1024 * (u : ℕ) + (256 * c + r) ≤ _ ∧ _ ≤ 1024 * (u : ℕ) + (256 * c + r) + 128) ∨ _) ↔ _
      split <;> [skip; simp]
      omega
    rw [chain_scores_at, e, coe_toReal (score_real L b n I (w k))]
    by_cases hk' : (k : ℕ) < 512
    · rw [dif_pos hk', h6, L.band]
      rw [if_pos hk'] at hv
      by_cases hv' : valid I (w k)
      · rw [if_pos hv', if_pos (hv.mp hv'), add_zero]
      · rw [if_neg hv', if_neg (fun h => hv' (hv.mpr h)), EReal.add_bot]
    · rw [if_neg hk'] at hv
      rw [dif_neg hk', if_pos (hv.mpr trivial), add_zero]
  have hz : x5 (ix1 n) * log2e = ((sinkAt Z n : ℝ) : EReal) := by
    rw [h5, log2e_eq, sinkAt, EReal.coe_mul, coe_toReal (L.real_z _)]
  have hnum : ∀ k, chainVals i x2 x4 c h (ix2 k ⟨l, by omega⟩) = allOf V VC b (w k) ⟨128 * h + l, by omega⟩ := fun k =>
    (chain_vals_at i x2 x4 c h k _).trans (hk (y := V) h2 h4 k _)
  have hden : ∀ k, chainVals i x2 x4 c h (ix2 k ⟨64 + l, by omega⟩) = 1 := fun k =>
    ((chain_vals_at i x2 x4 c h k _).trans (hk (y := V) h2 h4 k _)).trans (allOf_ones L b (w k) h l)
  unfold headQuot
  rw [hz]
  simp only [hnum, hden]
  rw [quot_eq (V := fun k => valid I (w k)) (S := fun k => (score Q K KC b n I (w k)).toReal) (Z := sinkAt Z n) hs,
    share_window (valid I) (fun k => (score Q K KC b n I k).toReal) (sinkAt Z n) (fun k => allOf V VC b k ⟨128 * h + l, by omega⟩) w ?_ ?_]
  · unfold entry
    have e1 : (⟨(256 * (h : ℕ) + (64 * g + l)) / 64, by omega⟩ : Fin 16) = n := Fin.ext (by show _ = 4 * (h : ℕ) + g; simp only; omega)
    have e2 : (⟨128 * ((256 * (h : ℕ) + (64 * g + l)) / 256) + (256 * (h : ℕ) + (64 * g + l)) % 64, by omega⟩ : Fin 512)
        = ⟨128 * h + l, by omega⟩ := Fin.ext (by simp only; omega)
    simp only [e1, e2]
    rfl
  · intro k k' e
    have e := congrArg Fin.val e
    rw [wv, wv] at e
    exact Fin.ext (by split at e <;> split at e <;> omega)
  · intro k hk'
    by_cases hc : (k : ℕ) < 2048
    · have hk' : (1024 * (u : ℕ) + (256 * c + r) ≤ k + 128 ∧ (k : ℕ) ≤ 1024 * (u : ℕ) + (256 * c + r) + 128) ∨ 2048 ≤ (k : ℕ) := hk'
      refine ⟨⟨k - start i c, by omega⟩, Fin.ext ?_⟩
      rw [wv, if_pos (by simp only; omega)]
      simp only
      omega
    · refine ⟨⟨512 + (k - 2048), by omega⟩, Fin.ext ?_⟩
      rw [wv, if_neg (by simp only; omega)]
      simp only
      omega
end

variable (m : (ℓ : Loc nD τ sig) → Buf (Elt Ideal) ℓ)

/-- The index maps of the windows. -/
theorem idx : ∀ t : Fin cfg0.N, win0_0.index t = ![t.val / 2, t.val % 2, 0] ∧ win0_1.index t = ![t.val / 2, 0, 0]
    ∧ win0_2.index t = ![t.val / 2, 0, 0] ∧ win0_3.index t = ![t.val / 2, 0, 0] ∧ win0_4.index t = ![t.val / 2, 0, 0]
    ∧ win0_5.index t = ![0] ∧ win0_6.index t = ![0, 0, 0] ∧ win0_7.index t = ![t.val / 2, t.val % 2, 0] :=
  (by decide +kernel : ∀ t : Fin grid0.N, _)

theorem starts : ∀ (t : Fin cfg0.N) (c : Fin 4), start (grid0.coords t) c = min 1536 (256 * (4 * (t.val % 2) + (c : ℕ)) - 128)
    ∧ 128 * bandOf (grid0.coords t) c + start (grid0.coords t) c = 256 * (4 * (t.val % 2) + (c : ℕ)) :=
  (by decide +kernel : ∀ (t : Fin grid0.N) (c : Fin 4), _)

theorem final (c : Dev nD)
    (L : Layout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) : (dats m 0 c).arrAt 7 (cfgs 0).N
    = array (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  idx_vars y
  obtain rfl : y0 = 0 := Subsingleton.elim _ _
  rw [point]
  have ht : t.val < 32 := lt_of_lt_of_eq t.isLt N_0
  have he : ((cfg0.win 7).blk t).view.emb (ix3 0 y1 y2) = ix3 ⟨t.val / 2, by omega⟩ ⟨1024 * (t.val % 2) + y1, by omega⟩ y2 := by
    blk_ext [idx t]
  refine Eq.trans ?_ (congrArg _ he.symm)
  have h := headQuot_entry L ⟨t.val / 2, by omega⟩ (grid0.coords t) ⟨t.val % 2, by omega⟩ ⟨y1 / 256, by omega⟩ ⟨y2 / 256, by omega⟩
    ⟨y2 % 256 / 64, by omega⟩ ⟨y1 % 256, by omega⟩ ⟨y2 % 64, by omega⟩
    (iblk m c 0 t) (iblk m c 1 t) (iblk m c 2 t) (iblk m c 3 t) (iblk m c 4 t) (iblk m c 5 t) (iblk m c 6 t)
    (fun r l => by blk_ext [iblk, V_main_arg0, idx t]) (fun r l => by blk_ext [iblk, V_main_arg1, idx t])
    (fun r l => by blk_ext [iblk, V_main_arg2, idx t]) (fun r l => by blk_ext [iblk, V_main_arg3, idx t])
    (fun r l => by blk_ext [iblk, V_main_arg4, idx t]) (fun n => by blk_ext [iblk, V_main_arg5, idx t])
    (fun o r k => by blk_ext [iblk, V_main_arg6, idx t]) (starts t _).1 (starts t _).2
  have e1 : (⟨1024 * (t.val % 2) + (256 * ((y1 : ℕ) / 256) + (y1 : ℕ) % 256), by omega⟩ : Fin 2048) = ⟨1024 * (t.val % 2) + y1, by omega⟩ :=
    Fin.ext (by simp only; omega)
  have e2 : (⟨256 * ((y2 : ℕ) / 256) + (64 * ((y2 : ℕ) % 256 / 64) + (y2 : ℕ) % 64), by omega⟩ : Fin 1024) = y2 := Fin.ext (by simp only; omega)
  have e3 : (⟨4 * ((y2 : ℕ) / 256) + (y2 : ℕ) % 256 / 64, by omega⟩ : Fin 16) = ⟨y2 / 64, by omega⟩ := Fin.ext (by simp only; omega)
  simp only [e1, e2, e3] at h
  exact h
end Cert.Kernel5Ideal.Value
end
-- ==== Proof.SwaReference.lean ====
module

public import proofs.«01_k».proof.Proof.SwaArray
public import proofs.«01_k».proof.Proof.AttnSoftmax
public import proofs.«01_k».proof.Proof.Gen.Reference5Ideal.Read

/-! The sliding-window attention reference's result, as the same function of the argument arrays. -/

@[expose] public section
set_option maxRecDepth 16384
noncomputable section
open Idealize.ShloMosaic Idealize.ShloMosaic.TcCoe Idealize.SL.Sem

namespace SwaRow
/-- The comparison of a distance with the window's, over the words. -/
theorem near_at (i k : ℕ) (hi : i < 4096) (hk : k < 4096) :
    IntOp.cmpi .sle (IntOp.absi (BitVec.ofNat 32 i - BitVec.ofNat 32 k)) 128#32 = if i ≤ k + 128 ∧ k ≤ i + 128 then 1#1 else 0#1 := by
  have hp : ∀ d : Fin 4096, IntOp.cmpi .sle (IntOp.absi (BitVec.ofNat 32 (d : ℕ))) 128#32 = if (d : ℕ) ≤ 128 then 1#1 else 0#1 := by
    decide +kernel
  have hn : ∀ d : Fin 4096, IntOp.cmpi .sle (IntOp.absi (-BitVec.ofNat 32 (d : ℕ))) 128#32 = if (d : ℕ) ≤ 128 then 1#1 else 0#1 := by
    decide +kernel
  rcases le_total k i with h | h
  · rw [BitVec.ofNat_sub_ofNat_of_le i k (by omega) h]
    exact (hp ⟨i - k, by omega⟩).trans (if_congr (by simp only; omega) rfl rfl)
  · rw [show BitVec.ofNat 32 i - BitVec.ofNat 32 k = -(BitVec.ofNat 32 k - BitVec.ofNat 32 i) by
      rw [BitVec.neg_sub, BitVec.add_comm, BitVec.sub_eq_add_neg], BitVec.ofNat_sub_ofNat_of_le k i (by omega) h]
    exact (hn ⟨k - i, by omega⟩).trans (if_congr (by simp only; omega) rfl rfl)
end SwaRow

namespace Cert.Reference5Ideal.Read
open Cert.Reference5Ideal Cert.Reference5Ideal.Gen SwaRow
open AttnRow (IsReal)
open Cert.Kernel5Ideal.Value (valid allOf score sinkAt entry array Layout coe_toReal score_real)

theorem valid_at (i : Fin 2048) (k : Fin 2304) : val_main_v30 (F := Ideal) (ix2 i k) = if valid i k then 1#1 else 0#1 := by
  have hc : ∀ k : Fin 2304, IntOp.cmpi .sge (BitVec.ofNat 32 (k : ℕ)) 2048#32 = if 2048 ≤ (k : ℕ) then 1#1 else 0#1 := by
    decide +kernel
  have e : val_main_v30 (F := Ideal) (ix2 i k) = IntOp.ori (IntOp.cmpi .sle (IntOp.absi (BitVec.ofNat 32 i - BitVec.ofNat 32 k)) 128#32)
      (IntOp.cmpi .sge (BitVec.ofNat 32 (k : ℕ)) 2048#32) := by
    pointwise [val_main_v30, val_main_v29, val_main_v28, val_main_v27, val_main_c_0, val_main_v26, val_main_v25, val_main_c,
      val_main_v24, val_main_v23, val_main_v22, val_main_v21, val_main_v20, val_main_v19, val_main_v18, val_main_v17]
    rfl
  rw [e, near_at _ _ (by omega) (by omega), hc]
  unfold valid
  by_cases h1 : (i : ℕ) ≤ k + 128 ∧ (k : ℕ) ≤ i + 128 <;> by_cases h2 : 2048 ≤ (k : ℕ) <;> simp [h1, h2] <;> rfl

variable (Q : FVec Ideal S16x2048x1024 .bf16) (K V : FVec Ideal S16x2048x512 .bf16) (KC VC : FVec Ideal S16x256x512 .bf16)
    (Z : FVec Ideal S16 .f32) (b : Fin 16) (h g : Fin 4)

theorem keys_at (k : Fin 2304) (d : Fin 64) : val_main_v6 (F := Ideal) K KC (ix4 b k h d)
    = allOf K KC b k ⟨128 * h + d, by omega⟩ := by
  pointwise [val_main_v6, val_main_v5, val_main_v4, val_main_v3, val_main_v2]
  unfold allOf
  split <;> exact congrArg _ (congrArg (ix3 _ _) (Fin.ext (by simp only; omega)))

theorem vals_at (k : Fin 2304) (d : Fin 64) : val_main_v11 (F := Ideal) V VC (ix4 b k h d)
    = allOf V VC b k ⟨128 * h + d, by omega⟩ := by
  pointwise [val_main_v11, val_main_v10, val_main_v9, val_main_v8, val_main_v7]
  unfold allOf
  split <;> exact congrArg _ (congrArg (ix3 _ _) (Fin.ext (by simp only; omega)))

theorem scores_at (i : Fin 2048) (k : Fin 2304) : val_main_v13 (F := Ideal) Q K KC (ix5 b h g i k)
    = score Q K KC b ⟨4 * h + g, by omega⟩ i k := by
  have he : ∀ d : Fin 64, allOf K KC b k ⟨128 * ((4 * (h : ℕ) + g) / 4) + d, by omega⟩ = val_main_v6 (F := Ideal) K KC (ix4 b k h d) :=
    fun d => (congrArg _ (Fin.ext (by simp only; omega))).trans (keys_at K KC b h k d).symm
  unfold score
  simp only [he]
  pointwise [val_main_v13, val_main_v12, val_main_v1, val_main_v0]
  exact Fin.sum_fin_congr fun l => (mul_comm _ _).trans
    (Ideal.mul_congr (congrArg _ (congrArg (ix3 _ _) (Fin.ext (by simp only; omega)))) rfl)

theorem masked_at (i : Fin 2048) (k : Fin 2304) : val_main_v31 (F := Ideal) Q K KC (ix5 b h g i k)
    = if valid i k then score Q K KC b ⟨4 * h + g, by omega⟩ i k * ((Real.log 2 : ℝ) : EReal) else ⊥ := by
  have hm : val_main_call0_v1 (F := Ideal) (ix5 b h g i k) = if valid i k then 1#1 else 0#1 := by
    rw [val_main_call0_v1_apply, ← valid_at]
    exact congrArg _ (funext fun a => by fin_cases a <;> rfl)
  have hs : val_main_v16 (F := Ideal) Q K KC (ix5 b h g i k) = score Q K KC b ⟨4 * h + g, by omega⟩ i k * ((Real.log 2 : ℝ) : EReal) := by
    rw [val_main_v16_apply, scores_at, val_main_v15_apply, val_main_v14_apply, val_main_cst_apply, ← AttnRow.log_two]
    rfl
  rw [val_main_v31_apply, hm, hs, val_main_call0_v2_apply, ← AttnRow.ofBits_bot]
  split <;> rfl

theorem sink_at (i : Fin 2048) : val_main_v34 (F := Ideal) Z (ix5 b h g i 0) = Z (ix1 ⟨4 * h + g, by omega⟩) := by
  pointwise [val_main_v34, val_main_v33, val_main_v32]
  exact congrArg _ (congrArg ix1 (Fin.ext (by simp only; omega)))

/-- A row's scores with its sink at the end. -/
def row (i : Fin 2048) (k : Fin 2305) : EReal := val_main_v35 (F := Ideal) Q K KC Z (ix5 b h g i k)

theorem row_at (i : Fin 2048) (k : Fin 2305) : row Q K KC Z b h g i k
    = if hk : (k : ℕ) < 2304 then val_main_v31 (F := Ideal) Q K KC (ix5 b h g i ⟨k, hk⟩) else val_main_v34 (F := Ideal) Z (ix5 b h g i 0) := by
  unfold row
  generalize hv : val_main_v31 (F := Ideal) Q K KC = x
  generalize hw : val_main_v34 (F := Ideal) Z = y
  pointwise [val_main_v35, hv, hw]
  split
  · rfl
  · exact congrArg _ (congrArg (ix5 _ _ _ _) (Subsingleton.elim _ _))

theorem row_castSucc (i : Fin 2048) (k : Fin 2304) : row Q K KC Z b h g i k.castSucc
    = if valid i k then score Q K KC b ⟨4 * h + g, by omega⟩ i k * ((Real.log 2 : ℝ) : EReal) else ⊥ := by
  rw [row_at, dif_pos (show ((Fin.castSucc k : Fin 2305) : ℕ) < 2304 from k.isLt), ← masked_at]
  rfl

theorem row_last (i : Fin 2048) : row Q K KC Z b h g i (Fin.last 2304) = Z (ix1 ⟨4 * h + g, by omega⟩) := by
  rw [row_at, dif_neg (show ¬ ((Fin.last 2304 : Fin 2305) : ℕ) < 2304 from lt_irrefl _), sink_at]

theorem max_at (i : Fin 2048) : val_main_v38 (F := Ideal) Q K KC Z (ix4 b h g i)
    = max ⊥ (Finset.univ.fold max (Ideal.ofBits .f32 0xFF800000#32) (row Q K KC Z b h g i)) := by
  have e : val_main_v36 (F := Ideal) Q K KC Z (ix4 b h g i) = Finset.univ.fold max (Ideal.ofBits .f32 0xFF800000#32) (row Q K KC Z b h g i) := by
    unfold row
    generalize hv : val_main_v35 (F := Ideal) Q K KC Z = x
    pointwise [val_main_v36, val_main_cst_2, hv]
  rw [val_main_v38_apply, e, val_main_v37_apply, ← AttnRow.ofBits_bot]
  rfl

theorem weights_at (i : Fin 2048) (k : Fin 2305) : val_main_v42 (F := Ideal) Q K KC Z (ix5 b h g i k)
    = Ideal.exp (row Q K KC Z b h g i k - val_main_v38 (F := Ideal) Q K KC Z (ix4 b h g i)) := by
  rw [val_main_v42_apply, val_main_v41_apply, val_main_v40_apply, val_main_v39_apply,
    show idx_main_v39 (idx_main_v40 (ix5 b h g i k)) = ix4 b h g i from funext fun a => by fin_cases a <;> rfl]
  rfl

theorem sum_at (i : Fin 2048) : val_main_v43 (F := Ideal) Q K KC Z (ix4 b h g i)
    = 0 + ∑ k : Fin 2305, Ideal.exp (row Q K KC Z b h g i k - val_main_v38 (F := Ideal) Q K KC Z (ix4 b h g i)) := by
  generalize hv : val_main_v42 (F := Ideal) Q K KC Z = x
  pointwise [val_main_v43, val_main_cst_4, hv]
  exact Finset.sum_congr rfl fun k _ => (congrFun hv.symm _).trans (weights_at Q K KC Z b h g i k)

theorem probs_at (i : Fin 2048) (k : Fin 2304) : val_main_v47 (F := Ideal) Q K KC Z (ix5 b h g i k)
    = Ideal.div (Ideal.exp (row Q K KC Z b h g i k.castSucc - val_main_v38 (F := Ideal) Q K KC Z (ix4 b h g i)))
      (0 + ∑ k : Fin 2305, Ideal.exp (row Q K KC Z b h g i k - val_main_v38 (F := Ideal) Q K KC Z (ix4 b h g i))) := by
  rw [← sum_at, ← weights_at, val_main_v47_apply, val_main_v46_apply, val_main_v45_apply, val_main_v44_apply,
    show idx_main_v44 (idx_main_v45 (idx_main_v47 (ix5 b h g i k))) = ix4 b h g i from funext fun a => by fin_cases a <;> rfl,
    show idx_main_v47 (ix5 b h g i k) = ix5 b h g i k.castSucc from funext fun a => by fin_cases a <;> rfl]
  rfl

theorem out_at (i : Fin 2048) (d : Fin 64) : val_main_v49 (F := Ideal) Q K V KC VC Z (ix5 b i h g d)
    = ∑ k : Fin 2304, allOf V VC b k ⟨128 * h + d, by omega⟩ * val_main_v47 (F := Ideal) Q K KC Z (ix5 b h g i k) := by
  simp only [← vals_at]
  generalize hv : val_main_v47 (F := Ideal) Q K KC Z = x
  generalize hw : val_main_v11 (F := Ideal) V VC = y
  pointwise [val_main_v49, val_main_v48, hv, hw]

theorem result {B : FVec Ideal S3x256x512 .f32} (L : Layout Q K V KC VC Z B) : val_main_v51 (F := Ideal) Q K V KC VC Z = array Q K V KC VC Z := by
  funext i
  idx_vars i
  have e : val_main_v51 (F := Ideal) Q K V KC VC Z (ix3 i0 i1 i2)
      = val_main_v49 (F := Ideal) Q K V KC VC Z (ix5 i0 i1 ⟨i2 / 256, by omega⟩ ⟨i2 % 256 / 64, by omega⟩ ⟨i2 % 64, by omega⟩) := by
    generalize hv : val_main_v49 (F := Ideal) Q K V KC VC Z = x
    pointwise [val_main_v51, val_main_v50, hv]
    exact congrArg _ (funext fun a => by fin_cases a <;> exact Fin.ext (by simp <;> omega))
  have hn : (⟨4 * ((i2 : ℕ) / 256) + (i2 : ℕ) % 256 / 64, by omega⟩ : Fin 16) = ⟨i2 / 64, by omega⟩ := Fin.ext (by simp only; omega)
  show _ = entry Q K V KC VC Z i0 i1 i2
  unfold entry
  rw [e, out_at]
  simp only [probs_at]
  refine softmax_eq (V := valid i1) (S := fun k => (score Q K KC i0 ⟨i2 / 64, by omega⟩ i1 k).toReal) (Z := sinkAt Z ⟨i2 / 64, by omega⟩) ?_ ?_ _ _
    (max_at Q K KC Z i0 _ _ i1)
  · intro k
    rw [row_castSucc, EReal.coe_mul, coe_toReal (score_real L _ _ _ _)]
    simp only [hn]
  · rw [row_last, sinkAt, mul_assoc, inv_mul_cancel₀ (Real.log_pos (by norm_num)).ne', mul_one, coe_toReal (L.real_z _)]
    simp only [hn]

end Cert.Reference5Ideal.Read
end
-- ==== Proof.SwaClaim.lean ====
module

public import proofs.«01_k».proof.Defs
public import proofs.«01_k».proof.Proof.AttnClaim
public import proofs.«01_k».proof.Proof.SwaReference
public import proofs.«01_k».proof.Proof.Gen.Pre_swa_layout
public import proofs.«01_k».proof.Proof.Gen.Kernel5.Frame
public import Idealize.ShloMosaic.Lib.Claim

/-! The claims about the sliding-window attention call. -/

@[expose] public section
set_option maxRecDepth 16384
noncomputable section
open Idealize.ShloMosaic Idealize.SL.Sem
namespace Cert.Proof

theorem frame_swa : Cert.quiescent_Kernel5 := fun m g _ => Cert.Kernel5.Gen.frame m g
theorem frame_swa_ideal : Cert.quiescent_Kernel5Ideal := fun m g _ => Cert.Kernel5Ideal.Gen.frame m g
theorem frame_swa_reference : Cert.quiescent_Reference5Ideal := by
  intro m g _
  exact (θ_run Cert.Reference5Ideal.defs _ _).mono
    (fun r h => ⟨fun c => (h c).2, sem_eq_zero_of_no_sems (by decide) r.2⟩) (Cert.Reference5Ideal.Value.run m g)
theorem frame_swa_ideal_pre : Cert.quiescent_Kernel5Ideal_pre_swa_layout := fun m g _ => frame_swa_ideal m g trivial
theorem frame_swa_reference_pre : Cert.quiescent_Reference5Ideal_pre_swa_layout := fun m g _ => frame_swa_reference m g trivial
theorem preserves_swa : Cert.preserves_Kernel5_Kernel5Ideal :=
  IdealRules.named_const.statement _ _ _ _ _ (by simp [Cert.Kernel5Ideal.κ])

/-- What a test for equality says. -/
theorem eq_of_test {x y : EReal} (h : Ideal.cmp .oeq x y = 1#1) : x = y := by
  by_contra hne
  simp [Ideal.cmp, hne] at h

section
open Cert.Pre_swa_layout Cert.Pre_swa_layout.Gen
variable (Q : FVec Ideal S16x2048x1024 .bf16) (K V : FVec Ideal S16x2048x512 .bf16) (KC VC : FVec Ideal S16x256x512 .bf16)
    (Z : FVec Ideal S16 .f32) (B : FVec Ideal S3x256x512 .f32)

theorem lane_lo (h : Fin 4) (d : Fin 64) : (⟨h * 128 + d, by omega⟩ : Fin 512) = ⟨128 * h + d, by omega⟩ :=
  Fin.ext (by simp only; omega)
theorem lane_hi (h : Fin 4) (d : Fin 64) : (⟨h * 128 + 64 + d, by omega⟩ : Fin 512) = ⟨128 * h + (64 + d), by omega⟩ :=
  Fin.ext (by simp only; omega)

theorem test_k (b : Fin 16) (k : Fin 2048) (h : Fin 4) (d : Fin 64) : (fn (F := Ideal) Q K V KC VC Z B).2.2.2.2.1 (ix4 b k h d)
    = Ideal.cmp .oeq (K (ix3 b k ⟨128 * h + d, by omega⟩)) (K (ix3 b k ⟨128 * h + (64 + d), by omega⟩)) := by
  pointwise [fn, fn_part1, fn_part2, fn_part3]
  rw [lane_lo, lane_hi]

theorem test_kc (b : Fin 16) (k : Fin 256) (h : Fin 4) (d : Fin 64) : (fn (F := Ideal) Q K V KC VC Z B).2.2.2.2.2.1 (ix4 b k h d)
    = Ideal.cmp .oeq (KC (ix3 b k ⟨128 * h + d, by omega⟩)) (KC (ix3 b k ⟨128 * h + (64 + d), by omega⟩)) := by
  pointwise [fn, fn_part1, fn_part2, fn_part3]
  rw [lane_lo, lane_hi]

theorem test_v (b : Fin 16) (k : Fin 2048) (h : Fin 4) (d : Fin 64) : (fn (F := Ideal) Q K V KC VC Z B).2.2.2.2.2.2.1 (ix4 b k h d)
    = Ideal.cmp .oeq (V (ix3 b k ⟨128 * h + (64 + d), by omega⟩)) (Ideal.ofBits .f32 0x3F800000#32) := by
  pointwise [fn, fn_part1, fn_part2, fn_part3]
  rw [lane_hi]

theorem test_vc (b : Fin 16) (k : Fin 256) (h : Fin 4) (d : Fin 64) : (fn (F := Ideal) Q K V KC VC Z B).2.2.2.2.2.2.2.1 (ix4 b k h d)
    = Ideal.cmp .oeq (VC (ix3 b k ⟨128 * h + (64 + d), by omega⟩)) (Ideal.ofBits .f32 0x3F800000#32) := by
  pointwise [fn, fn_part1, fn_part2, fn_part3]
  rw [lane_hi]

theorem test_band (o : Fin 3) (r : Fin 256) (k : Fin 512) : (fn (F := Ideal) Q K V KC VC Z B).2.2.2.2.2.2.2.2 (ix3 o r k)
    = Ideal.cmp .oeq (B (ix3 o r k)) (Scalar.select (IntOp.cmpi .sle (IntOp.absi
      (IntOp.addi (IntOp.muli (BitVec.ofNat 32 o) 128#32) (BitVec.ofNat 32 r) - BitVec.ofNat 32 k)) 128#32)
      (Ideal.ofBits .f32 0x00000000#32) (Ideal.ofBits .f32 0xFF800000#32)) := by
  pointwise [fn, fn_part1, fn_part2, fn_part3, fn_where, id_eq]
  rfl

variable {Q K V KC VC Z B}

/-- What the precondition says of the arguments. -/
theorem layout_of_tests (h : (fn (F := Ideal) Q K V KC VC Z B).1 = (fun _ => 1#1) ∧ (fn (F := Ideal) Q K V KC VC Z B).2.1 = (fun _ => 1#1)
    ∧ (fn (F := Ideal) Q K V KC VC Z B).2.2.1 = (fun _ => 1#1) ∧ (fn (F := Ideal) Q K V KC VC Z B).2.2.2.1 = (fun _ => 1#1)
    ∧ (fn (F := Ideal) Q K V KC VC Z B).2.2.2.2.1 = (fun _ => 1#1) ∧ (fn (F := Ideal) Q K V KC VC Z B).2.2.2.2.2.1 = (fun _ => 1#1)
    ∧ (fn (F := Ideal) Q K V KC VC Z B).2.2.2.2.2.2.1 = (fun _ => 1#1) ∧ (fn (F := Ideal) Q K V KC VC Z B).2.2.2.2.2.2.2.1 = (fun _ => 1#1)
    ∧ (fn (F := Ideal) Q K V KC VC Z B).2.2.2.2.2.2.2.2 = (fun _ => 1#1)) : Cert.Kernel5Ideal.Value.Layout Q K V KC VC Z B := by
  obtain ⟨hQ, hK, hKC, hZ, hk, hkc, hv, hvc, hb⟩ := h
  have one : Ideal.ofBits .f32 0x3F800000#32 = 1 := by
    simp [Ideal.ofBits, Ideal.ieee]
    rw [← EReal.coe_mul, ← EReal.coe_one]
    norm_num
  exact
    { real_q := fun i => real_of_test (congrFun hQ i)
      real_k := fun i => real_of_test (congrFun hK i)
      real_kc := fun i => real_of_test (congrFun hKC i)
      real_z := fun i => real_of_test (congrFun hZ i)
      twice_k := fun b k h d => (eq_of_test ((test_k Q K V KC VC Z B b k h d).symm.trans (congrFun hk _))).symm
      twice_kc := fun b k h d => (eq_of_test ((test_kc Q K V KC VC Z B b k h d).symm.trans (congrFun hkc _))).symm
      ones_v := fun b k h d => (eq_of_test ((test_v Q K V KC VC Z B b k h d).symm.trans (congrFun hv _))).trans one
      ones_vc := fun b k h d => (eq_of_test ((test_vc Q K V KC VC Z B b k h d).symm.trans (congrFun hvc _))).trans one
      band := fun o r k => by
        refine (eq_of_test ((test_band Q K V KC VC Z B o r k).symm.trans (congrFun hb _))).trans ?_
        have e : IntOp.addi (IntOp.muli (BitVec.ofNat 32 o) 128#32) (BitVec.ofNat 32 r) = BitVec.ofNat 32 (128 * o + r) := by
          rw [mul_comm, BitVec.ofNat_add, BitVec.ofNat_mul]
          rfl
        rw [e, SwaRow.near_at _ _ (by omega) (by omega), AttnRow.ofBits_bot]
        have zero : Ideal.ofBits .f32 0x00000000#32 = 0 := by simp [Ideal.ofBits, Ideal.ieee]
        rw [zero]
        split <;> rfl }
end

theorem algebraic_swa : Cert.algebraic_Kernel5Ideal_Reference5Ideal_pre_swa_layout := by
  pair_intro
  · run_from Cert.Kernel5Ideal.Value.run_blocks m g
  · run_from Cert.Reference5Ideal.Value.run m' g'
    obtain ⟨h0, h1, h2, h3, h4, h5, h6⟩ := hagree c
    have L := layout_of_tests (hpre c)
    rw [Cert.Reference5Ideal.Read.val_main_v51_eq, h0, h1, h2, h3, h4, h5]
    exact (Cert.Reference5Ideal.Read.result _ _ _ _ _ _ L).trans (Cert.Kernel5Ideal.Value.final m c L).symm

end Cert.Proof
end
-- ==== Proof.SwaProjTable.lean ====
module

public import proofs.«01_k».proof.Kernel6Ideal

/-! The constant table of the windowed layer's projection: 1 where two lanes belong to one head, else 0. -/

@[expose] public section
set_option maxRecDepth 16384
noncomputable section
open Idealize.ShloMosaic
namespace Cert.Kernel6Ideal.Value
open Cert.Kernel6Ideal

theorem table_word : ∀ l c : Fin 128, lit0 ⟨128 * l + c, by omega⟩ = if (l : ℕ) / 64 = (c : ℕ) / 64 then 0x3F80#16 else 0#16 := by
  decide +kernel

end Cert.Kernel6Ideal.Value
end
-- ==== Proof.SwaProjRow.lean ====
module

public import proofs.«01_k».proof.Proof.Gen.Kernel6Ideal.Value
public import proofs.«01_k».proof.Proof.ProjRow
public import proofs.«01_k».proof.Proof.AttnSoftmax

/-! The windowed layer's projection of one token: heads of queries and keys, normed and then turned by the angles of
the token's place; and each payload of the kernel read at an index as a piece of it. -/

@[expose] public section
set_option maxRecDepth 16384
noncomputable section
open Idealize.ShloMosaic Idealize.ShloMosaic.TcCoe Idealize.SL.Sem

namespace SwaProjRow
open ProjRow TailRow
open AttnRow (IsReal)

/-- The lane that is turned together with lane `J`: 16 up or 16 down. -/
def partner (J : ℕ) : ℕ := if J % 32 < 16 then J + 16 else J - 16

theorem partner_lt {n J : ℕ} (hn : 64 ∣ n) (h : J < n) : partner J < n := by
  unfold partner
  split <;> omega

/-- The sine that a lane's partner is multiplied by. -/
def signed (S : Fin 2 → Fin 16 → EReal) (J : ℕ) : EReal :=
  if J % 32 < 16 then -S ⟨J / 32 % 2, by omega⟩ ⟨J % 16, by omega⟩ else S ⟨J / 32 % 2, by omega⟩ ⟨J % 16, by omega⟩

/-- Column `J` of a row of heads, turned by the angles of two axes. -/
def turnAt {n : ℕ} (hn : 64 ∣ n) (N : Fin n → EReal) (C S : Fin 2 → Fin 16 → EReal) (J : Fin n) : EReal :=
  N J * C ⟨J / 32 % 2, by omega⟩ ⟨J % 16, by omega⟩ + N ⟨partner J, partner_lt hn J.isLt⟩ * signed S J

/-- A lane of two heads side by side, turned with tables of cosines and of signed sines. -/
def turnLane (y c s : Fin 128 → EReal) (l : Fin 128) : EReal :=
  y l * c l + y ⟨partner l, partner_lt (by decide) l.isLt⟩ * s l

/-- The kernel's norm of a lane: the squares, and what the rounding of the squares leaves, are summed over a head by
products with a table. -/
def split (E : Fin 128 → Fin 128 → EReal) (y g : Fin 128 → EReal) (c : Fin 128) : EReal :=
  y c * Ideal.rsqrt ((∑ l, y l * y l * E l c + ∑ l, (y l * y l - y l * y l) * E l c) * Ideal.ofBits .f32 0x3C800000#32
      + Ideal.ofBits .f32 0x358637BD#32) * g c

/-- Of real lanes the rounding leaves nothing, so this is the norm over the lane's half. -/
theorem split_eq (E : Fin 128 → Fin 128 → EReal) (hE : ∀ l c : Fin 128, E l c = if (l : ℕ) / 64 = (c : ℕ) / 64 then 1 else 0)
    (y g : Fin 128 → EReal) (hy : ∀ l, IsReal (y l)) (c : Fin 128) : split E y g c = lanes y g c := by
  unfold split lanes
  have h0 : ∀ l, (y l * y l - y l * y l) * E l c = 0 := fun l => by
    obtain ⟨r, hr⟩ := hy l
    rw [hr, ← EReal.coe_mul, ← EReal.coe_sub, sub_self, EReal.coe_zero, zero_mul]
  simp only [h0, Finset.sum_const_zero, add_zero]
  have hs : ∑ l, y l * y l * E l c = if (c : ℕ) < 64 then ∑ l : Fin 128, (if (l : ℕ) < 64 then y l * y l else 0)
      else ∑ l : Fin 128, (if (l : ℕ) < 64 then 0 else y l * y l) := by
    by_cases hc : (c : ℕ) < 64
    · rw [if_pos hc]
      refine Finset.sum_congr rfl fun l _ => ?_
      rw [hE]
      by_cases hl : (l : ℕ) < 64
      · rw [if_pos hl, if_pos (by omega), mul_one]
      · rw [if_neg hl, if_neg (by omega), mul_zero]
    · rw [if_neg hc]
      refine Finset.sum_congr rfl fun l _ => ?_
      rw [hE]
      by_cases hl : (l : ℕ) < 64
      · rw [if_pos hl, if_neg (by omega), mul_zero]
      · rw [if_neg hl, if_pos (by omega), mul_one]
  rw [hs]

/-- Lanes of normed heads, turned, are columns of the row of normed heads, turned. -/
theorem turnLane_eq {n : ℕ} (hn : 64 ∣ n) (N : Fin n → EReal) (C S : Fin 2 → Fin 16 → EReal) (y c s : Fin 128 → EReal) (o : ℕ)
    (l : Fin 128) (J : Fin n) (ho : 64 ∣ o) (hJ : (J : ℕ) = o + l) (hy : ∀ (k : Fin 128) (K : Fin n), (K : ℕ) = o + k → y k = N K)
    (hc : c l = C ⟨l / 32 % 2, by omega⟩ ⟨l % 16, by omega⟩) (hs : s l = signed S l) : turnLane y c s l = turnAt hn N C S J := by
  have h1 : (⟨l / 32 % 2, by omega⟩ : Fin 2) = ⟨J / 32 % 2, by omega⟩ := Fin.ext (by simp only []; omega)
  have h2 : (⟨l % 16, by omega⟩ : Fin 16) = ⟨J % 16, by omega⟩ := Fin.ext (by simp only []; omega)
  have h3 : signed S l = signed S J := by
    unfold signed
    rw [h1, h2]
    have : (l : ℕ) % 32 < 16 ↔ (J : ℕ) % 32 < 16 := by omega
    simp only [this]
  unfold turnLane turnAt
  rw [hc, hs, h3, h1, h2, hy l J hJ, hy _ ⟨partner J, partner_lt hn J.isLt⟩ ?_]
  show partner J = o + partner l
  unfold partner
  split <;> split <;> omega

theorem real_add {x y : EReal} : IsReal x → IsReal y → IsReal (x + y) := by
  rintro ⟨a, rfl⟩ ⟨b, rfl⟩
  exact ⟨a + b, (EReal.coe_add a b).symm⟩

/-- An entry of a row over the root mean square of the row is real, whatever the row: where a square is infinite the
root's reciprocal is 0. -/
theorem real_rms (x : Fin 1024 → EReal) (j : Fin 1024) : IsReal (x j * Ideal.rsqrt (Ideal.div (∑ k, x k * x k)
    (Ideal.ofBits .f32 0x44800000#32) + Ideal.ofBits .f32 0x358637BD#32)) := by
  have hN : Ideal.ofBits .f32 0x44800000#32 = ((1024 : ℝ) : EReal) := by
    simp [Ideal.ofBits, Ideal.ieee, -EReal.coe_mul]; norm_num
  obtain ⟨e, he, hE⟩ : ∃ e : ℝ, 0 < e ∧ Ideal.ofBits .f32 0x358637BD#32 = (e : EReal) := by
    refine ⟨_, ?_, by simp [Ideal.ofBits, Ideal.ieee, -EReal.coe_mul]; rfl⟩
    norm_num
  rw [hN, hE, Ideal.div_coe (by norm_num)]
  have hsq : ∀ k, 0 ≤ x k * x k := fun k => by
    induction x k with
    | coe r => rw [← EReal.coe_mul]; exact EReal.coe_nonneg.mpr (mul_self_nonneg r)
    | bot => simp
    | top => simp
  have hle : x j * x j ≤ ∑ k, x k * x k := Finset.single_le_sum (fun k _ => hsq k) (Finset.mem_univ j)
  have h0 : 0 ≤ ∑ k, x k * x k := Finset.sum_nonneg fun k _ => hsq k
  generalize (∑ k, x k * x k) = T at hle h0
  induction T with
  | bot => simp at h0
  | top =>
    rw [EReal.top_mul_coe_of_pos (by norm_num), EReal.top_add_coe, Ideal.rsqrt_top, mul_zero]
    exact ⟨0, rfl⟩
  | coe t =>
    have ht : 0 ≤ t := EReal.coe_nonneg.mp h0
    refine IsReal.mul ?_ ?_
    · induction hx : x j with
      | coe r => exact ⟨r, rfl⟩
      | bot => rw [hx] at hle; simp at hle
      | top => rw [hx] at hle; simp at hle
    · rw [← EReal.coe_mul, ← EReal.coe_add, Ideal.rsqrt_coe]
      have : 0 < t * (1 / 1024) + e := by positivity
      rw [if_neg (not_lt.mpr this.le), if_neg this.ne']
      exact ⟨_, rfl⟩

/-- The projection of any row is real where the modulation, the gain and the weights are. -/
theorem real_proj {n : ℕ} {x m3 m4 g : Fin 1024 → EReal} {w : Fin 1024 → Fin n → EReal} (h3 : ∀ k, IsReal (m3 k))
    (h4 : ∀ k, IsReal (m4 k)) (hg : ∀ k, IsReal (g k)) (hw : ∀ k c, IsReal (w k c)) (c : Fin n) :
    IsReal (proj (rA x m3 m4 g) w c) :=
  IsReal.sum fun k => IsReal.mul (real_add (IsReal.mul (IsReal.mul (real_rms x k) (hg k)) (real_add ⟨1, rfl⟩ (h4 k))) (h3 k)) (hw k c)

end SwaProjRow

namespace Cert.Kernel6Ideal.Value
open Cert.Kernel6Ideal Cert.Kernel6Ideal.Gen TailRow ProjRow SwaProjRow
open Cert.Kernel4Ideal.Value (lane_lt)

/-- The normed row. -/
theorem pay2_at (v0 : FVec Ideal S1x512x1024 .f32) (v2 : FVec Ideal S1x1024 .f32) (v4 v6 : FVec Ideal S1x1x1024 .f32)
    (r : Fin 512) (j : Fin 1024) : k0_pay2 (F := Ideal) v0 v2 v4 v6 (ix2 r j)
      = rA (fun k => v0 (ix3 0 r k)) (fun k => v4 (ix3 0 0 k)) (fun k => v6 (ix3 0 0 k)) (fun k => v2 (ix2 0 k)) j := by
  pointwise [k0_pay2, rA]

/-- A tile of the projection, at an index. -/
theorem pay16_at (a : FVec Ideal S512x1024 .bf16) (w : FVec Ideal S1024x256 .bf16) (r : Fin 512) (c : Fin 256) :
    k0_pay16 (F := Ideal) a w (ix2 r c) = ∑ k : Fin 1024, a (ix2 r k) * w (ix2 k c) := by
  pointwise [k0_pay16]

section
variable (E : FVec Ideal S128x128 .bf16) (z : FVec Ideal S512x256 .f32) (g : FVec Ideal S1x128 .f32) (r : Fin 512) (c : Fin 128)

theorem pay6_at : k0_pay6 (F := Ideal) E z g (ix2 r c)
    = split (fun l c => E (ix2 l c)) (fun l => z (ix2 r ⟨l, by omega⟩)) (fun l => g (ix2 0 l)) c := by
  unfold split
  pointwise [k0_pay6]
theorem pay11_at : k0_pay11 (F := Ideal) E z g (ix2 r c)
    = split (fun l c => E (ix2 l c)) (fun l => z (ix2 r ⟨128 + l, by omega⟩)) (fun l => g (ix2 0 l)) c := by
  unfold split
  pointwise [k0_pay11]
end

/-- The test of a lane against 16 in its group of 32. -/
def low16 : IVec S1x128 1 := k0_pay9

theorem low16_at : ∀ l : Fin 128, low16 (ix2 0 l) = if (l : ℕ) % 32 < 16 then 1#1 else 0#1 := by
  decide +kernel

section
variable (y c s : FVec Ideal S512x128 .f32) (r : Fin 512) (l : Fin 128)

/-- A block of lanes turned. -/
def turned : FVec Ideal S512x128 .f32 :=
  addf (mulf y (k0_pay7 c)) (mulf (select (broadcastTo S512x128 (shapeCast S1x128 low16 shapeCasts_S1x128_S1x128) broadcasts_S1x128_S512x128)
    (dynamicRotate 1 112#32 none y rotates_S512x128_d1) (dynamicRotate 1 16#32 none y rotates_S512x128_d1)) (k0_pay8 s))

theorem turned_pay : turned y c s = k0_pay69 y (k0_pay64 c) (k0_pay65 s) (Scalar.select (Scalar.cmpi .eq 32#32 0#32) 1#32 32#32)
    k0_pay66 k0_pay67 k0_pay68 := rfl

theorem turned_at : turned y c s (ix2 r l)
    = turnLane (fun k => y (ix2 r k)) (fun k => c (ix2 r k)) (fun k => s (ix2 r k)) l := by
  have h : turned y c s (ix2 r l) = y (ix2 r l) * c (ix2 r l) + Scalar.select (low16 (ix2 0 l))
      (y (ix2 r ⟨(l + 128 - 112) % 128, by omega⟩)) (y (ix2 r ⟨(l + 128 - 16) % 128, by omega⟩)) * s (ix2 r l) := by
    pointwise [turned, k0_pay7, k0_pay8]
  rw [h, low16_at]
  unfold turnLane
  congr 2
  by_cases hl : (l : ℕ) % 32 < 16
  · rw [if_pos hl]
    show y _ = y _
    congr 2
    refine Fin.ext ?_
    show (l + 128 - 112) % 128 = partner l
    rw [partner, if_pos hl]
    omega
  · rw [if_neg hl]
    show y _ = y _
    congr 2
    refine Fin.ext ?_
    show (l + 128 - 16) % 128 = partner l
    rw [partner, if_neg hl]
    omega
end

end Cert.Kernel6Ideal.Value
end
-- ==== Proof.SwaProjBlock.lean ====
module

public import proofs.«01_k».proof.Proof.SwaProjRow

/-! What the windowed layer's projection kernel writes back at a grid point. -/

@[expose] public section
set_option maxRecDepth 16384
noncomputable section
open Idealize.ShloMosaic Idealize.ShloMosaic.TcCoe Idealize.SL.Sem
namespace Cert.Kernel6Ideal.Value
open Cert.Kernel6Ideal Cert.Kernel6Ideal.Gen TailRow ProjRow SwaProjRow
open AttnRow (IsReal)
open Cert.Kernel4Ideal.Value (lane_lt)

section
variable (t : FVec Ideal S512x128 .f32) (r : Fin 512) (l : Fin 128)

/-- The first half of a block of lanes in both halves, and the second. -/
def dup1 : FVec Ideal S1x512x128 .bf16 :=
  k0_pay62 (select (broadcastTo S512x128 (shapeCast S1x128 k0_pay57 shapeCasts_S1x128_S1x128) broadcasts_S1x128_S512x128) t
    (dynamicRotate 1 64#32 none t rotates_S512x128_d1))
def dup2 : FVec Ideal S1x512x128 .bf16 :=
  k0_pay62 (select (broadcastTo S512x128 (shapeCast S1x128 k0_pay57 shapeCasts_S1x128_S1x128) broadcasts_S1x128_S512x128)
    (dynamicRotate 1 64#32 none t rotates_S512x128_d1) t)

theorem pay62_at : k0_pay62 (F := Ideal) t (ix3 0 r l) = t (ix2 r l) := by
  pointwise [k0_pay62]
theorem dup1_at : dup1 t (ix3 0 r l) = t (ix2 r ⟨l % 64, by omega⟩) := by
  have h : dup1 t (ix3 0 r l) = if (l : ℕ) < 64 then t (ix2 r l) else t (ix2 r ⟨(l + 128 - 64) % 128, by omega⟩) := by
    rw [← lane_lt]
    pointwise [dup1, k0_pay62, k0_pay57]
  rw [h]
  split <;> congr 2 <;> refine Fin.ext ?_ <;> simp only [] <;> omega
theorem dup2_at : dup2 t (ix3 0 r l) = t (ix2 r ⟨64 + l % 64, by omega⟩) := by
  have h : dup2 t (ix3 0 r l) = if (l : ℕ) < 64 then t (ix2 r ⟨(l + 128 - 64) % 128, by omega⟩) else t (ix2 r l) := by
    rw [← lane_lt]
    pointwise [dup2, k0_pay62, k0_pay57]
  rw [h]
  split <;> congr 2 <;> refine Fin.ext ?_ <;> simp only [] <;> omega
end

section
variable (z : FVec Ideal S512x256 .f32) (r : Fin 512) (l : Fin 128)

/-! The four pieces of values: one head in the first half of the lanes, and 1 in the second. -/
theorem val1_at : k0_pay77 (F := Ideal) (k0_pay75 k0_pay3 z) (ix3 0 r l)
    = if (l : ℕ) < 64 then z (ix2 r ⟨l, by omega⟩) else Ideal.ofBits .f32 0x3F800000#32 := by
  rw [← lane_lt]
  pointwise [k0_pay77, k0_pay75, k0_pay74, k0_pay3]
theorem val2_at : k0_pay78 (F := Ideal) k0_pay3 (k0_pay76 z) (Scalar.ofBits .f32 0x3F800000#32) (ix3 0 r l)
    = if (l : ℕ) < 64 then z (ix2 r ⟨(l + 128 - 64) % 128, by omega⟩) else Ideal.ofBits .f32 0x3F800000#32 := by
  rw [← lane_lt]
  pointwise [k0_pay78, k0_pay76, k0_pay74, k0_pay3]
theorem val3_at : k0_pay80 (F := Ideal) k0_pay3 z (ix3 0 r l)
    = if (l : ℕ) < 64 then z (ix2 r ⟨128 + l, by omega⟩) else Ideal.ofBits .f32 0x3F800000#32 := by
  rw [← lane_lt]
  pointwise [k0_pay80, k0_pay79, k0_pay3]
theorem val4_at : k0_pay1 (F := Ideal) (k0_pay81 k0_pay3 z) (ix3 0 r l)
    = if (l : ℕ) < 64 then z (ix2 r ⟨128 + (l + 128 - 64) % 128, by omega⟩) else Ideal.ofBits .f32 0x3F800000#32 := by
  rw [← lane_lt]
  pointwise [k0_pay1, k0_pay81, k0_pay79, k0_pay3]
end

section
variable (x0 : FVec Ideal S1x512x1024 .f32) (x1 : FVec Ideal S1x6x1024 .f32) (x2 : FVec Ideal S1x1024 .f32)
  (x3 : FVec Ideal S1024x1536 .bf16) (x4 x5 : FVec Ideal S1x128 .f32) (x6 : FVec Ideal S128x128 .bf16)
  (x7 x8 : FVec Ideal S512x128 .f32)

/-- A tile of the projection of the normed tile. -/
def mm (w : Vec Ideal S1024x256 .bf16) : FVec Ideal S512x256 .f32 :=
  k0_pay16 (k0_pay2 (View.ld x0 r0_0) (View.ld x2 r0_1) (View.ld x1 r0_2) (View.ld x1 r0_3)) w

/-- The two blocks of lanes of a tile of the projection, normed and turned. -/
def lo (w : Vec Ideal S1024x256 .bf16) (g : Vec Ideal S1x128 .f32) : FVec Ideal S512x128 .f32 :=
  turned (k0_pay6 (View.ld x6 r0_4) (mm x0 x1 x2 w) g) (View.ld x7 r0_8 : Vec Ideal S512x128 .f32) (View.ld x8 r0_8 : Vec Ideal S512x128 .f32)
def hi (w : Vec Ideal S1024x256 .bf16) (g : Vec Ideal S1x128 .f32) : FVec Ideal S512x128 .f32 :=
  turned (k0_pay11 (View.ld x6 r0_4) (mm x0 x1 x2 w) g) (View.ld x7 r0_8 : Vec Ideal S512x128 .f32) (View.ld x8 r0_8 : Vec Ideal S512x128 .f32)

theorem out9_eq : out0_9 (F := Ideal) x0 x1 x2 x3 x4 x5 x6 x7 x8 =
    View.canon [⟨r0_19, k0_pay62 (hi x0 x1 x2 x6 x7 x8 (View.ld x3 r0_14) (View.ld x4 r0_7))⟩,
      ⟨r0_18, k0_pay62 (lo x0 x1 x2 x6 x7 x8 (View.ld x3 r0_14) (View.ld x4 r0_7))⟩,
      ⟨r0_16, k0_pay62 (hi x0 x1 x2 x6 x7 x8 (View.ld x3 r0_11) (View.ld x4 r0_7))⟩,
      ⟨r0_15, k0_pay62 (lo x0 x1 x2 x6 x7 x8 (View.ld x3 r0_11) (View.ld x4 r0_7))⟩,
      ⟨r0_13, k0_pay62 (hi x0 x1 x2 x6 x7 x8 (View.ld x3 r0_6) (View.ld x4 r0_7))⟩,
      ⟨r0_12, k0_pay62 (lo x0 x1 x2 x6 x7 x8 (View.ld x3 r0_6) (View.ld x4 r0_7))⟩,
      ⟨r0_10, k0_pay62 (hi x0 x1 x2 x6 x7 x8 (View.ld x3 r0_5) (View.ld x4 r0_7))⟩,
      ⟨r0_9, k0_pay62 (lo x0 x1 x2 x6 x7 x8 (View.ld x3 r0_5) (View.ld x4 r0_7))⟩] := rfl
theorem out10_eq : out0_10 (F := Ideal) x0 x1 x2 x3 x4 x5 x6 x7 x8 =
    View.canon [⟨r0_24, dup2 (hi x0 x1 x2 x6 x7 x8 (View.ld x3 r0_17) (View.ld x5 r0_7))⟩,
      ⟨r0_23, dup1 (hi x0 x1 x2 x6 x7 x8 (View.ld x3 r0_17) (View.ld x5 r0_7))⟩,
      ⟨r0_22, dup2 (lo x0 x1 x2 x6 x7 x8 (View.ld x3 r0_17) (View.ld x5 r0_7))⟩,
      ⟨r0_21, dup1 (lo x0 x1 x2 x6 x7 x8 (View.ld x3 r0_17) (View.ld x5 r0_7))⟩] := rfl
theorem out11_eq : out0_11 (F := Ideal) x0 x1 x2 x3 x4 x5 x6 x7 x8 =
    View.canon [⟨r0_24, k0_pay1 (k0_pay81 k0_pay3 (mm x0 x1 x2 (View.ld x3 r0_20)))⟩,
      ⟨r0_23, k0_pay80 k0_pay3 (mm x0 x1 x2 (View.ld x3 r0_20))⟩,
      ⟨r0_22, k0_pay78 k0_pay3 (k0_pay76 (mm x0 x1 x2 (View.ld x3 r0_20))) (Scalar.ofBits .f32 0x3F800000#32)⟩,
      ⟨r0_21, k0_pay77 (k0_pay75 k0_pay3 (mm x0 x1 x2 (View.ld x3 r0_20)))⟩] := rfl

/-- The projection of row `r` of a tile. -/
def prow (r : Fin 512) (c : Fin 1536) : EReal :=
  proj (rA (fun k => x0 (ix3 0 r k)) (fun k => x1 (ix3 0 0 k)) (fun k => x1 (ix3 0 1 k)) (fun k => x2 (ix2 0 k)))
    (fun k l => x3 (ix2 k l)) c

/-- A tile of the projection, at an index. -/
theorem mm_at (w : Vec Ideal S1024x256 .bf16) (r : Fin 512) (c : Fin 256) (C : Fin 1536)
    (hw : ∀ k : Fin 1024, w (ix2 k c) = x3 (ix2 k C)) : mm x0 x1 x2 w (ix2 r c) = prow x0 x1 x2 x3 r C := by
  unfold mm
  rw [pay16_at]
  unfold prow proj
  refine Fin.sum_fin_congr fun k => Ideal.mul_congr ((pay2_at _ _ _ _ _ _).trans ?_) (hw k)
  congr 1 <;> funext k
  all_goals pointwise

/-- What the blocks of a grid point hold: the table of heads, real columns of the projection, and the angles of the rows. -/
structure Tile (C S : Fin 512 → Fin 2 → Fin 16 → EReal) : Prop where
  heads : ∀ l c : Fin 128, x6 (ix2 l c) = if (l : ℕ) / 64 = (c : ℕ) / 64 then 1 else 0
  real : ∀ r c, IsReal (prow x0 x1 x2 x3 r c)
  cos : ∀ (r : Fin 512) (l : Fin 128), x7 (ix2 r l) = C r ⟨l / 32 % 2, by omega⟩ ⟨l % 16, by omega⟩
  sin : ∀ (r : Fin 512) (l : Fin 128), x8 (ix2 r l) = signed (S r) l

variable {x0 x1 x2 x3 x6 x7 x8} {C S : Fin 512 → Fin 2 → Fin 16 → EReal} (T : Tile x0 x1 x2 x3 x6 x7 x8 C S)
include T

/-- Lanes of the two blocks as columns of the row of heads, normed and turned. -/
theorem lo_at (w : Vec Ideal S1024x256 .bf16) (g : Vec Ideal S1x128 .f32) (G : Fin 64 → EReal)
    (hG : ∀ c : Fin 128, g (ix2 0 c) = G ⟨c % 64, by omega⟩) (r : Fin 512) (l : Fin 128) (o : ℕ) (J : Fin 1536)
    (ho : 64 ∣ o) (hb : o + 256 ≤ 1536) (hJ : (J : ℕ) = o + l)
    (hw : ∀ (k : Fin 1024) (l : Fin 256) (L : Fin 1536), (L : ℕ) = o + l → w (ix2 k l) = x3 (ix2 k L)) :
    lo x0 x1 x2 x6 x7 x8 w g (ix2 r l)
      = turnAt (by decide) (headAt (by decide) (prow x0 x1 x2 x3 r) G) (C r) (S r) J := by
  unfold lo
  rw [turned_at]
  refine turnLane_eq (by decide) _ _ _ _ _ _ o l J ho hJ (fun k K hK => ?_) ?_ ?_
  · rw [pay6_at, split_eq]
    · exact lanes_eq (by decide) _ G _ _ o k K ho hK (fun l h => mm_at _ _ _ _ _ _ _ _ fun k => hw k _ _ rfl) (hG k)
    · intro l c
      refine Eq.trans ?_ (T.heads l c)
      pointwise
    · intro l
      have := T.real r ⟨o + l, by omega⟩
      rwa [mm_at _ _ _ _ _ _ _ ⟨o + l, by omega⟩ fun k => hw k _ _ rfl]
  · refine Eq.trans ?_ (T.cos r l)
    pointwise
  · refine Eq.trans ?_ (T.sin r l)
    pointwise
theorem hi_at (w : Vec Ideal S1024x256 .bf16) (g : Vec Ideal S1x128 .f32) (G : Fin 64 → EReal)
    (hG : ∀ c : Fin 128, g (ix2 0 c) = G ⟨c % 64, by omega⟩) (r : Fin 512) (l : Fin 128) (o : ℕ) (J : Fin 1536)
    (ho : 64 ∣ o) (hb : o + 256 ≤ 1536) (hJ : (J : ℕ) = o + 128 + l)
    (hw : ∀ (k : Fin 1024) (l : Fin 256) (L : Fin 1536), (L : ℕ) = o + l → w (ix2 k l) = x3 (ix2 k L)) :
    hi x0 x1 x2 x6 x7 x8 w g (ix2 r l)
      = turnAt (by decide) (headAt (by decide) (prow x0 x1 x2 x3 r) G) (C r) (S r) J := by
  unfold hi
  rw [turned_at]
  refine turnLane_eq (by decide) _ _ _ _ _ _ (o + 128) l J (by omega) hJ (fun k K hK => ?_) ?_ ?_
  · rw [pay11_at, split_eq]
    · exact lanes_eq (by decide) _ G _ _ (o + 128) k K (by omega) hK
        (fun l h => mm_at _ _ _ _ _ _ _ _ fun k => hw k _ _ (by simp only []; omega)) (hG k)
    · intro l c
      refine Eq.trans ?_ (T.heads l c)
      pointwise
    · intro l
      have := T.real r ⟨o + 128 + l, by omega⟩
      rwa [mm_at _ _ _ _ _ _ _ ⟨o + 128 + l, by omega⟩ fun k => hw k _ _ (by simp only []; omega)]
  · refine Eq.trans ?_ (T.cos r l)
    pointwise
  · refine Eq.trans ?_ (T.sin r l)
    pointwise

/-! The three results of a grid point. -/
theorem point9 (G : Fin 64 → EReal) (hG : ∀ c : Fin 128, x4 (ix2 0 c) = G ⟨c % 64, by omega⟩) (r : Fin 512) (j : Fin 1024) :
    out0_9 (F := Ideal) x0 x1 x2 x3 x4 x5 x6 x7 x8 (ix3 0 r j)
      = turnAt (by decide) (headAt (by decide) (prow x0 x1 x2 x3 r) G) (C r) (S r) ⟨j, by omega⟩ := by
  rw [out9_eq]
  canon_tiles y hy
  all_goals
    have e1 : (r : ℕ) = y 1 := by simpa [Rect.unit] using hy1
    have e2 := hy2
    simp [Rect.unit] at e2
    clear hy0 hy1 hy2
    idx_vars y
    obtain rfl : y0 = 0 := Subsingleton.elim _ _
    obtain rfl : r = y1 := Fin.ext e1
    rw [pay62_at]
    first
      | with_reducible refine lo_at T _ _ G ?_ _ _ (j - y2) _ ?_ ?_ ?_ ?_
      | with_reducible refine hi_at T _ _ G ?_ _ _ (j - (128 + y2)) _ ?_ ?_ ?_ ?_
    · intro c
      exact .trans (by pointwise) (hG c)
    · omega
    · omega
    · simp only []; omega
    · intro k l L h
      pointwise
      blk_ext
theorem point10 (G : Fin 64 → EReal) (hG : ∀ c : Fin 128, x5 (ix2 0 c) = G ⟨c % 64, by omega⟩) (r : Fin 512) (j : Fin 512) :
    out0_10 (F := Ideal) x0 x1 x2 x3 x4 x5 x6 x7 x8 (ix3 0 r j)
      = turnAt (by decide) (headAt (by decide) (prow x0 x1 x2 x3 r) G) (C r) (S r) ⟨1024 + 64 * (j / 128) + j % 64, by omega⟩ := by
  rw [out10_eq]
  canon_tiles y hy
  all_goals
    have e1 : (r : ℕ) = y 1 := by simpa [Rect.unit] using hy1
    have e2 := hy2
    simp [Rect.unit] at e2
    clear hy0 hy1 hy2
    idx_vars y
    obtain rfl : y0 = 0 := Subsingleton.elim _ _
    obtain rfl : r = y1 := Fin.ext e1
    first | rw [dup1_at] | rw [dup2_at]
    first
      | with_reducible refine lo_at T _ _ G ?_ _ _ 1024 _ ?_ ?_ ?_ ?_
      | with_reducible refine hi_at T _ _ G ?_ _ _ 1024 _ ?_ ?_ ?_ ?_
    · intro c
      exact .trans (by pointwise) (hG c)
    · omega
    · omega
    · simp only []; omega
    · intro k l L h
      pointwise
      blk_ext
omit T in
theorem point11 (r : Fin 512) (j : Fin 512) :
    out0_11 (F := Ideal) x0 x1 x2 x3 x4 x5 x6 x7 x8 (ix3 0 r j)
      = if (j : ℕ) % 128 < 64 then prow x0 x1 x2 x3 r ⟨1280 + 64 * (j / 128) + j % 64, by omega⟩
        else Ideal.ofBits .f32 0x3F800000#32 := by
  rw [out11_eq]
  canon_tiles y hy
  all_goals
    have e1 : (r : ℕ) = y 1 := by simpa [Rect.unit] using hy1
    have e2 := hy2
    simp [Rect.unit] at e2
    clear hy0 hy1 hy2
    idx_vars y
    obtain rfl : y0 = 0 := Subsingleton.elim _ _
    obtain rfl : r = y1 := Fin.ext e1
    first | rw [val1_at] | rw [val2_at] | rw [val3_at] | rw [val4_at]
    by_cases hl : (y2 : ℕ) < 64
    · rw [if_pos hl, if_pos (by omega)]
      refine mm_at _ _ _ _ _ _ _ _ fun k => ?_
      pointwise
      blk_ext
    · rw [if_neg hl, if_neg (by omega)]

end
end Cert.Kernel6Ideal.Value
end
-- ==== Proof.SwaProjArrays.lean ====
module

public import proofs.«01_k».proof.Proof.SwaProjTable
public import proofs.«01_k».proof.Proof.SwaProjBlock

/-! The result arrays of the windowed layer's projection kernel as functions of the argument arrays. -/

@[expose] public section
set_option maxRecDepth 16384
set_option maxHeartbeats 800000
noncomputable section
open Idealize.ShloMosaic Idealize.ShloMosaic.TcCoe Idealize.SL.Sem
open Idealize.ShloMosaic.Pipeline (Dat)
namespace Cert.Kernel6Ideal.Value
open Cert.Kernel6Ideal Cert.Kernel6Ideal.Gen TailRow ProjRow SwaProjRow
open AttnRow (IsReal)

/-- The index maps of the windows. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![0, 0] ∧ win0_7.index t = ![t.val % 4, 0] ∧ win0_8.index t = ![t.val % 4, 0]
    ∧ win0_9.index t = ![t.val / 4, t.val % 4, 0] ∧ win0_10.index t = ![t.val / 4, t.val % 4, 0]
    ∧ win0_11.index t = ![t.val / 4, t.val % 4, 0] :=
  (by decide +kernel : ∀ t : Fin grid0.N, _)

section
variable (H : FVec Ideal S16x2048x1024 .f32) (M : FVec Ideal S16x6x1024 .f32) (G : FVec Ideal S1024 .f32)
    (W : FVec Ideal S1024x1536 .bf16) (C S : FVec Ideal S2048x2x16 .f32)
/-- The projection of a token. -/
def tok (b : Fin 16) (n : Fin 2048) (c : Fin 1536) : EReal :=
  proj (rA (fun k => H (ix3 b n k)) (fun k => M (ix3 b 0 k)) (fun k => M (ix3 b 1 k)) (fun k => G (ix1 k)))
    (fun k l => W (ix2 k l)) c
/-- The gain of the queries, with the scale of the scores. -/
def qgain (g : FVec Ideal S64 .f32) (d : Fin 64) : EReal := g (ix1 d) * Ideal.ofBits .f32 0x3E38AA3B#32
/-- A column of a token's heads, normed with a gain and turned by the angles of its row. -/
def turnedTok (g : Fin 64 → EReal) (b : Fin 16) (n : Fin 2048) (J : Fin 1536) : EReal :=
  turnAt (by decide) (headAt (by decide) (tok H M G W b n) g) (fun e a => C (ix3 n e a)) (fun e a => S (ix3 n e a)) J
/-! The three results as functions of the argument arrays. -/
def queries (g : FVec Ideal S64 .f32) : FVec Ideal S16x2048x1024 .bf16 := fun i =>
  turnedTok H M G W C S (qgain g) (i 0) (i 1) ⟨i 2, by have h : (i 2 : ℕ) < 1024 := (i 2).isLt; omega⟩
def keys (g : FVec Ideal S64 .f32) : FVec Ideal S16x2048x512 .bf16 := fun i =>
  turnedTok H M G W C S (fun d => g (ix1 d)) (i 0) (i 1)
    ⟨1024 + 64 * (i 2 / 128) + i 2 % 64, by have h : (i 2 : ℕ) < 512 := (i 2).isLt; omega⟩
def values : FVec Ideal S16x2048x512 .bf16 := fun i =>
  if (i 2 : ℕ) % 128 < 64 then
    tok H M G W (i 0) (i 1) ⟨1280 + 64 * (i 2 / 128) + i 2 % 64, by have h : (i 2 : ℕ) < 512 := (i 2).isLt; omega⟩
  else Ideal.ofBits .f32 0x3F800000#32

/-- Real shifts, scales, gain and weights. -/
structure RealProj : Prop where
  shift : ∀ b k, IsReal (M (ix3 b 0 k))
  scale : ∀ b k, IsReal (M (ix3 b 1 k))
  gain : ∀ k, IsReal (G (ix1 k))
  weight : ∀ k c, IsReal (W (ix2 k c))
end

variable (m : (ℓ : Loc nD τ sig) → Buf (Elt Ideal) ℓ)

/-- The projection of a row of the blocks of a grid point, as a token of the argument arrays. -/
theorem prow_blk (c : Dev nD) (t : Fin cfg0.N) (r : Fin 512) (ht : t.val < 64) :
    prow (iblk m c 0 t) (iblk m c 1 t) (iblk m c 2 t) (iblk m c 3 t) r
      = tok (m ((c : Thread nD τ).loc main_arg0)) (m ((c : Thread nD τ).loc main_arg1)) (m ((c : Thread nD τ).loc main_arg2))
        (m ((c : Thread nD τ).loc main_arg3)) ⟨t.val / 4, by omega⟩ ⟨t.val % 4 * 512 + r, by omega⟩ := by
  funext l
  unfold prow tok
  congr 1
  · congr 1 <;> funext k
    · blk_ext [iblk, V_main_arg0, idx t]
    · blk_ext [iblk, V_main_arg1, idx t]
    · blk_ext [iblk, V_main_arg1, idx t]
    · show iblk m c 2 t (ix2 0 k) = _
      blk_simp [iblk]
      entry_read
      pointwise
      blk_ext [idx t]
  · funext k l
    blk_ext [iblk, V_main_arg3, idx t]

/-- The gains of the queries and of the keys, as the kernel is given them. -/
theorem gain_q (c : Dev nD) (t : Fin cfg0.N) (l : Fin 128) : iblk m c 4 t (ix2 0 l)
    = qgain (m ((c : Thread nD τ).loc main_arg4)) ⟨l % 64, by omega⟩ := by
  unfold qgain
  blk_simp [iblk]
  entry_read
  pointwise
  blk_ext [idx t]
theorem gain_k (c : Dev nD) (t : Fin cfg0.N) (l : Fin 128) : iblk m c 5 t (ix2 0 l)
    = (m ((c : Thread nD τ).loc main_arg5) : FVec Ideal S64 .f32) (ix1 ⟨l % 64, by omega⟩) := by
  blk_simp [iblk]
  entry_read
  pointwise
  blk_ext [idx t]

section
variable (A B : FVec Ideal S2048x2x16 .f32)
/-- Two arrays of angles laid over the lanes: of each 32 lanes the first 16 hold the one and the others the other. -/
def overLanes : FVec Ideal S2048x128 .f32 :=
  shapeCast S2048x128 (broadcastInDim S1x2048x2x64 ![0, 1, 2, 3] bcast_S1x2048x1x64_S1x2048x2x64_0_1_2_3
    (shapeCast S1x2048x1x64 (shapeCast S2048x64 (concatenate S2048x2x2x16 2
      [⟨S2048x2x1x16, broadcastInDim S2048x2x1x16 ![0, 1, 3] bcast_S2048x2x16_S2048x2x1x16_0_1_3 A⟩,
       ⟨S2048x2x1x16, broadcastInDim S2048x2x1x16 ![0, 1, 3] bcast_S2048x2x16_S2048x2x1x16_0_1_3 B⟩]
      concatenates_S2048x2x1x16_S2048x2x1x16_S2048x2x2x16_d2) shapeCasts_S2048x2x2x16_S2048x64)
      shapeCasts_S2048x64_S1x2048x1x64)) shapeCasts_S1x2048x2x64_S2048x128
theorem overLanes_at (n : Fin 2048) (l : Fin 128) : overLanes A B (ix2 n l)
    = if (l : ℕ) % 32 < 16 then A (ix3 n ⟨l / 32 % 2, by omega⟩ ⟨l % 16, by omega⟩) else B (ix3 n ⟨l / 32 % 2, by omega⟩ ⟨l % 16, by omega⟩) := by
  have h1 : (⟨(l : ℕ) % 64 / 32, by omega⟩ : Fin 2) = ⟨l / 32 % 2, by omega⟩ := Fin.ext (by simp only []; omega)
  have h2 : (⟨(l : ℕ) % 64 % 16, by omega⟩ : Fin 16) = ⟨l % 16, by omega⟩ := Fin.ext (by simp only []; omega)
  rw [← h1, ← h2]
  have h : overLanes A B (ix2 n l) = if (l : ℕ) % 64 / 16 % 2 < 1 then A (ix3 n ⟨(l : ℕ) % 64 / 32, by omega⟩ ⟨(l : ℕ) % 64 % 16, by omega⟩)
      else B (ix3 n ⟨(l : ℕ) % 64 / 32, by omega⟩ ⟨(l : ℕ) % 64 % 16, by omega⟩) := by
    pointwise [overLanes]
    rfl
  rw [h]
  exact if_congr (by omega) rfl rfl
end

/-- The cosines and the signed sines over the lanes, as the kernel is given them. -/
theorem cos_blk (c : Dev nD) (t : Fin cfg0.N) (r : Fin 512) (l : Fin 128) (ht : t.val < 64) : iblk m c 7 t (ix2 r l)
    = (m ((c : Thread nD τ).loc main_arg6) : FVec Ideal S2048x2x16 .f32)
        (ix3 ⟨t.val % 4 * 512 + r, by omega⟩ ⟨l / 32 % 2, by omega⟩ ⟨l % 16, by omega⟩) := by
  have he : ((cfg0.win 7).blk t).view.emb (ix2 r l) = ix2 ⟨t.val % 4 * 512 + r, by omega⟩ l := by
    blk_ext [idx t]
  blk_simp [iblk]
  entry_read
  refine (congrArg (overLanes (m ((c : Thread nD τ).loc main_arg6)) (m ((c : Thread nD τ).loc main_arg6))) he).trans ?_
  rw [overLanes_at, ite_self]
theorem sin_blk (c : Dev nD) (t : Fin cfg0.N) (r : Fin 512) (l : Fin 128) (ht : t.val < 64) : iblk m c 8 t (ix2 r l)
    = signed (fun e a => (m ((c : Thread nD τ).loc main_arg7) : FVec Ideal S2048x2x16 .f32)
        (ix3 ⟨t.val % 4 * 512 + r, by omega⟩ e a)) l := by
  have he : ((cfg0.win 8).blk t).view.emb (ix2 r l) = ix2 ⟨t.val % 4 * 512 + r, by omega⟩ l := by
    blk_ext [idx t]
  blk_simp [iblk]
  entry_read
  refine (congrArg (overLanes (Host.negf (m ((c : Thread nD τ).loc main_arg7) : FVec Ideal S2048x2x16 .f32))
    (m ((c : Thread nD τ).loc main_arg7))) he).trans ?_
  rw [overLanes_at]
  rfl
theorem heads_blk (c : Dev nD) (t : Fin cfg0.N) (l k : Fin 128) : iblk m c 6 t (ix2 l k)
    = if (l : ℕ) / 64 = (k : ℕ) / 64 then (1 : EReal) else (0 : EReal) := by
  have he : ((cfg0.win 6).blk t).view.emb (ix2 l k) = ix2 l k := by
    blk_ext [idx t]
  have hw : lit0 (S128x128.rowMajor (ix2 l k)) = lit0 ⟨128 * l + k, by omega⟩ := by
    refine congrArg lit0 (Fin.ext ?_)
    rw [Shape.rowMajor_val_two]
    show (l : ℕ) * 128 + k = 128 * l + k
    omega
  blk_simp [iblk]
  entry_read
  pointwise
  rw [he, hw, table_word]
  split
  · simp [Ideal.ofBits, Ideal.ieee]
    rw [← EReal.coe_mul, ← EReal.coe_one]
    norm_num
  · simp [Ideal.ofBits, Ideal.ieee]

end Cert.Kernel6Ideal.Value
end
-- ==== Proof.SwaProjFinal.lean ====
module

public import proofs.«01_k».proof.Proof.SwaProjArrays

/-! The windowed layer's projection kernel leaves the three arrays. -/

@[expose] public section
set_option maxRecDepth 16384
set_option maxHeartbeats 800000
noncomputable section
open Idealize.ShloMosaic Idealize.ShloMosaic.TcCoe Idealize.SL.Sem
open Idealize.ShloMosaic.Pipeline (Dat)
namespace Cert.Kernel6Ideal.Value
open Cert.Kernel6Ideal Cert.Kernel6Ideal.Gen TailRow ProjRow SwaProjRow
open AttnRow (IsReal)

variable (m : (ℓ : Loc nD τ sig) → Buf (Elt Ideal) ℓ) (c : Dev nD)
  (R : RealProj (m ((c : Thread nD τ).loc main_arg1)) (m ((c : Thread nD τ).loc main_arg2)) (m ((c : Thread nD τ).loc main_arg3)))
include R

theorem tile (t : Fin cfg0.N) (ht : t.val < 64) :
    Tile (iblk m c 0 t) (iblk m c 1 t) (iblk m c 2 t) (iblk m c 3 t) (iblk m c 6 t) (iblk m c 7 t) (iblk m c 8 t)
      (fun r e a => (m ((c : Thread nD τ).loc main_arg6) : FVec Ideal S2048x2x16 .f32) (ix3 ⟨t.val % 4 * 512 + r, by omega⟩ e a))
      (fun r e a => (m ((c : Thread nD τ).loc main_arg7) : FVec Ideal S2048x2x16 .f32) (ix3 ⟨t.val % 4 * 512 + r, by omega⟩ e a)) where
  heads := heads_blk m c t
  real r k := by
    rw [prow_blk m c t r ht]
    exact real_proj (fun k => R.shift _ k) (fun k => R.scale _ k) R.gain R.weight k
  cos r l := cos_blk m c t r l ht
  sin r l := sin_blk m c t r l ht

theorem final9 : (dats m 0 c).arrAt 9 (cfgs 0).N
    = queries (m ((c : Thread nD τ).loc main_arg0)) (m ((c : Thread nD τ).loc main_arg1)) (m ((c : Thread nD τ).loc main_arg2))
        (m ((c : Thread nD τ).loc main_arg3)) (m ((c : Thread nD τ).loc main_arg6)) (m ((c : Thread nD τ).loc main_arg7))
        (m ((c : Thread nD τ).loc main_arg4)) := by
  refine (dats m 0 c).arrAt_eq_of_covers 9 _ (by decide +kernel) fun t _ y => ?_
  blk_simp
  rw [after0_9]
  idx_vars y
  obtain rfl : y0 = 0 := Subsingleton.elim _ _
  have ht : t.val < 64 := lt_of_lt_of_eq t.isLt N_0
  have he : ((cfg0.win 9).blk t).view.emb (ix3 0 y1 y2) = ix3 ⟨t.val / 4, by omega⟩ ⟨t.val % 4 * 512 + y1, by omega⟩ y2 := by
    blk_ext [idx t]
  rw [point9 _ _ (tile m c R t ht) (qgain (m ((c : Thread nD τ).loc main_arg4))) (gain_q m c t), prow_blk m c t y1 ht]
  refine Eq.trans ?_ (congrArg (queries _ _ _ _ _ _ _) he.symm)
  unfold queries turnedTok
  rfl

theorem final10 : (dats m 0 c).arrAt 10 (cfgs 0).N
    = keys (m ((c : Thread nD τ).loc main_arg0)) (m ((c : Thread nD τ).loc main_arg1)) (m ((c : Thread nD τ).loc main_arg2))
        (m ((c : Thread nD τ).loc main_arg3)) (m ((c : Thread nD τ).loc main_arg6)) (m ((c : Thread nD τ).loc main_arg7))
        (m ((c : Thread nD τ).loc main_arg5)) := by
  refine (dats m 0 c).arrAt_eq_of_covers 10 _ (by decide +kernel) fun t _ y => ?_
  blk_simp
  rw [after0_10]
  idx_vars y
  obtain rfl : y0 = 0 := Subsingleton.elim _ _
  have ht : t.val < 64 := lt_of_lt_of_eq t.isLt N_0
  have he : ((cfg0.win 10).blk t).view.emb (ix3 0 y1 y2) = ix3 ⟨t.val / 4, by omega⟩ ⟨t.val % 4 * 512 + y1, by omega⟩ y2 := by
    blk_ext [idx t]
  rw [point10 _ _ (tile m c R t ht) (fun d => (m ((c : Thread nD τ).loc main_arg5) : FVec Ideal S64 .f32) (ix1 d)) (gain_k m c t),
    prow_blk m c t y1 ht]
  refine Eq.trans ?_ (congrArg (keys _ _ _ _ _ _ _) he.symm)
  unfold keys turnedTok
  rfl

omit R in
theorem final11 : (dats m 0 c).arrAt 11 (cfgs 0).N
    = values (m ((c : Thread nD τ).loc main_arg0)) (m ((c : Thread nD τ).loc main_arg1)) (m ((c : Thread nD τ).loc main_arg2))
        (m ((c : Thread nD τ).loc main_arg3)) := by
  refine (dats m 0 c).arrAt_eq_of_covers 11 _ (by decide +kernel) fun t _ y => ?_
  blk_simp
  rw [after0_11]
  idx_vars y
  obtain rfl : y0 = 0 := Subsingleton.elim _ _
  have ht : t.val < 64 := lt_of_lt_of_eq t.isLt N_0
  have he : ((cfg0.win 11).blk t).view.emb (ix3 0 y1 y2) = ix3 ⟨t.val / 4, by omega⟩ ⟨t.val % 4 * 512 + y1, by omega⟩ y2 := by
    blk_ext [idx t]
  rw [point11, prow_blk m c t y1 ht]
  refine Eq.trans ?_ (congrArg (values _ _ _ _) he.symm)
  unfold values
  rfl
end Cert.Kernel6Ideal.Value
end
-- ==== Proof.SwaProjReference.lean ====
module

public import proofs.«01_k».proof.Proof.SwaProjArrays
public import proofs.«01_k».proof.Proof.Gen.Reference6Ideal.Read

/-! The three results of the windowed layer's projection reference, as the same functions of the argument arrays. -/

@[expose] public section
set_option maxRecDepth 16384
noncomputable section
open Idealize.ShloMosaic Idealize.ShloMosaic.TcCoe Idealize.SL.Sem
namespace Cert.Reference6Ideal.Read
open Cert.Reference6Ideal Cert.Reference6Ideal.Gen TailRow ProjRow SwaProjRow
open Cert.Kernel6Ideal.Value (tok qgain turnedTok queries keys values)

variable (H : FVec Ideal S16x2048x1024 .f32) (M : FVec Ideal S16x6x1024 .f32) (G : FVec Ideal S1024 .f32)
    (W : FVec Ideal S1024x1536 .bf16) (gq gk : FVec Ideal S64 .f32) (C S : FVec Ideal S2048x2x16 .f32) (b : Fin 16) (n : Fin 2048)

theorem a_at (j : Fin 1024) : val_main_v20 (F := Ideal) H M G (ix3 b n j)
    = rA (fun k => H (ix3 b n k)) (fun k => M (ix3 b 0 k)) (fun k => M (ix3 b 1 k)) (fun k => G (ix1 k)) j := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, rA]

theorem tok_at (l : Fin 1536) : val_main_v22 (F := Ideal) H M G W (ix3 b n l) = tok H M G W b n l := by
  unfold tok proj
  simp only [← a_at]
  pointwise [val_main_v22, val_main_v21]

theorem q4_at (h : Fin 16) (d : Fin 64) : val_main_v39 (F := Ideal) H M G W gq (ix4 b n h d)
    = hnorm (fun e => val_main_v22 (F := Ideal) H M G W (ix3 b n ⟨h * 64 + e, by omega⟩)) (qgain gq) d := by
  unfold hnorm qgain
  rw [← mul_assoc]
  pointwise [val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_cst_3, val_main_cst_4, val_main_cst_5, val_main_cst_6]

theorem k4_at (h : Fin 4) (d : Fin 64) : val_main_v103 (F := Ideal) H M G W gk (ix4 b n h d)
    = hnorm (fun e => val_main_v22 (F := Ideal) H M G W (ix3 b n ⟨1024 + (h * 64 + e), by omega⟩)) (fun d => gk (ix1 d)) d := by
  unfold hnorm
  pointwise [val_main_v103, val_main_v102, val_main_v101, val_main_v100, val_main_v99, val_main_v98, val_main_v97, val_main_v96,
    val_main_v95, val_main_v94, val_main_v93, val_main_v92, val_main_v91, val_main_v90, val_main_v89,
    val_main_cst_7, val_main_cst_8, val_main_cst_9]

/-- A normed head, as columns of a row of heads. -/
theorem head_eq {n : ℕ} (hn : 64 ∣ n) (Y : Fin n → EReal) (g y : Fin 64 → EReal) (d : Fin 64) (J : Fin n)
    (hy : ∀ e : Fin 64, y e = Y ⟨64 * (J / 64) + e, by omega⟩) (hd : d = ⟨J % 64, by omega⟩) : hnorm y g d = headAt hn Y g J := by
  subst hd
  rw [funext hy]
  rfl

/-- One axis of 32 lanes turned: a pair is its even mix with the cosine and the sine. -/
def pair (x : Fin 32 → EReal) (c s : Fin 16 → EReal) (d : Fin 32) : EReal :=
  if h : (d : ℕ) < 16 then x ⟨d, by omega⟩ * c ⟨d, h⟩ - x ⟨16 + d, by omega⟩ * s ⟨d, h⟩
  else x ⟨d - 16, by omega⟩ * s ⟨d - 16, by omega⟩ + x ⟨16 + (d - 16), by omega⟩ * c ⟨d - 16, by omega⟩

section
variable (h : Fin 16) (d : Fin 32)
theorem q63_at : val_main_v63 (F := Ideal) H M G W gq C S (ix4 b n h d)
    = pair (fun e => val_main_v39 (F := Ideal) H M G W gq (ix4 b n h ⟨e, by omega⟩)) (fun a => C (ix3 n 0 a)) (fun a => S (ix3 n 0 a)) d := by
  unfold pair
  pointwise [val_main_v63, val_main_v62, val_main_v61, val_main_v60, val_main_v59, val_main_v58, val_main_v57, val_main_v56,
    val_main_v55, val_main_v54, val_main_v53, val_main_v52, val_main_v51, val_main_v50, val_main_v49, val_main_v48, val_main_v47,
    val_main_v46, val_main_v45, val_main_v44, val_main_v43, val_main_v42, val_main_v41, val_main_v40]
theorem q87_at : val_main_v87 (F := Ideal) H M G W gq C S (ix4 b n h d)
    = pair (fun e => val_main_v39 (F := Ideal) H M G W gq (ix4 b n h ⟨32 + e, by omega⟩)) (fun a => C (ix3 n 1 a)) (fun a => S (ix3 n 1 a)) d := by
  unfold pair
  pointwise [val_main_v87, val_main_v86, val_main_v85, val_main_v84, val_main_v83, val_main_v82, val_main_v81, val_main_v80,
    val_main_v79, val_main_v78, val_main_v77, val_main_v76, val_main_v75, val_main_v74, val_main_v73, val_main_v72, val_main_v71,
    val_main_v70, val_main_v69, val_main_v68, val_main_v67, val_main_v66, val_main_v65, val_main_v64]
end
section
variable (h : Fin 4) (d : Fin 32)
theorem k127_at : val_main_v127 (F := Ideal) H M G W gk C S (ix4 b n h d)
    = pair (fun e => val_main_v103 (F := Ideal) H M G W gk (ix4 b n h ⟨e, by omega⟩)) (fun a => C (ix3 n 0 a)) (fun a => S (ix3 n 0 a)) d := by
  unfold pair
  pointwise [val_main_v127, val_main_v126, val_main_v125, val_main_v124, val_main_v123, val_main_v122, val_main_v121, val_main_v120,
    val_main_v119, val_main_v118, val_main_v117, val_main_v116, val_main_v115, val_main_v114, val_main_v113, val_main_v112, val_main_v111,
    val_main_v110, val_main_v109, val_main_v108, val_main_v107, val_main_v106, val_main_v105, val_main_v104]
theorem k151_at : val_main_v151 (F := Ideal) H M G W gk C S (ix4 b n h d)
    = pair (fun e => val_main_v103 (F := Ideal) H M G W gk (ix4 b n h ⟨32 + e, by omega⟩)) (fun a => C (ix3 n 1 a)) (fun a => S (ix3 n 1 a)) d := by
  unfold pair
  pointwise [val_main_v151, val_main_v150, val_main_v149, val_main_v148, val_main_v147, val_main_v146, val_main_v145, val_main_v144,
    val_main_v143, val_main_v142, val_main_v141, val_main_v140, val_main_v139, val_main_v138, val_main_v137, val_main_v136, val_main_v135,
    val_main_v134, val_main_v133, val_main_v132, val_main_v131, val_main_v130, val_main_v129, val_main_v128]
end

theorem q88_at (h : Fin 16) (d : Fin 64) : val_main_v88 (F := Ideal) H M G W gq C S (ix4 b n h d)
    = if hd : (d : ℕ) < 32 then val_main_v63 (F := Ideal) H M G W gq C S (ix4 b n h ⟨d, hd⟩)
      else val_main_v87 (F := Ideal) H M G W gq C S (ix4 b n h ⟨d - 32, by omega⟩) := by
  pointwise [val_main_v88]
theorem k152_at (h : Fin 4) (d : Fin 64) : val_main_v152 (F := Ideal) H M G W gk C S (ix4 b n h d)
    = if hd : (d : ℕ) < 32 then val_main_v127 (F := Ideal) H M G W gk C S (ix4 b n h ⟨d, hd⟩)
      else val_main_v151 (F := Ideal) H M G W gk C S (ix4 b n h ⟨d - 32, by omega⟩) := by
  pointwise [val_main_v152]

/-- A head turned axis by axis, as a column of a row of heads. -/
theorem turn_eq {n : ℕ} (hn : 64 ∣ n) (N : Fin n → EReal) (c s : Fin 2 → Fin 16 → EReal) (x : Fin 64 → EReal) (d : Fin 64) (J : Fin n)
    (hx : ∀ e : Fin 64, x e = N ⟨64 * (J / 64) + e, by omega⟩) (hd : (d : ℕ) = J % 64) :
    (if h : (d : ℕ) < 32 then pair (fun e => x ⟨e, by omega⟩) (c 0) (s 0) ⟨d, h⟩
      else pair (fun e => x ⟨32 + e, by omega⟩) (c 1) (s 1) ⟨d - 32, by omega⟩) = turnAt hn N c s J := by
  have key : ∀ (e : Fin 64) (f : Fin 64) (k : Fin 2) (a : Fin 16), 32 * (k : ℕ) + a + (if (d : ℕ) % 32 < 16 then 0 else 16) = d →
      (e : ℕ) = d → (f : ℕ) = partner d → turnAt hn N c s J = x e * c k a + x f * (if (d : ℕ) % 32 < 16 then - s k a else s k a) := by
    intro e f k a h he hf
    unfold turnAt signed
    rw [hx, hx]
    have hk : (⟨(J : ℕ) / 32 % 2, by omega⟩ : Fin 2) = k := Fin.ext (by simp only []; split at h <;> omega)
    have ha : (⟨(J : ℕ) % 16, by omega⟩ : Fin 16) = a := Fin.ext (by simp only []; split at h <;> omega)
    have hJ : (⟨64 * (J / 64) + e, by omega⟩ : Fin n) = J := Fin.ext (by simp only []; omega)
    have hP : (⟨64 * (J / 64) + f, by omega⟩ : Fin n) = ⟨partner J, partner_lt hn J.isLt⟩ := Fin.ext (by
      simp only [hf]
      unfold partner
      split <;> split <;> omega)
    rw [hk, ha, hJ, hP]
    congr 2
    exact if_congr (by omega) rfl rfl
  unfold pair
  by_cases h1 : (d : ℕ) < 32
  · rw [dif_pos h1]
    by_cases h2 : (d : ℕ) < 16
    · rw [dif_pos h2, key ⟨d, by omega⟩ ⟨16 + d, by omega⟩ 0 ⟨d, h2⟩ (by rw [if_pos (by omega)]; show 32 * 0 + (d : ℕ) + 0 = d; omega) rfl (by unfold partner; simp only []; split <;> omega),
        if_pos (by omega), sub_eq_add_neg, mul_neg]
    · rw [dif_neg h2, key ⟨16 + (d - 16), by omega⟩ ⟨d - 16, by omega⟩ 0 ⟨d - 16, by omega⟩ (by rw [if_neg (by omega)]; show 32 * 0 + ((d : ℕ) - 16) + 16 = d; omega) (by simp only []; omega)
        (by unfold partner; simp only []; split <;> omega), if_neg (by omega), add_comm]
  · rw [dif_neg h1]
    by_cases h2 : (d : ℕ) - 32 < 16
    · rw [dif_pos h2, key ⟨32 + (d - 32), by omega⟩ ⟨32 + (16 + (d - 32)), by omega⟩ 1 ⟨d - 32, h2⟩ (by rw [if_pos (by omega)]; show 32 * 1 + ((d : ℕ) - 32) + 0 = d; omega) (by simp only []; omega)
        (by unfold partner; simp only []; split <;> omega), if_pos (by omega), sub_eq_add_neg, mul_neg]
    · rw [dif_neg h2, key ⟨32 + (16 + (d - 32 - 16)), by omega⟩ ⟨32 + (d - 32 - 16), by omega⟩ 1 ⟨d - 32 - 16, by omega⟩ (by rw [if_neg (by omega)]; show 32 * 1 + ((d : ℕ) - 32 - 16) + 16 = d; omega)
        (by simp only []; omega) (by unfold partner; simp only []; split <;> omega), if_neg (by omega), add_comm]

theorem queries_eq : val_main_v156 (F := Ideal) H M G W gq C S = queries H M G W C S gq := by
  funext i
  idx_vars i
  have h1 : (i2 : ℕ) < 1024 := i2.isLt
  have h : val_main_v156 (F := Ideal) H M G W gq C S (ix3 i0 i1 i2)
      = val_main_v88 (F := Ideal) H M G W gq C S (ix4 i0 i1 ⟨i2 / 64, by omega⟩ ⟨i2 % 64, by omega⟩) := by
    pointwise [val_main_v156, val_main_v155]
  rw [h, q88_at]
  simp only [q63_at, q87_at]
  refine turn_eq (by decide) (headAt (by decide) (tok H M G W i0 i1) (qgain gq)) (fun e a => C (ix3 i1 e a)) (fun e a => S (ix3 i1 e a))
    (fun e => val_main_v39 (F := Ideal) H M G W gq (ix4 i0 i1 ⟨i2 / 64, by omega⟩ e)) ⟨i2 % 64, by omega⟩
    ⟨i2, by omega⟩ (fun e => ?_) rfl
  rw [q4_at, funext fun e => tok_at H M G W i0 i1 _]
  refine head_eq _ _ _ _ _ _ (fun e' => congrArg _ (Fin.ext ?_)) (Fin.ext ?_) <;> simp only [] <;> omega

theorem keys_eq : val_main_v159 (F := Ideal) H M G W gk C S = keys H M G W C S gk := by
  funext i
  idx_vars i
  have h1 : (i2 : ℕ) < 512 := i2.isLt
  have h : val_main_v159 (F := Ideal) H M G W gk C S (ix3 i0 i1 i2)
      = val_main_v152 (F := Ideal) H M G W gk C S (ix4 i0 i1 ⟨i2 / 128, by omega⟩ ⟨i2 % 64, by omega⟩) := by
    have h' : val_main_v159 (F := Ideal) H M G W gk C S (ix3 i0 i1 i2)
        = if hd : (i2 : ℕ) % 128 < 64 then val_main_v152 (F := Ideal) H M G W gk C S (ix4 i0 i1 ⟨i2 / 128, by omega⟩ ⟨i2 % 128, hd⟩)
          else val_main_v152 (F := Ideal) H M G W gk C S (ix4 i0 i1 ⟨i2 / 128, by omega⟩ ⟨i2 % 128 - 64, by omega⟩) := by
      pointwise [val_main_v159, val_main_v158, val_main_v157]
    rw [h']
    split <;> congr 2 <;> refine Fin.ext ?_ <;> simp only [] <;> omega
  rw [h, k152_at]
  simp only [k127_at, k151_at]
  refine turn_eq (by decide) (headAt (by decide) (tok H M G W i0 i1) (fun d => gk (ix1 d))) (fun e a => C (ix3 i1 e a))
    (fun e a => S (ix3 i1 e a)) (fun e => val_main_v103 (F := Ideal) H M G W gk (ix4 i0 i1 ⟨i2 / 128, by omega⟩ e)) ⟨i2 % 64, by omega⟩
    ⟨1024 + 64 * (i2 / 128) + i2 % 64, by omega⟩ (fun e => ?_) (by simp only []; omega)
  rw [k4_at, funext fun e => tok_at H M G W i0 i1 _]
  refine head_eq _ _ _ _ _ _ (fun e' => congrArg _ (Fin.ext ?_)) (Fin.ext ?_) <;> simp only [] <;> omega

theorem values_eq : val_main_v163 (F := Ideal) H M G W = values H M G W := by
  funext i
  idx_vars i
  have h1 : (i2 : ℕ) < 512 := i2.isLt
  have h : val_main_v163 (F := Ideal) H M G W (ix3 i0 i1 i2) = if hd : (i2 : ℕ) % 128 < 64
      then val_main_v22 (F := Ideal) H M G W (ix3 i0 i1 ⟨1280 + (i2 / 128 * 64 + i2 % 128), by omega⟩) else Ideal.ofBits .f32 0x3F800000#32 := by
    pointwise [val_main_v163, val_main_v162, val_main_v161, val_main_v160, val_main_v154, val_main_v153, val_main_cst_10]
  rw [h]
  show _ = if (i2 : ℕ) % 128 < 64 then tok H M G W i0 i1 ⟨1280 + 64 * (i2 / 128) + i2 % 64, by omega⟩ else _
  split
  · rw [tok_at]
    congr 1
    refine Fin.ext ?_
    simp only []
    omega
  · rfl

end Cert.Reference6Ideal.Read
end
-- ==== Proof.SwaProjClaim.lean ====
module

public import proofs.«01_k».proof.Defs
public import proofs.«01_k».proof.Proof.AttnClaim
public import proofs.«01_k».proof.Proof.SwaProjFinal
public import proofs.«01_k».proof.Proof.SwaProjReference
public import proofs.«01_k».proof.Proof.Gen.Pre_finite_proj
public import proofs.«01_k».proof.Proof.Gen.Kernel6.Frame
public import Idealize.ShloMosaic.Lib.Claim

/-! The claims about the windowed layer's projection call. -/

@[expose] public section
set_option maxRecDepth 16384
noncomputable section
open Idealize.ShloMosaic Idealize.SL.Sem
namespace Cert.Proof

theorem frame_swaproj : Cert.quiescent_Kernel6 := fun m g _ => Cert.Kernel6.Gen.frame m g
theorem frame_swaproj_ideal : Cert.quiescent_Kernel6Ideal := fun m g _ => Cert.Kernel6Ideal.Gen.frame m g
theorem frame_swaproj_reference : Cert.quiescent_Reference6Ideal := by
  intro m g _
  exact (θ_run Cert.Reference6Ideal.defs _ _).mono
    (fun r h => ⟨fun c => (h c).2.2.2, sem_eq_zero_of_no_sems (by decide) r.2⟩) (Cert.Reference6Ideal.Value.run m g)
theorem frame_swaproj_ideal_pre : Cert.quiescent_Kernel6Ideal_pre_finite_proj := fun m g _ => frame_swaproj_ideal m g trivial
theorem frame_swaproj_reference_pre : Cert.quiescent_Reference6Ideal_pre_finite_proj := fun m g _ => frame_swaproj_reference m g trivial

section
open Cert.Pre_finite_proj Cert.Pre_finite_proj.Gen
variable (H : FVec Ideal S16x2048x1024 .f32) (M : FVec Ideal S16x6x1024 .f32) (G : FVec Ideal S1024 .f32)
    (W : FVec Ideal S1024x1536 .bf16) (gq gk : FVec Ideal S64 .f32) (C S : FVec Ideal S2048x2x16 .f32)

theorem test_mod (b : Fin 16) (r : Fin 2) (k : Fin 1024) : (fn (F := Ideal) H M G W gq gk C S).1 (ix3 b r k)
    = Ideal.cmp .olt (max (M (ix3 b ⟨r, by omega⟩ k)) (-M (ix3 b ⟨r, by omega⟩ k))) (Ideal.ofBits .f32 0x7F800000#32) := by
  pointwise [fn]
  rfl
theorem test_gain (k : Fin 1024) : (fn (F := Ideal) H M G W gq gk C S).2.1 (ix1 k)
    = Ideal.cmp .olt (max (G (ix1 k)) (-G (ix1 k))) (Ideal.ofBits .f32 0x7F800000#32) := by
  pointwise [fn]
  rfl
theorem test_weight (k : Fin 1024) (c : Fin 1536) : (fn (F := Ideal) H M G W gq gk C S).2.2 (ix2 k c)
    = Ideal.cmp .olt (max (W (ix2 k c)) (-W (ix2 k c))) (Ideal.ofBits .f32 0x7F800000#32) := by
  pointwise [fn]
  rfl

variable {H M G W gq gk C S}

/-- What the precondition says of the arguments. -/
theorem real_of_tests (h : (fn (F := Ideal) H M G W gq gk C S).1 = (fun _ => 1#1) ∧ (fn (F := Ideal) H M G W gq gk C S).2.1 = (fun _ => 1#1)
    ∧ (fn (F := Ideal) H M G W gq gk C S).2.2 = (fun _ => 1#1)) : Cert.Kernel6Ideal.Value.RealProj M G W := by
  obtain ⟨hM, hG, hW⟩ := h
  exact
    { shift := fun b k => real_of_test ((test_mod H M G W gq gk C S b 0 k).symm.trans (congrFun hM _))
      scale := fun b k => real_of_test ((test_mod H M G W gq gk C S b 1 k).symm.trans (congrFun hM _))
      gain := fun k => real_of_test ((test_gain H M G W gq gk C S k).symm.trans (congrFun hG _))
      weight := fun k c => real_of_test ((test_weight H M G W gq gk C S k c).symm.trans (congrFun hW _)) }
end

theorem preserves_swaproj : Cert.preserves_Kernel6_Kernel6Ideal := trivial

theorem algebraic_swaproj : Cert.algebraic_Kernel6Ideal_Reference6Ideal_pre_finite_proj := by
  pair_intro
  · run_from Cert.Kernel6Ideal.Value.run_blocks m g
  · run_from Cert.Reference6Ideal.Value.run m' g'
    all_goals
      obtain ⟨h0, h1, h2, h3, h4, h5, h6, h7⟩ := hagree c
      have R := real_of_tests (hpre c)
    · rw [Cert.Reference6Ideal.Read.val_main_v156_eq, h0, h1, h2, h3, h4, h6, h7]
      exact (Cert.Reference6Ideal.Read.queries_eq _ _ _ _ _ _ _).trans (Cert.Kernel6Ideal.Value.final9 m c R).symm
    · rw [Cert.Reference6Ideal.Read.val_main_v159_eq, h0, h1, h2, h3, h5, h6, h7]
      exact (Cert.Reference6Ideal.Read.keys_eq _ _ _ _ _ _ _).trans (Cert.Kernel6Ideal.Value.final10 m c R).symm
    · rw [Cert.Reference6Ideal.Read.val_main_v163_eq]
      exact (Cert.Reference6Ideal.Read.values_eq _ _ _ _).trans (Cert.Kernel6Ideal.Value.final11 m c).symm

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite_scores
public import proofs.«01_k».proof.Proof.Gen.Kernel6Ideal.Value
public import proofs.«01_k».proof.Proof.Gen.Reference6Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite_proj
public import proofs.«01_k».proof.Proof.AttnClaim
public import proofs.«01_k».proof.Proof.TailClaim
public import proofs.«01_k».proof.Proof.FfnClaim
public import proofs.«01_k».proof.Proof.ProjClaim
public import proofs.«01_k».proof.Proof.SwaClaim
public import proofs.«01_k».proof.Proof.SwaProjClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_scores.Gen.facts, Cert.Pre_swa_layout.Gen.facts, Cert.Pre_finite_proj.Gen.facts,
  frame_attn, frame_attn_ideal, frame_attn_ideal_pre, frame_attn_reference, frame_attn_reference_pre,
  frame_tail, frame_tail_ideal, frame_tail_reference,
  frame_ffn, frame_ffn_ideal, frame_ffn_reference, frame_proj, frame_proj_ideal, frame_proj_reference,
  frame_swa, frame_swa_ideal, frame_swa_ideal_pre, frame_swa_reference, frame_swa_reference_pre,
  frame_swaproj, frame_swaproj_ideal, frame_swaproj_ideal_pre, frame_swaproj_reference, frame_swaproj_reference_pre, preserves_attn, algebraic_attn, preserves_tail, algebraic_tail,
  preserves_ffn, algebraic_ffn, preserves_proj, algebraic_proj, preserves_swa, algebraic_swa, preserves_swaproj, algebraic_swaproj⟩

end Cert.Proof

end
